-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))) = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdIdeal_up_finite [hPre_up_finite : Cert.Pre_up_finite.Facts] (m : (ℓ : Loc Cert.UpBwdIdeal.nD Cert.UpBwdIdeal.τ Cert.UpBwdIdeal.sig) → Buf (Elt Ideal) ℓ) : Prop :=
  ∀ c : Dev Cert.UpBwdIdeal.nD,
    (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6)) (m ((c.tc : Thread Cert.UpBwdIdeal.nD Cert.UpBwdIdeal.τ).loc Cert.UpBwdIdeal.main_arg7)) (m ((c.tc : Thread Cert.UpBwdIdeal.nD Cert.UpBwdIdeal.τ).loc Cert.UpBwdIdeal.main_arg8)) (m ((c.tc : Thread Cert.UpBwdIdeal.nD Cert.UpBwdIdeal.τ).loc Cert.UpBwdIdeal.main_arg9))) = (fun _ => 1#1)

def Pre_UpBwdRefIdeal (m : (ℓ : Loc Cert.UpBwdRefIdeal.nD Cert.UpBwdRefIdeal.τ Cert.UpBwdRefIdeal.sig) → Buf (Elt Ideal) ℓ) : Prop :=
  True

def Pre_UpBwdRefIdeal_up_finite [hPre_up_finite : Cert.Pre_up_finite.Facts] (m : (ℓ : Loc Cert.UpBwdRefIdeal.nD Cert.UpBwdRefIdeal.τ Cert.UpBwdRefIdeal.sig) → Buf (Elt Ideal) ℓ) : Prop :=
  ∀ c : Dev Cert.UpBwdRefIdeal.nD,
    (Cert.Pre_up_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6)) (m ((c.tc : Thread Cert.UpBwdRefIdeal.nD Cert.UpBwdRefIdeal.τ).loc Cert.UpBwdRefIdeal.main_arg7)) (m ((c.tc : Thread Cert.UpBwdRefIdeal.nD Cert.UpBwdRefIdeal.τ).loc Cert.UpBwdRefIdeal.main_arg8)) (m ((c.tc : Thread Cert.UpBwdRefIdeal.nD Cert.UpBwdRefIdeal.τ).loc Cert.UpBwdRefIdeal.main_arg9))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_finite [hPre_tail_finite : Cert.Pre_tail_finite.Facts] (m : (ℓ : Loc Cert.TailIdeal.nD Cert.TailIdeal.τ Cert.TailIdeal.sig) → Buf (Elt Ideal) ℓ) : Prop :=
  ∀ c : Dev Cert.TailIdeal.nD,
    (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_tail_finite [hPre_tail_finite : Cert.Pre_tail_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5))) = (fun _ => 1#1)

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_ffn_finite [hPre_ffn_finite : Cert.Pre_ffn_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_ffn_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_ffn_finite [hPre_ffn_finite : Cert.Pre_ffn_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_ffn_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))) = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6)
      ∧ r.2.mem ((c.tc : Thread Cert.UpBwd.nD Cert.UpBwd.τ).loc Cert.UpBwd.main_arg7) = m ((c.tc : Thread Cert.UpBwd.nD Cert.UpBwd.τ).loc Cert.UpBwd.main_arg7)
      ∧ r.2.mem ((c.tc : Thread Cert.UpBwd.nD Cert.UpBwd.τ).loc Cert.UpBwd.main_arg8) = m ((c.tc : Thread Cert.UpBwd.nD Cert.UpBwd.τ).loc Cert.UpBwd.main_arg8)
      ∧ r.2.mem ((c.tc : Thread Cert.UpBwd.nD Cert.UpBwd.τ).loc Cert.UpBwd.main_arg9) = m ((c.tc : Thread Cert.UpBwd.nD Cert.UpBwd.τ).loc Cert.UpBwd.main_arg9))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6)
      ∧ r.2.mem ((c.tc : Thread Cert.UpBwdIdeal.nD Cert.UpBwdIdeal.τ).loc Cert.UpBwdIdeal.main_arg7) = m ((c.tc : Thread Cert.UpBwdIdeal.nD Cert.UpBwdIdeal.τ).loc Cert.UpBwdIdeal.main_arg7)
      ∧ r.2.mem ((c.tc : Thread Cert.UpBwdIdeal.nD Cert.UpBwdIdeal.τ).loc Cert.UpBwdIdeal.main_arg8) = m ((c.tc : Thread Cert.UpBwdIdeal.nD Cert.UpBwdIdeal.τ).loc Cert.UpBwdIdeal.main_arg8)
      ∧ r.2.mem ((c.tc : Thread Cert.UpBwdIdeal.nD Cert.UpBwdIdeal.τ).loc Cert.UpBwdIdeal.main_arg9) = m ((c.tc : Thread Cert.UpBwdIdeal.nD Cert.UpBwdIdeal.τ).loc Cert.UpBwdIdeal.main_arg9))
      ∧ r.2.sem = fun _ => 0)

def quiescent_UpBwdIdeal_pre_up_finite [hUpBwdIdeal : Cert.UpBwdIdeal.Facts] [hPre_up_finite : Cert.Pre_up_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal_up_finite m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6)
      ∧ r.2.mem ((c.tc : Thread Cert.UpBwdIdeal.nD Cert.UpBwdIdeal.τ).loc Cert.UpBwdIdeal.main_arg7) = m ((c.tc : Thread Cert.UpBwdIdeal.nD Cert.UpBwdIdeal.τ).loc Cert.UpBwdIdeal.main_arg7)
      ∧ r.2.mem ((c.tc : Thread Cert.UpBwdIdeal.nD Cert.UpBwdIdeal.τ).loc Cert.UpBwdIdeal.main_arg8) = m ((c.tc : Thread Cert.UpBwdIdeal.nD Cert.UpBwdIdeal.τ).loc Cert.UpBwdIdeal.main_arg8)
      ∧ r.2.mem ((c.tc : Thread Cert.UpBwdIdeal.nD Cert.UpBwdIdeal.τ).loc Cert.UpBwdIdeal.main_arg9) = m ((c.tc : Thread Cert.UpBwdIdeal.nD Cert.UpBwdIdeal.τ).loc Cert.UpBwdIdeal.main_arg9))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6)
      ∧ r.2.mem ((c.tc : Thread Cert.UpBwdRefIdeal.nD Cert.UpBwdRefIdeal.τ).loc Cert.UpBwdRefIdeal.main_arg7) = m ((c.tc : Thread Cert.UpBwdRefIdeal.nD Cert.UpBwdRefIdeal.τ).loc Cert.UpBwdRefIdeal.main_arg7)
      ∧ r.2.mem ((c.tc : Thread Cert.UpBwdRefIdeal.nD Cert.UpBwdRefIdeal.τ).loc Cert.UpBwdRefIdeal.main_arg8) = m ((c.tc : Thread Cert.UpBwdRefIdeal.nD Cert.UpBwdRefIdeal.τ).loc Cert.UpBwdRefIdeal.main_arg8)
      ∧ r.2.mem ((c.tc : Thread Cert.UpBwdRefIdeal.nD Cert.UpBwdRefIdeal.τ).loc Cert.UpBwdRefIdeal.main_arg9) = m ((c.tc : Thread Cert.UpBwdRefIdeal.nD Cert.UpBwdRefIdeal.τ).loc Cert.UpBwdRefIdeal.main_arg9))
      ∧ r.2.sem = fun _ => 0)

def quiescent_UpBwdRefIdeal_pre_up_finite [hUpBwdRefIdeal : Cert.UpBwdRefIdeal.Facts] [hPre_up_finite : Cert.Pre_up_finite.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal_up_finite m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6)
      ∧ r.2.mem ((c.tc : Thread Cert.UpBwdRefIdeal.nD Cert.UpBwdRefIdeal.τ).loc Cert.UpBwdRefIdeal.main_arg7) = m ((c.tc : Thread Cert.UpBwdRefIdeal.nD Cert.UpBwdRefIdeal.τ).loc Cert.UpBwdRefIdeal.main_arg7)
      ∧ r.2.mem ((c.tc : Thread Cert.UpBwdRefIdeal.nD Cert.UpBwdRefIdeal.τ).loc Cert.UpBwdRefIdeal.main_arg8) = m ((c.tc : Thread Cert.UpBwdRefIdeal.nD Cert.UpBwdRefIdeal.τ).loc Cert.UpBwdRefIdeal.main_arg8)
      ∧ r.2.mem ((c.tc : Thread Cert.UpBwdRefIdeal.nD Cert.UpBwdRefIdeal.τ).loc Cert.UpBwdRefIdeal.main_arg9) = m ((c.tc : Thread Cert.UpBwdRefIdeal.nD Cert.UpBwdRefIdeal.τ).loc Cert.UpBwdRefIdeal.main_arg9))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailIdeal_pre_tail_finite [hTailIdeal : Cert.TailIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_TailRefIdeal_pre_tail_finite [hTailRefIdeal : Cert.TailRefIdeal.Facts] [hPre_tail_finite : Cert.Pre_tail_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_tail_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdIdeal_pre_ffn_finite [hFfnFwdIdeal : Cert.FfnFwdIdeal.Facts] [hPre_ffn_finite : Cert.Pre_ffn_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_ffn_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnFwdRefIdeal_pre_ffn_finite [hFfnFwdRefIdeal : Cert.FfnFwdRefIdeal.Facts] [hPre_ffn_finite : Cert.Pre_ffn_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_ffn_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v2_0)) (v1 : (c : Dev Cert.InBwdIdeal.nD) → Buf (Elt Ideal) ((c.tc : Thread Cert.InBwdIdeal.nD Cert.InBwdIdeal.τ).loc Cert.InBwdIdeal.main_v2_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v2_0) = v0 c
          ∧ r.2.mem ((c.tc : Thread Cert.InBwdIdeal.nD Cert.InBwdIdeal.τ).loc Cert.InBwdIdeal.main_v2_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v52) = v0 c
          ∧ r.2.mem ((c.tc : Thread Cert.InBwdRefIdeal.nD Cert.InBwdRefIdeal.τ).loc Cert.InBwdRefIdeal.main_v54) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5))

def preserves_UpBwd_UpBwdIdeal : Prop :=
  True

def algebraic_UpBwdIdeal_UpBwdRefIdeal_pre_up_finite [hUpBwdIdeal : Cert.UpBwdIdeal.Facts] [hUpBwdRefIdeal : Cert.UpBwdRefIdeal.Facts] [hPre_up_finite : Cert.Pre_up_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal_up_finite m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)
      ∧ m' ((c.tc : Thread Cert.UpBwdRefIdeal.nD Cert.UpBwdRefIdeal.τ).loc Cert.UpBwdRefIdeal.main_arg7) = m ((c.tc : Thread Cert.UpBwdIdeal.nD Cert.UpBwdIdeal.τ).loc Cert.UpBwdIdeal.main_arg7)
      ∧ m' ((c.tc : Thread Cert.UpBwdRefIdeal.nD Cert.UpBwdRefIdeal.τ).loc Cert.UpBwdRefIdeal.main_arg8) = m ((c.tc : Thread Cert.UpBwdIdeal.nD Cert.UpBwdIdeal.τ).loc Cert.UpBwdIdeal.main_arg8)
      ∧ m' ((c.tc : Thread Cert.UpBwdRefIdeal.nD Cert.UpBwdRefIdeal.τ).loc Cert.UpBwdRefIdeal.main_arg9) = m ((c.tc : Thread Cert.UpBwdIdeal.nD Cert.UpBwdIdeal.τ).loc Cert.UpBwdIdeal.main_arg9)) →
    ∃ (v0 : (c : Dev Cert.UpBwdIdeal.nD) → Buf (Elt Ideal) ((c.tc : Thread Cert.UpBwdIdeal.nD Cert.UpBwdIdeal.τ).loc Cert.UpBwdIdeal.main_v23_0)) (v1 : (c : Dev Cert.UpBwdIdeal.nD) → Buf (Elt Ideal) ((c.tc : Thread Cert.UpBwdIdeal.nD Cert.UpBwdIdeal.τ).loc Cert.UpBwdIdeal.main_v23_1)) (v2 : (c : Dev Cert.UpBwdIdeal.nD) → Buf (Elt Ideal) ((c.tc : Thread Cert.UpBwdIdeal.nD Cert.UpBwdIdeal.τ).loc Cert.UpBwdIdeal.main_v23_2)) (v3 : (c : Dev Cert.UpBwdIdeal.nD) → Buf (Elt Ideal) ((c.tc : Thread Cert.UpBwdIdeal.nD Cert.UpBwdIdeal.τ).loc Cert.UpBwdIdeal.main_v23_3)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v23_0) = v0 c
          ∧ r.2.mem ((c.tc : Thread Cert.UpBwdIdeal.nD Cert.UpBwdIdeal.τ).loc Cert.UpBwdIdeal.main_v23_1) = v1 c
          ∧ r.2.mem ((c.tc : Thread Cert.UpBwdIdeal.nD Cert.UpBwdIdeal.τ).loc Cert.UpBwdIdeal.main_v23_2) = v2 c
          ∧ r.2.mem ((c.tc : Thread Cert.UpBwdIdeal.nD Cert.UpBwdIdeal.τ).loc Cert.UpBwdIdeal.main_v23_3) = v3 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6)
          ∧ r.2.mem ((c.tc : Thread Cert.UpBwdIdeal.nD Cert.UpBwdIdeal.τ).loc Cert.UpBwdIdeal.main_arg7) = m ((c.tc : Thread Cert.UpBwdIdeal.nD Cert.UpBwdIdeal.τ).loc Cert.UpBwdIdeal.main_arg7)
          ∧ r.2.mem ((c.tc : Thread Cert.UpBwdIdeal.nD Cert.UpBwdIdeal.τ).loc Cert.UpBwdIdeal.main_arg8) = m ((c.tc : Thread Cert.UpBwdIdeal.nD Cert.UpBwdIdeal.τ).loc Cert.UpBwdIdeal.main_arg8)
          ∧ r.2.mem ((c.tc : Thread Cert.UpBwdIdeal.nD Cert.UpBwdIdeal.τ).loc Cert.UpBwdIdeal.main_arg9) = m ((c.tc : Thread Cert.UpBwdIdeal.nD Cert.UpBwdIdeal.τ).loc Cert.UpBwdIdeal.main_arg9))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v71) = v0 c
          ∧ r.2.mem ((c.tc : Thread Cert.UpBwdRefIdeal.nD Cert.UpBwdRefIdeal.τ).loc Cert.UpBwdRefIdeal.main_v102) = v1 c
          ∧ r.2.mem ((c.tc : Thread Cert.UpBwdRefIdeal.nD Cert.UpBwdRefIdeal.τ).loc Cert.UpBwdRefIdeal.main_v99) = v2 c
          ∧ r.2.mem ((c.tc : Thread Cert.UpBwdRefIdeal.nD Cert.UpBwdRefIdeal.τ).loc Cert.UpBwdRefIdeal.main_v101) = v3 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6)
          ∧ r.2.mem ((c.tc : Thread Cert.UpBwdRefIdeal.nD Cert.UpBwdRefIdeal.τ).loc Cert.UpBwdRefIdeal.main_arg7) = m' ((c.tc : Thread Cert.UpBwdRefIdeal.nD Cert.UpBwdRefIdeal.τ).loc Cert.UpBwdRefIdeal.main_arg7)
          ∧ r.2.mem ((c.tc : Thread Cert.UpBwdRefIdeal.nD Cert.UpBwdRefIdeal.τ).loc Cert.UpBwdRefIdeal.main_arg8) = m' ((c.tc : Thread Cert.UpBwdRefIdeal.nD Cert.UpBwdRefIdeal.τ).loc Cert.UpBwdRefIdeal.main_arg8)
          ∧ r.2.mem ((c.tc : Thread Cert.UpBwdRefIdeal.nD Cert.UpBwdRefIdeal.τ).loc Cert.UpBwdRefIdeal.main_arg9) = m' ((c.tc : Thread Cert.UpBwdRefIdeal.nD Cert.UpBwdRefIdeal.τ).loc Cert.UpBwdRefIdeal.main_arg9))

def preserves_Tail_TailIdeal : Prop :=
  True

def algebraic_TailIdeal_TailRefIdeal_pre_tail_finite [hTailIdeal : Cert.TailIdeal.Facts] [hTailRefIdeal : Cert.TailRefIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_tail_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v2_0)) (v1 : (c : Dev Cert.TailIdeal.nD) → Buf (Elt Ideal) ((c.tc : Thread Cert.TailIdeal.nD Cert.TailIdeal.τ).loc Cert.TailIdeal.main_v2_1)) (v2 : (c : Dev Cert.TailIdeal.nD) → Buf (Elt Ideal) ((c.tc : Thread Cert.TailIdeal.nD Cert.TailIdeal.τ).loc Cert.TailIdeal.main_v2_2)) (v3 : (c : Dev Cert.TailIdeal.nD) → Buf (Elt Ideal) ((c.tc : Thread Cert.TailIdeal.nD Cert.TailIdeal.τ).loc Cert.TailIdeal.main_v2_3)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v2_0) = v0 c
          ∧ r.2.mem ((c.tc : Thread Cert.TailIdeal.nD Cert.TailIdeal.τ).loc Cert.TailIdeal.main_v2_1) = v1 c
          ∧ r.2.mem ((c.tc : Thread Cert.TailIdeal.nD Cert.TailIdeal.τ).loc Cert.TailIdeal.main_v2_2) = v2 c
          ∧ r.2.mem ((c.tc : Thread Cert.TailIdeal.nD Cert.TailIdeal.τ).loc Cert.TailIdeal.main_v2_3) = v3 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v60) = v0 c
          ∧ r.2.mem ((c.tc : Thread Cert.TailRefIdeal.nD Cert.TailRefIdeal.τ).loc Cert.TailRefIdeal.main_v33) = v1 c
          ∧ r.2.mem ((c.tc : Thread Cert.TailRefIdeal.nD Cert.TailRefIdeal.τ).loc Cert.TailRefIdeal.main_v61) = v2 c
          ∧ r.2.mem ((c.tc : Thread Cert.TailRefIdeal.nD Cert.TailRefIdeal.τ).loc Cert.TailRefIdeal.main_v59) = v3 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v2_0)) (v1 : (c : Dev Cert.WDownIdeal.nD) → Buf (Elt Ideal) ((c.tc : Thread Cert.WDownIdeal.nD Cert.WDownIdeal.τ).loc Cert.WDownIdeal.main_v2_1)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v2_0) = v0 c
          ∧ r.2.mem ((c.tc : Thread Cert.WDownIdeal.nD Cert.WDownIdeal.τ).loc Cert.WDownIdeal.main_v2_1) = v1 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v4) = v0 c
          ∧ r.2.mem ((c.tc : Thread Cert.WDownRefIdeal.nD Cert.WDownRefIdeal.τ).loc Cert.WDownRefIdeal.main_v5) = v1 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v4_0)) (v1 : (c : Dev Cert.WUpIdeal.nD) → Buf (Elt Ideal) ((c.tc : Thread Cert.WUpIdeal.nD Cert.WUpIdeal.τ).loc Cert.WUpIdeal.main_v4_1)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v4_0) = v0 c
          ∧ r.2.mem ((c.tc : Thread Cert.WUpIdeal.nD Cert.WUpIdeal.τ).loc Cert.WUpIdeal.main_v4_1) = v1 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v4) = v0 c
          ∧ r.2.mem ((c.tc : Thread Cert.WUpRefIdeal.nD Cert.WUpRefIdeal.τ).loc Cert.WUpRefIdeal.main_v5) = v1 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v2_0)) (v1 : (c : Dev Cert.WOutIdeal.nD) → Buf (Elt Ideal) ((c.tc : Thread Cert.WOutIdeal.nD Cert.WOutIdeal.τ).loc Cert.WOutIdeal.main_v2_1)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v2_0) = v0 c
          ∧ r.2.mem ((c.tc : Thread Cert.WOutIdeal.nD Cert.WOutIdeal.τ).loc Cert.WOutIdeal.main_v2_1) = v1 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v4) = v0 c
          ∧ r.2.mem ((c.tc : Thread Cert.WOutRefIdeal.nD Cert.WOutRefIdeal.τ).loc Cert.WOutRefIdeal.main_v5) = v1 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v2_0)) (v1 : (c : Dev Cert.WInIdeal.nD) → Buf (Elt Ideal) ((c.tc : Thread Cert.WInIdeal.nD Cert.WInIdeal.τ).loc Cert.WInIdeal.main_v2_1)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v2_0) = v0 c
          ∧ r.2.mem ((c.tc : Thread Cert.WInIdeal.nD Cert.WInIdeal.τ).loc Cert.WInIdeal.main_v2_1) = v1 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v4) = v0 c
          ∧ r.2.mem ((c.tc : Thread Cert.WInRefIdeal.nD Cert.WInRefIdeal.τ).loc Cert.WInRefIdeal.main_v5) = v1 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_FfnFwd_FfnFwdIdeal : Prop :=
  IdealRules.named_const.Statement Cert.FfnFwdIdeal.κ "gelu_c1" .f32 0x3D122279#32 ((80338380498831 / 2251799813685248 : ℝ) : EReal)

def algebraic_FfnFwdIdeal_FfnFwdRefIdeal_pre_ffn_finite [hFfnFwdIdeal : Cert.FfnFwdIdeal.Facts] [hFfnFwdRefIdeal : Cert.FfnFwdRefIdeal.Facts] [hPre_ffn_finite : Cert.Pre_ffn_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_ffn_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v45) = v0 c
          ∧ r.2.mem ((c.tc : Thread Cert.FfnFwdRefIdeal.nD Cert.FfnFwdRefIdeal.τ).loc Cert.FfnFwdRefIdeal.main_v50) = v1 c
          ∧ r.2.mem ((c.tc : Thread Cert.FfnFwdRefIdeal.nD Cert.FfnFwdRefIdeal.τ).loc Cert.FfnFwdRefIdeal.main_v51) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def Claim : Prop :=
  ∃ (hInBwd : Cert.InBwd.Facts) (hInBwdIdeal : Cert.InBwdIdeal.Facts) (hInBwdRefIdeal : Cert.InBwdRefIdeal.Facts) (hUpBwd : Cert.UpBwd.Facts) (hUpBwdIdeal : Cert.UpBwdIdeal.Facts) (hUpBwdRefIdeal : Cert.UpBwdRefIdeal.Facts) (hTail : Cert.Tail.Facts) (hTailIdeal : Cert.TailIdeal.Facts) (hTailRefIdeal : Cert.TailRefIdeal.Facts) (hWDown : Cert.WDown.Facts) (hWDownIdeal : Cert.WDownIdeal.Facts) (hWDownRefIdeal : Cert.WDownRefIdeal.Facts) (hWUp : Cert.WUp.Facts) (hWUpIdeal : Cert.WUpIdeal.Facts) (hWUpRefIdeal : Cert.WUpRefIdeal.Facts) (hWOut : Cert.WOut.Facts) (hWOutIdeal : Cert.WOutIdeal.Facts) (hWOutRefIdeal : Cert.WOutRefIdeal.Facts) (hWIn : Cert.WIn.Facts) (hWInIdeal : Cert.WInIdeal.Facts) (hWInRefIdeal : Cert.WInRefIdeal.Facts) (hFfnFwd : Cert.FfnFwd.Facts) (hFfnFwdIdeal : Cert.FfnFwdIdeal.Facts) (hFfnFwdRefIdeal : Cert.FfnFwdRefIdeal.Facts) (hAdam : Cert.Adam.Facts) (hAdamIdeal : Cert.AdamIdeal.Facts) (hAdamRefIdeal : Cert.AdamRefIdeal.Facts) (hPre_in_finite : Cert.Pre_in_finite.Facts) (hPre_up_finite : Cert.Pre_up_finite.Facts) (hPre_tail_finite : Cert.Pre_tail_finite.Facts) (hPre_ffn_finite : Cert.Pre_ffn_finite.Facts),
    quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_UpBwd (hUpBwd := hUpBwd)
    ∧ quiescent_UpBwdIdeal (hUpBwdIdeal := hUpBwdIdeal)
    ∧ quiescent_UpBwdIdeal_pre_up_finite (hUpBwdIdeal := hUpBwdIdeal) (hPre_up_finite := hPre_up_finite)
    ∧ quiescent_UpBwdRefIdeal (hUpBwdRefIdeal := hUpBwdRefIdeal)
    ∧ quiescent_UpBwdRefIdeal_pre_up_finite (hUpBwdRefIdeal := hUpBwdRefIdeal) (hPre_up_finite := hPre_up_finite)
    ∧ quiescent_Tail (hTail := hTail)
    ∧ quiescent_TailIdeal (hTailIdeal := hTailIdeal)
    ∧ quiescent_TailIdeal_pre_tail_finite (hTailIdeal := hTailIdeal) (hPre_tail_finite := hPre_tail_finite)
    ∧ quiescent_TailRefIdeal (hTailRefIdeal := hTailRefIdeal)
    ∧ quiescent_TailRefIdeal_pre_tail_finite (hTailRefIdeal := hTailRefIdeal) (hPre_tail_finite := hPre_tail_finite)
    ∧ quiescent_WDown (hWDown := hWDown)
    ∧ quiescent_WDownIdeal (hWDownIdeal := hWDownIdeal)
    ∧ quiescent_WDownRefIdeal (hWDownRefIdeal := hWDownRefIdeal)
    ∧ quiescent_WUp (hWUp := hWUp)
    ∧ quiescent_WUpIdeal (hWUpIdeal := hWUpIdeal)
    ∧ quiescent_WUpRefIdeal (hWUpRefIdeal := hWUpRefIdeal)
    ∧ quiescent_WOut (hWOut := hWOut)
    ∧ quiescent_WOutIdeal (hWOutIdeal := hWOutIdeal)
    ∧ quiescent_WOutRefIdeal (hWOutRefIdeal := hWOutRefIdeal)
    ∧ quiescent_WIn (hWIn := hWIn)
    ∧ quiescent_WInIdeal (hWInIdeal := hWInIdeal)
    ∧ quiescent_WInRefIdeal (hWInRefIdeal := hWInRefIdeal)
    ∧ quiescent_FfnFwd (hFfnFwd := hFfnFwd)
    ∧ quiescent_FfnFwdIdeal (hFfnFwdIdeal := hFfnFwdIdeal)
    ∧ quiescent_FfnFwdIdeal_pre_ffn_finite (hFfnFwdIdeal := hFfnFwdIdeal) (hPre_ffn_finite := hPre_ffn_finite)
    ∧ quiescent_FfnFwdRefIdeal (hFfnFwdRefIdeal := hFfnFwdRefIdeal)
    ∧ quiescent_FfnFwdRefIdeal_pre_ffn_finite (hFfnFwdRefIdeal := hFfnFwdRefIdeal) (hPre_ffn_finite := hPre_ffn_finite)
    ∧ quiescent_Adam (hAdam := hAdam)
    ∧ quiescent_AdamIdeal (hAdamIdeal := hAdamIdeal)
    ∧ quiescent_AdamRefIdeal (hAdamRefIdeal := hAdamRefIdeal)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_UpBwd_UpBwdIdeal
    ∧ algebraic_UpBwdIdeal_UpBwdRefIdeal_pre_up_finite (hUpBwdIdeal := hUpBwdIdeal) (hUpBwdRefIdeal := hUpBwdRefIdeal) (hPre_up_finite := hPre_up_finite)
    ∧ preserves_Tail_TailIdeal
    ∧ algebraic_TailIdeal_TailRefIdeal_pre_tail_finite (hTailIdeal := hTailIdeal) (hTailRefIdeal := hTailRefIdeal) (hPre_tail_finite := hPre_tail_finite)
    ∧ preserves_WDown_WDownIdeal
    ∧ algebraic_WDownIdeal_WDownRefIdeal (hWDownIdeal := hWDownIdeal) (hWDownRefIdeal := hWDownRefIdeal)
    ∧ preserves_WUp_WUpIdeal
    ∧ algebraic_WUpIdeal_WUpRefIdeal (hWUpIdeal := hWUpIdeal) (hWUpRefIdeal := hWUpRefIdeal)
    ∧ preserves_WOut_WOutIdeal
    ∧ algebraic_WOutIdeal_WOutRefIdeal (hWOutIdeal := hWOutIdeal) (hWOutRefIdeal := hWOutRefIdeal)
    ∧ preserves_WIn_WInIdeal
    ∧ algebraic_WInIdeal_WInRefIdeal (hWInIdeal := hWInIdeal) (hWInRefIdeal := hWInRefIdeal)
    ∧ preserves_FfnFwd_FfnFwdIdeal
    ∧ algebraic_FfnFwdIdeal_FfnFwdRefIdeal_pre_ffn_finite (hFfnFwdIdeal := hFfnFwdIdeal) (hFfnFwdRefIdeal := hFfnFwdRefIdeal) (hPre_ffn_finite := hPre_ffn_finite)
    ∧ preserves_Adam_AdamIdeal
    ∧ algebraic_AdamIdeal_AdamRefIdeal (hAdamIdeal := hAdamIdeal) (hAdamRefIdeal := hAdamRefIdeal)
-- ==== Pre_ffn_finite.lean ====
abbrev S4096x1024 : Shape := ⟨2, ![4096, 1024]⟩
abbrev S1024x6144 : Shape := ⟨2, ![1024, 6144]⟩
abbrev S3x6144 : Shape := ⟨2, ![3, 6144]⟩
abbrev S1x6144 : Shape := ⟨2, ![1, 6144]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S3x6144 : S_.BroadcastsInDim S3x6144 (![] : Fin 0 → Fin S3x6144.rank)
  reducesTo_S3x6144_S_d0_1 : S3x6144.ReducesTo [0, 1] S_
  bcast_S_S1x6144 : S_.BroadcastsInDim S1x6144 (![] : Fin 0 → Fin S1x6144.rank)
  reducesTo_S1x6144_S_d0_1 : S1x6144.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S1024x6144 .f32) (main_arg2 : FVec F S3x6144 .f32) (main_arg3 : FVec F S1x6144 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : FVec F S3x6144 .f32 := Host.absf main_arg2
  let main_cst_2 : FVec F S_ .f32 := constant S_ .f32 0x7F800000#32
  let main_v9 : FVec F S3x6144 .f32 := broadcastInDim S3x6144 ![] bcast_S_S3x6144 main_cst_2
  let main_v10 : IVec S3x6144 1 := cmpf .olt main_v8 main_v9
  let main_c_3 : IVec S_ 1 := constantI S_ 1 1#1
  let main_v11 : IVec S_ 1 := (fun x v => Host.reduce IntOp.andi x v reducesTo_S3x6144_S_d0_1 h_S_) main_v10 main_c_3
  let main_v12 : FVec F S1x6144 .f32 := Host.absf main_arg3
  let main_cst_4 : FVec F S_ .f32 := constant S_ .f32 0x7F800000#32
  let main_v13 : FVec F S1x6144 .f32 := broadcastInDim S1x6144 ![] bcast_S_S1x6144 main_cst_4
  let main_v14 : IVec S1x6144 1 := cmpf .olt main_v12 main_v13
  let main_c_5 : IVec S_ 1 := constantI S_ 1 1#1
  let main_v15 : IVec S_ 1 := (fun x v => Host.reduce IntOp.andi x v reducesTo_S1x6144_S_d0_1 h_S_) main_v14 main_c_5
  fn_part1 (F := F) main_v3 main_v7 main_v11 main_v15
-- ==== Pre_in_finite.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x1024 .f32) (main_arg5 : FVec F S4096x2048 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S4096x2048 .f32 := Host.absf main_arg5
  let main_cst_8 : FVec F S_ .f32 := constant S_ .f32 0x7F800000#32
  let main_v21 : FVec F S4096x2048 .f32 := broadcastInDim S4096x2048 ![] bcast_S_S4096x2048 main_cst_8
  let main_v22 : IVec S4096x2048 1 := cmpf .olt main_v20 main_v21
  let main_c_9 : IVec S_ 1 := constantI S_ 1 1#1
  let main_v23 : IVec S_ 1 := (fun x v => Host.reduce IntOp.andi x v reducesTo_S4096x2048_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S1x1024 .f32) (main_arg2 : FVec F S1x1024 .f32) (main_arg3 : FVec F S1024x2048 .f32) (main_arg4 : FVec F S4096x1024 .f32) (main_arg5 : FVec F S4096x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2048 .f32 := Host.absf main_arg3
  let main_cst_4 : FVec F S_ .f32 := constant S_ .f32 0x7F800000#32
  let main_v13 : FVec F S1024x2048 .f32 := broadcastInDim S1024x2048 ![] bcast_S_S1024x2048 main_cst_4
  let main_v14 : IVec S1024x2048 1 := cmpf .olt main_v12 main_v13
  let main_c_5 : IVec S_ 1 := constantI S_ 1 1#1
  let main_v15 : IVec S_ 1 := (fun x v => Host.reduce IntOp.andi x v reducesTo_S1024x2048_S_d0_1 h_S_) main_v14 main_c_5
  fn_part1 (F := F) main_arg4 main_arg5 main_v3 main_v7 main_v11 main_v15
-- ==== Pre_tail_finite.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x3072 .f32) (main_arg1 : FVec F S3072x1024 .f32) (main_arg2 : FVec F S4096x1024 .f32) (main_arg3 : FVec F S1x1024 .f32) (main_arg4 : FVec F S1x1024 .f32) (main_arg5 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_v3 main_v7 main_v11 main_v15
-- ==== Pre_up_finite.lean ====
abbrev S4096x1024 : Shape := ⟨2, ![4096, 1024]⟩
abbrev S1024x1024 : Shape := ⟨2, ![1024, 1024]⟩
abbrev S1x1024 : Shape := ⟨2, ![1, 1024]⟩
abbrev S1024x6144 : Shape := ⟨2, ![1024, 6144]⟩
abbrev S4096x6144 : Shape := ⟨2, ![4096, 6144]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S4096x6144 : S_.BroadcastsInDim S4096x6144 (![] : Fin 0 → Fin S4096x6144.rank)
  reducesTo_S4096x6144_S_d0_1 : S4096x6144.ReducesTo [0, 1] S_

variable [Facts]

def fn_part2 {F : FTy → Type} [FloatOps F] (main_arg8 : FVec F S4096x1024 .f32) (main_arg9 : FVec F S4096x6144 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4096x1024 .f32 := Host.absf main_arg8
  let main_cst_14 : FVec F S_ .f32 := constant S_ .f32 0x7F800000#32
  let main_v33 : FVec F S4096x1024 .f32 := broadcastInDim S4096x1024 ![] bcast_S_S4096x1024 main_cst_14
  let main_v34 : IVec S4096x1024 1 := cmpf .olt main_v32 main_v33
  let main_c_15 : IVec S_ 1 := constantI S_ 1 1#1
  let main_v35 : IVec S_ 1 := (fun x v => Host.reduce IntOp.andi x v reducesTo_S4096x1024_S_d0_1 h_S_) main_v34 main_c_15
  let main_v36 : FVec F S4096x6144 .f32 := Host.absf main_arg9
  let main_cst_16 : FVec F S_ .f32 := constant S_ .f32 0x7F800000#32
  let main_v37 : FVec F S4096x6144 .f32 := broadcastInDim S4096x6144 ![] bcast_S_S4096x6144 main_cst_16
  let main_v38 : IVec S4096x6144 1 := cmpf .olt main_v36 main_v37
  let main_c_17 : IVec S_ 1 := constantI S_ 1 1#1
  let main_v39 : IVec S_ 1 := (fun x v => Host.reduce IntOp.andi x v reducesTo_S4096x6144_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S1x1024 .f32) (main_arg5 : FVec F S1x1024 .f32) (main_arg6 : FVec F S1x1024 .f32) (main_arg7 : FVec F S1024x6144 .f32) (main_arg8 : FVec F S4096x1024 .f32) (main_arg9 : FVec F S4096x6144 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1024x6144 .f32 := Host.absf main_arg7
  let main_cst_12 : FVec F S_ .f32 := constant S_ .f32 0x7F800000#32
  let main_v29 : FVec F S1024x6144 .f32 := broadcastInDim S1024x6144 ![] bcast_S_S1024x6144 main_cst_12
  let main_v30 : IVec S1024x6144 1 := cmpf .olt main_v28 main_v29
  let main_c_13 : IVec S_ 1 := constantI S_ 1 1#1
  let main_v31 : IVec S_ 1 := (fun x v => Host.reduce IntOp.andi x v reducesTo_S1024x6144_S_d0_1 h_S_) main_v30 main_c_13
  fn_part2 (F := F) main_arg8 main_arg9 main_v3 main_v7 main_v11 main_v15 main_v19 main_v23 main_v27 main_v31

def fn {F : FTy → Type} [FloatOps F] (main_arg0 : FVec F S4096x1024 .f32) (main_arg1 : FVec F S4096x1024 .f32) (main_arg2 : FVec F S1024x1024 .f32) (main_arg3 : FVec F S1x1024 .f32) (main_arg4 : FVec F S1x1024 .f32) (main_arg5 : FVec F S1x1024 .f32) (main_arg6 : FVec F S1x1024 .f32) (main_arg7 : FVec F S1024x6144 .f32) (main_arg8 : FVec F S4096x1024 .f32) (main_arg9 : FVec F S4096x6144 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_v3 main_v7 main_v11 main_v15
-- ==== InBwd.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S8x1024 : Shape := ⟨2, ![8, 1024]⟩
abbrev S512x2048 : Shape := ⟨2, ![512, 2048]⟩
abbrev S512x1024 : Shape := ⟨2, ![512, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .bf16⟩
  | .hbm, ⟨7, _⟩ => ⟨S1024x2048, .bf16⟩
  | .hbm, ⟨8, _⟩ => ⟨S4096x1024, .f32⟩
  | .hbm, ⟨9, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdRefIdeal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S_, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2048, .f32⟩
  | .hbm, ⟨35, _⟩ => ⟨S2048x1024, .f32⟩
  | .hbm, ⟨36, _⟩ => ⟨S1024x2048, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S5x1024, .f32⟩
  | .hbm, ⟨73, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== UpBwd.lean ====
abbrev S4096x1024 : Shape := ⟨2, ![4096, 1024]⟩
abbrev S1024x1024 : Shape := ⟨2, ![1024, 1024]⟩
abbrev S1x1024 : Shape := ⟨2, ![1, 1024]⟩
abbrev S1024x6144 : Shape := ⟨2, ![1024, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S4096x2x3072 : Shape := ⟨3, ![4096, 2, 3072]⟩
abbrev S2x4096x3072 : Shape := ⟨3, ![2, 4096, 3072]⟩
abbrev S1024x8x768 : Shape := ⟨3, ![1024, 8, 768]⟩
abbrev S8x1024x768 : Shape := ⟨3, ![8, 1024, 768]⟩
abbrev S8x1024 : Shape := ⟨2, ![8, 1024]⟩
abbrev S2x512x3072 : Shape := ⟨3, ![2, 512, 3072]⟩
abbrev S512x1024 : Shape := ⟨2, ![512, 1024]⟩
abbrev S256x1024 : Shape := ⟨2, ![256, 1024]⟩
abbrev S1x256x768 : Shape := ⟨3, ![1, 256, 768]⟩
abbrev S256x768 : Shape := ⟨2, ![256, 768]⟩
abbrev S1x1024x768 : Shape := ⟨3, ![1, 1024, 768]⟩
abbrev S1024x768 : Shape := ⟨2, ![1024, 768]⟩
abbrev S256 : Shape := ⟨1, ![256]⟩
abbrev S256x1 : Shape := ⟨2, ![256, 1]⟩
abbrev S1024 : Shape := ⟨1, ![1024]⟩

abbrev nBuf : Space → Nat
  | .hbm => 40
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x6144, .f32⟩
  | .hbm, ⟨8, _⟩ => ⟨S4096x1024, .f32⟩
  | .hbm, ⟨9, _⟩ => ⟨S4096x6144, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2x3072, .f32⟩
  | .hbm, ⟨30, _⟩ => ⟨S2x4096x3072, .f32⟩
  | .hbm, ⟨31, _⟩ => ⟨S2x4096x3072, .bf16⟩
  | .hbm, ⟨32, _⟩ => ⟨S1024x8x768, .f32⟩
  | .hbm, ⟨33, _⟩ => ⟨S8x1024x768, .f32⟩
  | .hbm, ⟨34, _⟩ => ⟨S8x1024x768, .bf16⟩
  | .hbm, ⟨35, _⟩ => ⟨S1024x1024, .bf16⟩
  | .hbm, ⟨36, _⟩ => ⟨S4096x1024, .f32⟩
  | .hbm, ⟨37, _⟩ => ⟨S4096x1024, .bf16⟩
  | .hbm, ⟨38, _⟩ => ⟨S4096x1024, .f32⟩
  | .hbm, ⟨39, _⟩ => ⟨S8x1024, .f32⟩
  | .local _ .vmem, ⟨0, _⟩ => ⟨S2x512x3072, .bf16⟩
  | .local _ .vmem, ⟨1, _⟩ => ⟨S2x512x3072, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== UpBwdRefIdeal.lean ====
abbrev S4096x1024 : Shape := ⟨2, ![4096, 1024]⟩
abbrev S1024x1024 : Shape := ⟨2, ![1024, 1024]⟩
abbrev S1x1024 : Shape := ⟨2, ![1, 1024]⟩
abbrev S1024x6144 : Shape := ⟨2, ![1024, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S6144x1024 : Shape := ⟨2, ![6144, 1024]⟩
abbrev S1024 : Shape := ⟨1, ![1024]⟩
abbrev S3x1024 : Shape := ⟨2, ![3, 1024]⟩
abbrev S8x1024 : Shape := ⟨2, ![8, 1024]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S4096x1024, .f32⟩
  | 2 => ⟨S1024x1024, .f32⟩
  | 3 => ⟨S1x1024, .f32⟩
  | 4 => ⟨S1x1024, .f32⟩
  | 5 => ⟨S1x1024, .f32⟩
  | 6 => ⟨S1x1024, .f32⟩
  | 7 => ⟨S1024x6144, .f32⟩
  | 8 => ⟨S4096x1024, .f32⟩
  | 9 => ⟨S4096x6144, .f32⟩
  | 10 => ⟨S_, .f32⟩
  | 11 => ⟨S1x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S1x1024, .f32⟩
  | 56 => ⟨S1x1024, .f32⟩
  | 57 => ⟨S4096x1024, .f32⟩
  | 58 => ⟨S4096x1024, .f32⟩
  | 59 => ⟨S4096x1024, .f32⟩
  | 60 => ⟨S4096x1024, .f32⟩
  | 61 => ⟨S4096x6144, .f32⟩
  | 62 => ⟨S6144x1024, .f32⟩
  | 63 => ⟨S1024x6144, .f32⟩
  | 64 => ⟨S4096x1024, .f32⟩
  | 65 => ⟨S_, .f32⟩
  | 66 => ⟨S1024, .f32⟩
  | 67 => ⟨S1x1024, .f32⟩
  | 68 => ⟨S4096x1024, .f32⟩
  | 69 => ⟨S_, .f32⟩
  | 70 => ⟨S1024, .f32⟩
  | 71 => ⟨S1x1024, .f32⟩
  | 72 => ⟨S4096x1024, .f32⟩
  | 73 => ⟨S4096x1024, .f32⟩
  | 74 => ⟨S4096x1024, .f32⟩
  | 75 => ⟨S_, .f32⟩
  | 76 => ⟨S1024, .f32⟩
  | 77 => ⟨S1x1024, .f32⟩
  | 78 => ⟨S4096x1024, .f32⟩
  | 79 => ⟨S4096x1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1024, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1024x1024, .f32⟩
  | 1 => ⟨S1024x1024, .f32⟩
  | 2 => ⟨S4096x1024, .f32⟩
  | 3 => ⟨S_, .f32⟩
  | 4 => ⟨S3x1024, .f32⟩
  | 5 => ⟨S8x1024, .f32⟩
  | 6 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_20 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Tail.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S8x128 : Shape := ⟨2, ![8, 128]⟩
abbrev S8x1024 : Shape := ⟨2, ![8, 1024]⟩
abbrev S512x3072 : Shape := ⟨2, ![512, 3072]⟩
abbrev S512x1024 : Shape := ⟨2, ![512, 1024]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x3072, .bf16⟩
  | .hbm, ⟨7, _⟩ => ⟨S3072x1024, .bf16⟩
  | .hbm, ⟨8, _⟩ => ⟨S4096x1024, .bf16⟩
  | .hbm, ⟨9, _⟩ => ⟨S4096x1024, .f32⟩
  | .hbm, ⟨10, _⟩ => ⟨S8x128, .f32⟩
  | .hbm, ⟨11, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S8x128, .f32⟩
  | .local _ .vmem, ⟨14, _⟩ => ⟨S8x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== TailRefIdeal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S6x1024, .f32⟩
  | .hbm, ⟨83, _⟩ => ⟨S8x1024, .f32⟩
  | .hbm, ⟨84, _⟩ => ⟨S4096x1024, .bf16⟩
  | .hbm, ⟨85, _⟩ => ⟨S8x128, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_cst_8 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== WDown.lean ====
abbrev S4096x3072 : Shape := ⟨2, ![4096, 3072]⟩
abbrev S4096x1024 : Shape := ⟨2, ![4096, 1024]⟩
abbrev S3072x1024 : Shape := ⟨2, ![3072, 1024]⟩
abbrev S384x1024 : Shape := ⟨2, ![384, 1024]⟩
abbrev S4096x384 : Shape := ⟨2, ![4096, 384]⟩

abbrev nBuf : Space → Nat
  | .hbm => 6
  | .vmem => 6
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x3072, .bf16⟩
  | .hbm, ⟨3, _⟩ => ⟨S4096x1024, .bf16⟩
  | .hbm, ⟨4, _⟩ => ⟨S3072x1024, .bf16⟩
  | .hbm, ⟨5, _⟩ => ⟨S384x1024, .f32⟩
  | .local _ .vmem, ⟨0, _⟩ => ⟨S4096x384, .bf16⟩
  | .local _ .vmem, ⟨1, _⟩ => ⟨S4096x384, .bf16⟩
  | .local _ .vmem, ⟨2, _⟩ => ⟨S4096x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WDownRefIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩
abbrev S384x1024 : Shape := ⟨2, ![384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S_, .f32⟩
  | .hbm, ⟨3, _⟩ => ⟨S3072x1024, .f32⟩
  | .hbm, ⟨4, _⟩ => ⟨S4096x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | .hbm, ⟨8, _⟩ => ⟨S384x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WUp.lean ====
abbrev S4096x1024 : Shape := ⟨2, ![4096, 1024]⟩
abbrev S4096x6144 : Shape := ⟨2, ![4096, 6144]⟩
abbrev S4096x2x3072 : Shape := ⟨3, ![4096, 2, 3072]⟩
abbrev S2x4096x3072 : Shape := ⟨3, ![2, 4096, 3072]⟩
abbrev S1024x6144 : Shape := ⟨2, ![1024, 6144]⟩
abbrev S1024x768 : Shape := ⟨2, ![1024, 768]⟩
abbrev S1x4096x768 : Shape := ⟨3, ![1, 4096, 768]⟩
abbrev S4096x768 : Shape := ⟨2, ![4096, 768]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x2x3072, .f32⟩
  | .hbm, ⟨3, _⟩ => ⟨S2x4096x3072, .f32⟩
  | .hbm, ⟨4, _⟩ => ⟨S2x4096x3072, .bf16⟩
  | .hbm, ⟨5, _⟩ => ⟨S4096x1024, .bf16⟩
  | .hbm, ⟨6, _⟩ => ⟨S1024x6144, .bf16⟩
  | .hbm, ⟨7, _⟩ => ⟨S1024x768, .f32⟩
  | .local _ .vmem, ⟨0, _⟩ => ⟨S4096x1024, .bf16⟩
  | .local _ .vmem, ⟨1, _⟩ => ⟨S1x4096x768, .bf16⟩
  | .local _ .vmem, ⟨2, _⟩ => ⟨S1x4096x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WUpRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S1024x6144, .bf16⟩
  | .hbm, ⟨8, _⟩ => ⟨S1024x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOut.lean ====
abbrev S4096x1024 : Shape := ⟨2, ![4096, 1024]⟩
abbrev S1024x1024 : Shape := ⟨2, ![1024, 1024]⟩
abbrev S128x1024 : Shape := ⟨2, ![128, 1024]⟩
abbrev S4096x128 : Shape := ⟨2, ![4096, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S128x1024, .f32⟩
  | .local _ .vmem, ⟨0, _⟩ => ⟨S4096x128, .bf16⟩
  | .local _ .vmem, ⟨1, _⟩ => ⟨S4096x128, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WOutRefIdeal.lean ====
abbrev S4096x1024 : Shape := ⟨2, ![4096, 1024]⟩
abbrev S_ : Shape := ⟨0, ![]⟩
abbrev S1024x1024 : Shape := ⟨2, ![1024, 1024]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S128x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WIn.lean ====
abbrev S4096x1024 : Shape := ⟨2, ![4096, 1024]⟩
abbrev S4096x2048 : Shape := ⟨2, ![4096, 2048]⟩
abbrev S1024x2048 : Shape := ⟨2, ![1024, 2048]⟩
abbrev S1024x256 : Shape := ⟨2, ![1024, 256]⟩
abbrev S4096x256 : Shape := ⟨2, ![4096, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .bf16⟩
  | .hbm, ⟨5, _⟩ => ⟨S1024x256, .f32⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WInRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnFwd.lean ====
abbrev S4096x1024 : Shape := ⟨2, ![4096, 1024]⟩
abbrev S1024x6144 : Shape := ⟨2, ![1024, 6144]⟩
abbrev S3x6144 : Shape := ⟨2, ![3, 6144]⟩
abbrev S1x6144 : Shape := ⟨2, ![1, 6144]⟩
abbrev S1024x8x768 : Shape := ⟨3, ![1024, 8, 768]⟩
abbrev S8x1024x768 : Shape := ⟨3, ![8, 1024, 768]⟩
abbrev S2x4096x3072 : Shape := ⟨3, ![2, 4096, 3072]⟩
abbrev S4096x3072 : Shape := ⟨2, ![4096, 3072]⟩
abbrev S512x1024 : Shape := ⟨2, ![512, 1024]⟩
abbrev S3x768 : Shape := ⟨2, ![3, 768]⟩
abbrev S1x768 : Shape := ⟨2, ![1, 768]⟩
abbrev S2x512x768 : Shape := ⟨3, ![2, 512, 768]⟩
abbrev S512x768 : Shape := ⟨2, ![512, 768]⟩
abbrev S4x2x8x768 : Shape := ⟨4, ![4, 2, 8, 768]⟩
abbrev S2x8x768 : Shape := ⟨3, ![2, 8, 768]⟩
abbrev S1x2x8x768 : Shape := ⟨4, ![1, 2, 8, 768]⟩
abbrev S1x1024x768 : Shape := ⟨3, ![1, 1024, 768]⟩
abbrev S1024x768 : Shape := ⟨2, ![1024, 768]⟩
abbrev S1x512x768 : Shape := ⟨3, ![1, 512, 768]⟩
abbrev S1x1x8x768 : Shape := ⟨4, ![1, 1, 8, 768]⟩
abbrev S8x768 : Shape := ⟨2, ![8, 768]⟩
abbrev S504x768 : Shape := ⟨2, ![504, 768]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S3x6144, .f32⟩
  | .hbm, ⟨3, _⟩ => ⟨S1x6144, .f32⟩
  | .hbm, ⟨4, _⟩ => ⟨S1024x8x768, .f32⟩
  | .hbm, ⟨5, _⟩ => ⟨S8x1024x768, .f32⟩
  | .hbm, ⟨6, _⟩ => ⟨S8x1024x768, .bf16⟩
  | .hbm, ⟨7, _⟩ => ⟨S4096x1024, .bf16⟩
  | .hbm, ⟨8, _⟩ => ⟨S2x4096x3072, .bf16⟩
  | .hbm, ⟨9, _⟩ => ⟨S2x4096x3072, .f32⟩
  | .hbm, ⟨10, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S8x1024x768, .bf16⟩
  | .local _ .vmem, ⟨3, _⟩ => ⟨S3x768, .f32⟩
  | .local _ .vmem, ⟨4, _⟩ => ⟨S3x768, .f32⟩
  | .local _ .vmem, ⟨5, _⟩ => ⟨S3x768, .f32⟩
  | .local _ .vmem, ⟨6, _⟩ => ⟨S3x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S2x512x768, .bf16⟩
  | .local _ .vmem, ⟨12, _⟩ => ⟨S2x512x768, .bf16⟩
  | .local _ .vmem, ⟨13, _⟩ => ⟨S2x512x768, .f32⟩
  | .local _ .vmem, ⟨14, _⟩ => ⟨S2x512x768, .f32⟩
  | .local _ .vmem, ⟨15, _⟩ => ⟨S512x768, .bf16⟩
  | .local _ .vmem, ⟨16, _⟩ => ⟨S512x768, .bf16⟩
  | .local _ .vmem, ⟨17, _⟩ => ⟨S4x2x8x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v123 : Index := Scalar.indexCast arg1
  let c0_61 : Index := 0#32
  let c0_62 : Index := 0#32
  let c0_63 : Index := 0#32
  ![v123.toNat, 0, 0, 0]
def k0_off2 (i : grid0.Coords) : Fin 3 → Nat :=
  let arg1 : BitVec 32 := BitVec.ofNat 32 (i 1).val
  let v5 : Index := Scalar.indexCast arg1
  let c0_2 : Index := 0#32
  let c0_3 : Index := 0#32
  ![v5.toNat, 0, 0]
def k0_off3 (i : grid0.Coords) : Fin 3 → Nat :=
  let c4_i32 : BitVec 32 := 4#32
  let arg1 : BitVec 32 := BitVec.ofNat 32 (i 1).val
  let v9 : BitVec 32 := Scalar.addi c4_i32 arg1
  let v10 : Index := Scalar.indexCast v9
  let c0_4 : Index := 0#32
  let c0_5 : Index := 0#32
  ![v10.toNat, 0, 0]
def k0_off4 (i : grid0.Coords) : Fin 4 → Nat :=
  let arg1 : BitVec 32 := BitVec.ofNat 32 (i 1).val
  let v22 : Index := Scalar.indexCast arg1
  let c0_12 : Index := 0#32
  let c0_13 : Index := 0#32
  let c0_14 : Index := 0#32
  ![v22.toNat, 0, 0, 0]
def k0_off5 (i : grid0.Coords) : Fin 4 → Nat :=
  let arg1 : BitVec 32 := BitVec.ofNat 32 (i 1).val
  let v57 : Index := Scalar.indexCast arg1
  let c1_26 : Index := 1#32
  let c0_27 : Index := 0#32
  let c0_28 : Index := 0#32
  ![v57.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFwdIdeal.lean ====
variable {F : FTy → Type} [FloatOps F] [Named F]
def κ : String → Option EReal := fun
  | "gelu_c1" => some ((80338380498831 / 2251799813685248 : ℝ) : EReal)
  | _ => none
-- ==== FfnFwdRefIdeal.lean ====
abbrev S4096x1024 : Shape := ⟨2, ![4096, 1024]⟩
abbrev S1024x6144 : Shape := ⟨2, ![1024, 6144]⟩
abbrev S3x6144 : Shape := ⟨2, ![3, 6144]⟩
abbrev S1x6144 : Shape := ⟨2, ![1, 6144]⟩
abbrev S4096x6144 : Shape := ⟨2, ![4096, 6144]⟩
abbrev S_ : Shape := ⟨0, ![]⟩
abbrev S4098x6144 : Shape := ⟨2, ![4098, 6144]⟩
abbrev S6144 : Shape := ⟨1, ![6144]⟩
abbrev S4096x3072 : Shape := ⟨2, ![4096, 3072]⟩
abbrev S1x4096x3072 : Shape := ⟨3, ![1, 4096, 3072]⟩
abbrev S2x4096x3072 : Shape := ⟨3, ![2, 4096, 3072]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S3x6144, .f32⟩
  | .hbm, ⟨3, _⟩ => ⟨S1x6144, .f32⟩
  | .hbm, ⟨4, _⟩ => ⟨S4096x6144, .f32⟩
  | .hbm, ⟨5, _⟩ => ⟨S_, .i32⟩
  | .hbm, ⟨6, _⟩ => ⟨S_, .f32⟩
  | .hbm, ⟨7, _⟩ => ⟨S4098x6144, .f32⟩
  | .hbm, ⟨8, _⟩ => ⟨S4096x6144, .f32⟩
  | .hbm, ⟨9, _⟩ => ⟨S1x6144, .f32⟩
  | .hbm, ⟨10, _⟩ => ⟨S6144, .f32⟩
  | .hbm, ⟨11, _⟩ => ⟨S1x6144, .f32⟩
  | .hbm, ⟨12, _⟩ => ⟨S4096x6144, .f32⟩
  | .hbm, ⟨13, _⟩ => ⟨S4096x6144, .f32⟩
  | .hbm, ⟨14, _⟩ => ⟨S4096x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S4096x6144, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S1x6144, .f32⟩
  | .hbm, ⟨23, _⟩ => ⟨S6144, .f32⟩
  | .hbm, ⟨24, _⟩ => ⟨S1x6144, .f32⟩
  | .hbm, ⟨25, _⟩ => ⟨S4096x6144, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S4096x6144, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S1x4096x3072, .f32⟩
  | .hbm, ⟨53, _⟩ => ⟨S1x4096x3072, .f32⟩
  | .hbm, ⟨54, _⟩ => ⟨S2x4096x3072, .f32⟩
  | .hbm, ⟨55, _⟩ => ⟨S2x4096x3072, .bf16⟩
  | .hbm, ⟨56, _⟩ => ⟨S4096x3072, .f32⟩
  | .hbm, ⟨57, _⟩ => ⟨S4096x3072, .f32⟩
  | .hbm, ⟨58, _⟩ => ⟨S1x4096x3072, .f32⟩
  | .hbm, ⟨59, _⟩ => ⟨S1x4096x3072, .f32⟩
  | .hbm, ⟨60, _⟩ => ⟨S2x4096x3072, .f32⟩
  | .hbm, ⟨61, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Adam.lean ====
abbrev S1x1024x256 : Shape := ⟨3, ![1, 1024, 256]⟩
abbrev S1024x256 : Shape := ⟨2, ![1024, 256]⟩
abbrev S3x1024x256 : Shape := ⟨3, ![3, 1024, 256]⟩

abbrev nBuf : Space → Nat
  | .hbm => 10
  | .vmem => 9
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S3x1024x256, .f32⟩
  | .hbm, ⟨3, _⟩ => ⟨S1x1024x256, .f32⟩
  | .hbm, ⟨4, _⟩ => ⟨S1x1024x256, .f32⟩
  | .hbm, ⟨5, _⟩ => ⟨S3x1024x256, .bf16⟩
  | .hbm, ⟨6, _⟩ => ⟨S1x1024x256, .f32⟩
  | .hbm, ⟨7, _⟩ => ⟨S1x1024x256, .f32⟩
  | .hbm, ⟨8, _⟩ => ⟨S1x1024x256, .f32⟩
  | .hbm, ⟨9, _⟩ => ⟨S1x1024x256, .f32⟩
  | .local _ .vmem, ⟨0, _⟩ => ⟨S1x1024x256, .f32⟩
  | .local _ .vmem, ⟨1, _⟩ => ⟨S1024x256, .f32⟩
  | .local _ .vmem, ⟨2, _⟩ => ⟨S3x1024x256, .bf16⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamRefIdeal.lean ====
abbrev S1x1024x256 : Shape := ⟨3, ![1, 1024, 256]⟩
abbrev S1024x256 : Shape := ⟨2, ![1024, 256]⟩
abbrev S3x1024x256 : Shape := ⟨3, ![3, 1024, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S3x1024x256, .f32⟩
  | .hbm, ⟨3, _⟩ => ⟨S1x1024x256, .f32⟩
  | .hbm, ⟨4, _⟩ => ⟨S1x1024x256, .f32⟩
  | .hbm, ⟨5, _⟩ => ⟨S_, .f32⟩
  | .hbm, ⟨6, _⟩ => ⟨S1024x256, .f32⟩
  | .hbm, ⟨7, _⟩ => ⟨S1024x256, .f32⟩
  | .hbm, ⟨8, _⟩ => ⟨S1x1024x256, .f32⟩
  | .hbm, ⟨9, _⟩ => ⟨S_, .f32⟩
  | .hbm, ⟨10, _⟩ => ⟨S1x1024x256, .f32⟩
  | .hbm, ⟨11, _⟩ => ⟨S1x1024x256, .f32⟩
  | .hbm, ⟨12, _⟩ => ⟨S_, .f32⟩
  | .hbm, ⟨13, _⟩ => ⟨S1x1024x256, .f32⟩
  | .hbm, ⟨14, _⟩ => ⟨S1x1024x256, .f32⟩
  | .hbm, ⟨15, _⟩ => ⟨S1x1024x256, .f32⟩
  | .hbm, ⟨16, _⟩ => ⟨S_, .f32⟩
  | .hbm, ⟨17, _⟩ => ⟨S1x1024x256, .f32⟩
  | .hbm, ⟨18, _⟩ => ⟨S1x1024x256, .f32⟩
  | .hbm, ⟨19, _⟩ => ⟨S1x1024x256, .f32⟩
  | .hbm, ⟨20, _⟩ => ⟨S_, .f32⟩
  | .hbm, ⟨21, _⟩ => ⟨S1x1024x256, .f32⟩
  | .hbm, ⟨22, _⟩ => ⟨S1x1024x256, .f32⟩
  | .hbm, ⟨23, _⟩ => ⟨S1x1024x256, .f32⟩
  | .hbm, ⟨24, _⟩ => ⟨S_, .f32⟩
  | .hbm, ⟨25, _⟩ => ⟨S1x1024x256, .f32⟩
  | .hbm, ⟨26, _⟩ => ⟨S1x1024x256, .f32⟩
  | .hbm, ⟨27, _⟩ => ⟨S_, .f32⟩
  | .hbm, ⟨28, _⟩ => ⟨S1x1024x256, .f32⟩
  | .hbm, ⟨29, _⟩ => ⟨S1x1024x256, .f32⟩
  | .hbm, ⟨30, _⟩ => ⟨S1x1024x256, .f32⟩
  | .hbm, ⟨31, _⟩ => ⟨S_, .f32⟩
  | .hbm, ⟨32, _⟩ => ⟨S1x1024x256, .f32⟩
  | .hbm, ⟨33, _⟩ => ⟨S1x1024x256, .f32⟩
  | .hbm, ⟨34, _⟩ => ⟨S1x1024x256, .f32⟩
  | .hbm, ⟨35, _⟩ => ⟨S_, .f32⟩
  | .hbm, ⟨36, _⟩ => ⟨S1x1024x256, .f32⟩
  | .hbm, ⟨37, _⟩ => ⟨S1x1024x256, .f32⟩
  | .hbm, ⟨38, _⟩ => ⟨S1x1024x256, .f32⟩
  | .hbm, ⟨39, _⟩ => ⟨S_, .f32⟩
  | .hbm, ⟨40, _⟩ => ⟨S1x1024x256, .f32⟩
  | .hbm, ⟨41, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Common.lean ====
/-
  Small facts every module of this proof uses: a list of whole-row stores read one store at a time, loads of whole rows
  from such a list, the real numbers behind the literal constants, and finite sums and the root-mean-square norm over the
  reals inside the extended reals.
-/
module

public import Idealize.ShloMosaic.Lib.Pointwise
public import Idealize.ShloMosaic.Lib.Tactic
public import Idealize.ShloMosaic.Lib.ReduceAll
public import Idealize.ShloMosaic.Lib.WritesUnit
public import Idealize.ShloMosaic.Lib.Pipeline.FrameBody
public import Idealize.ShloMosaic.Lib.IdealHost

@[expose] public section

set_option maxRecDepth 16384

noncomputable section

open Idealize.ShloMosaic

namespace Step

/-! ## A list of stores and a load read at an index, newest store first -/

section Stores

variable {sig : RefSig} {κ : Kind} {sp : Space} {e : EltTy} {s : Shape}

/-- An index at position `x` of the newest store's box reads that store's payload at `x`. -/
theorem canon_hit {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (h : ∀ a, (y a).val = off a + (x a).val) :
    View.canon (⟨Rect.unit off size inb, w⟩ :: L) y = w x := by
  have hy : (Rect.unit off size inb).emb x = y := funext fun a => Fin.ext (by
    show off a + 1 * (x a).val = _
    rw [h, Nat.one_mul])
  rw [← hy]
  exact View.canon_cons_emb _ w L x

/-- An index outside the newest store's box on one axis reads the earlier stores. -/
theorem canon_miss {off size : Fin s.rank → ℕ} (inb : ∀ a, off a + size a ≤ s.size a)
    (w : (Rect.unit off size inb).shape.Idx → Elt Ideal e) (L : List (View.Piece (Elt Ideal) s e)) (y : s.Idx)
    (a : Fin s.rank) (h : (y a).val < off a ∨ off a + size a ≤ (y a).val) :
    View.canon (⟨Rect.unit off size inb, w⟩ :: L) y = View.canon L y := by
  refine View.canon_cons_of_not_mem _ L ?_
  rw [Rect.mem_set_unit]
  intro hall
  have := hall a
  omega

/-- A load of a box skips a newer store into a box that one axis keeps apart from it. -/
theorem readCov_miss {off size off' size' : Fin s.rank → ℕ} (v : View sig κ sp s e)
    (inb : ∀ a, off a + size a ≤ s.size a) (inb' : ∀ a, off' a + size' a ≤ s.size a)
    (w : (Rect.unit off size inb).shape.Idx → Elt Ideal e) (L : List (View.Piece (Elt Ideal) s e)) (a : Fin s.rank)
    (h : off' a + size' a ≤ off a ∨ off a + size a ≤ off' a) :
    v.readCov (⟨Rect.unit off size inb, w⟩ :: L) (Rect.unit off' size' inb').toLoadRect
      = v.readCov L (Rect.unit off' size' inb').toLoadRect := by
  rw [View.readCov_eq_canon', View.readCov_eq_canon']
  funext j
  refine canon_miss inb w L _ a ?_
  have hj : ((Rect.unit off' size' inb').toLoadRect.idx j a).val = off' a + 1 * (j a).val := rfl
  have hl : (j a).val < size' a := (j a).isLt
  rw [hj]
  omega

/-- A load of a box read at an index is the list of stores at the shifted index. -/
theorem readCov_apply {off' size' : Fin s.rank → ℕ} (v : View sig κ sp s e) (inb' : ∀ a, off' a + size' a ≤ s.size a)
    (L : List (View.Piece (Elt Ideal) s e)) (j : (Rect.unit off' size' inb').shape.Idx) (y : s.Idx)
    (h : ∀ a, (y a).val = off' a + (j a).val) :
    v.readCov L (Rect.unit off' size' inb').toLoadRect j = View.canon L y := by
  rw [View.readCov_eq_canon']
  refine congrArg _ (funext fun a => Fin.ext ?_)
  show off' a + 1 * (j a).val = _
  rw [h, Nat.one_mul]

/-- A load of a box of a buffer's untouched contents, read at an index. -/
theorem readAt_unread_apply {m : Memref sig κ sp s e} (h : m.IsWhole) (x : s.Idx → Elt Ideal e)
    {off' size' : Fin s.rank → ℕ} (inb' : ∀ a, off' a + size' a ≤ s.size a) (j : (Rect.unit off' size' inb').shape.Idx)
    (y : s.Idx) (hy : ∀ a, (y a).val = off' a + (j a).val) :
    View.readAt (Elt Ideal) m.view (Rect.unit off' size' inb').toLoadRect (h.unread x) j = x y := by
  rw [View.readAt_eq_ld, h.read_unread]
  refine congrArg x (funext fun a => Fin.ext ?_)
  show off' a + 1 * (j a).val = _
  rw [hy, Nat.one_mul]

/-- `canon_hit` for stores over any contents. -/
theorem read_writes_hit (v : View sig κ sp s e) (f : v.ty.Contents (Elt Ideal)) {off size : Fin s.rank → ℕ}
    (inb : ∀ a, off a + size a ≤ s.size a) (w : (Rect.unit off size inb).shape.Idx → Elt Ideal e)
    (L : List (View.Piece (Elt Ideal) s e)) (y : s.Idx) (x : (Rect.unit off size inb).shape.Idx)
    (h : ∀ a, (y a).val = off a + (x a).val) :
    v.read (Elt Ideal) (v.writes (Elt Ideal) f (⟨Rect.unit off size inb, w⟩ :: L)) y = w x :=
  View.read_writes_cons_unit_of_mem v f inb w L y x rfl h

/-- `canon_miss` for stores over any contents. -/
theorem read_writes_miss (v : View sig κ sp s e) (f : v.ty.Contents (Elt Ideal)) {off size : Fin s.rank → ℕ}
    (inb : ∀ a, off a + size a ≤ s.size a) (w : (Rect.unit off size inb).shape.Idx → Elt Ideal e)
    (L : List (View.Piece (Elt Ideal) s e)) (y : s.Idx) (a : Fin s.rank)
    (h : (y a).val < off a ∨ off a + size a ≤ (y a).val) :
    v.read (Elt Ideal) (v.writes (Elt Ideal) f (⟨Rect.unit off size inb, w⟩ :: L)) y
      = v.read (Elt Ideal) (v.writes (Elt Ideal) f L) y :=
  View.read_writes_cons_unit_of_not_mem v f inb w L y rfl a h

end Stores

/-! ## One row of the gradient of an RMS norm and of the modulation around it -/

/-- The reciprocal root mean square of a row of 1024. -/
def rinv (x : Fin 1024 → EReal) : EReal :=
  Ideal.rsqrt (Ideal.div (∑ j, x j * x j) (Ideal.ofBits .f32 1149239296#32) + Ideal.ofBits .f32 897988541#32)

/-- The gradient of a row's RMS norm (before its gain) where the normed row is `n`, its reciprocal root mean square `r`
and the incoming gradient `d`. -/
def rmsBwd (d n : Fin 1024 → EReal) (r : EReal) (k : Fin 1024) : EReal :=
  r * (d k - n k * Ideal.div (∑ l, d l * n l) (Ideal.ofBits .f32 1149239296#32))

/-- A row of a product with a transposed matrix. -/
def dotT {n : ℕ} (z : Fin n → EReal) (w : Fin 1024 → Fin n → EReal) (k : Fin 1024) : EReal := ∑ j, z j * w k j

/-- A row of the gradient of x through the input projection, from the row of the projection's incoming gradient `z`, the
row `x`, the gradient `d` that reaches x past the block, the gain `g` and the scale `s`. -/
def inGx (z : Fin 2048 → EReal) (w : Fin 1024 → Fin 2048 → EReal) (x d g s : Fin 1024 → EReal) (k : Fin 1024) : EReal :=
  d k + rmsBwd (fun k => dotT z w k * (1 + s k) * g k) (fun k => x k * rinv x) (rinv x) k

/-- A row's contribution to the gradients of the shift (0), the scale (1) and the gain (2). -/
def inVs (j : Fin 8) (z : Fin 2048 → EReal) (w : Fin 1024 → Fin 2048 → EReal) (x g s : Fin 1024 → EReal) (k : Fin 1024) : EReal :=
  if j = 0 then dotT z w k else if j = 1 then dotT z w k * (x k * rinv x) * g k
    else if j = 2 then dotT z w k * (1 + s k) * (x k * rinv x) else 0

/-- A sum over 512 rows in two halves, added one after the other to what was there. -/
theorem sum_512 (a : EReal) (f : Fin 512 → EReal) :
    a + ∑ r, f r = a + ∑ r : Fin 256, f ⟨r.val, by omega⟩ + ∑ r : Fin 256, f ⟨256 + r.val, by omega⟩ := by
  rw [add_assoc]
  congr 1
  exact Fin.sum_univ_add (a := 256) (b := 256) f

/-- A sum over 512 rows in two halves. -/
theorem sum_512' (f : Fin 512 → EReal) :
    ∑ r, f r = ∑ r : Fin 256, f ⟨r.val, by omega⟩ + ∑ r : Fin 256, f ⟨256 + r.val, by omega⟩ :=
  Fin.sum_univ_add (a := 256) (b := 256) f

end Step

end
-- ==== Proof.InBlock.lean ====
/-
  What the gradient of the input projection computes at one grid point: a block of 512 rows of the gradient of x, and the
  512 rows' contribution to three column sums.
-/
module

public import proofs.«01_k».proof.Proof.Gen.InBwdIdeal.Value
public import proofs.«01_k».proof.Proof.Common
public import Idealize.ShloMosaic.Lib.Pointwise
public import Idealize.ShloMosaic.Lib.Pointwise.Blocks
public import Idealize.ShloMosaic.Lib.Tactic

@[expose] public section

set_option maxRecDepth 16384

noncomputable section

open Idealize.ShloMosaic Idealize.ShloMosaic.TcCoe Idealize.SL.Sem

namespace Cert.InBwdIdeal.Val

open Cert.InBwdIdeal Cert.InBwdIdeal.Gen Step

variable (c : Dev nD) (i : grid0.Coords) (arg1 : Memref sig .tc .vmem S512x2048 .bf16) (harg1 : arg1.IsWhole) (arg2 : Memref sig .tc .vmem S1024x2048 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S8x1024 .f32) (harg8 : arg8.IsWhole)
    (x0 : Vec Ideal S512x2048 .bf16) (x1 : Vec Ideal S1024x2048 .bf16) (x2 : Vec Ideal S512x1024 .f32) (x3 : Vec Ideal S512x1024 .f32) (x4 : Vec Ideal S1x1024 .f32) (x5 : Vec Ideal S1x1024 .f32)

/-- Row `r` of the block's gradient of x. -/
def gxBlk (r : Fin 512) (k : Fin 1024) : EReal :=
  inGx (fun j => x0 (ix2 r j)) (fun k j => x1 (ix2 k j)) (fun k => x2 (ix2 r k)) (fun k => x3 (ix2 r k)) (fun k => x4 (ix2 0 k))
    (fun k => x5 (ix2 0 k)) k

/-- Row `r`'s contribution to the column sums. -/
def vsBlk (j : Fin 8) (r : Fin 512) (k : Fin 1024) : EReal :=
  inVs j (fun j => x0 (ix2 r j)) (fun k j => x1 (ix2 k j)) (fun k => x2 (ix2 r k)) (fun k => x4 (ix2 0 k)) (fun k => x5 (ix2 0 k)) k

/-- The upper 256 rows of the block, first point. -/
theorem out_A6_256 (hc0 : cond0_0 i) (r : Fin 256) (k : Fin 1024) :
    out0_A_6 c i arg1 harg1 arg2 harg2 arg3 harg3 arg4 harg4 arg5 harg5 arg6 harg6 arg7 harg7 arg8 harg8 hc0 x0 x1 x2 x3 x4 x5 (ix2 ⟨256 + r.val, by omega⟩ k) = gxBlk x0 x1 x2 x3 x4 x5 ⟨256 + r.val, by omega⟩ k := by
  unfold out0_A_6
  rw [View.read_writes_junk_eq_canon]
  unfold kernelRun0_A
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rfl

/-- The lower 256 rows of the block, first point. -/
theorem out_A6_0 (hc0 : cond0_0 i) (r : Fin 256) (k : Fin 1024) :
    out0_A_6 c i arg1 harg1 arg2 harg2 arg3 harg3 arg4 harg4 arg5 harg5 arg6 harg6 arg7 harg7 arg8 harg8 hc0 x0 x1 x2 x3 x4 x5 (ix2 ⟨0 + r.val, by omega⟩ k) = gxBlk x0 x1 x2 x3 x4 x5 ⟨0 + r.val, by omega⟩ k := by
  unfold out0_A_6
  rw [View.read_writes_junk_eq_canon]
  unfold kernelRun0_A
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rfl

/-- The whole block, first point. -/
theorem out_A6 (hc0 : cond0_0 i) (r : Fin 512) (k : Fin 1024) :
    out0_A_6 c i arg1 harg1 arg2 harg2 arg3 harg3 arg4 harg4 arg5 harg5 arg6 harg6 arg7 harg7 arg8 harg8 hc0 x0 x1 x2 x3 x4 x5 (ix2 r k) = gxBlk x0 x1 x2 x3 x4 x5 r k := by
  rcases lt_or_ge r.val 256 with h | h
  · have e : r = ⟨0 + (⟨r.val, h⟩ : Fin 256).val, by omega⟩ := Fin.ext (by simp)
    rw [e]; exact out_A6_0 c i arg1 harg1 arg2 harg2 arg3 harg3 arg4 harg4 arg5 harg5 arg6 harg6 arg7 harg7 arg8 harg8 x0 x1 x2 x3 x4 x5 hc0 ⟨r.val, h⟩ k
  · have e : r = ⟨256 + (⟨r.val - 256, by omega⟩ : Fin 256).val, by omega⟩ := Fin.ext (by show r.val = 256 + (r.val - 256); omega)
    rw [e]; exact out_A6_256 c i arg1 harg1 arg2 harg2 arg3 harg3 arg4 harg4 arg5 harg5 arg6 harg6 arg7 harg7 arg8 harg8 x0 x1 x2 x3 x4 x5 hc0 ⟨r.val - 256, by omega⟩ k

/-- The upper 256 rows of the block, later points. -/
theorem out_B6_256 (hc0 : ¬ cond0_0 i) (xo7 : Vec Ideal S8x1024 .f32) (r : Fin 256) (k : Fin 1024) :
    out0_B_6 c i arg1 harg1 arg2 harg2 arg3 harg3 arg4 harg4 arg5 harg5 arg6 harg6 arg7 harg7 arg8 harg8 hc0 x0 x1 x2 x3 x4 x5 xo7 (ix2 ⟨256 + r.val, by omega⟩ k) = gxBlk x0 x1 x2 x3 x4 x5 ⟨256 + r.val, by omega⟩ k := by
  unfold out0_B_6
  rw [View.read_writes_junk_eq_canon]
  unfold kernelRun0_B
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rfl

/-- The lower 256 rows of the block, later points. -/
theorem out_B6_0 (hc0 : ¬ cond0_0 i) (xo7 : Vec Ideal S8x1024 .f32) (r : Fin 256) (k : Fin 1024) :
    out0_B_6 c i arg1 harg1 arg2 harg2 arg3 harg3 arg4 harg4 arg5 harg5 arg6 harg6 arg7 harg7 arg8 harg8 hc0 x0 x1 x2 x3 x4 x5 xo7 (ix2 ⟨0 + r.val, by omega⟩ k) = gxBlk x0 x1 x2 x3 x4 x5 ⟨0 + r.val, by omega⟩ k := by
  unfold out0_B_6
  rw [View.read_writes_junk_eq_canon]
  unfold kernelRun0_B
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rfl

/-- The whole block, later points. -/
theorem out_B6 (hc0 : ¬ cond0_0 i) (xo7 : Vec Ideal S8x1024 .f32) (r : Fin 512) (k : Fin 1024) :
    out0_B_6 c i arg1 harg1 arg2 harg2 arg3 harg3 arg4 harg4 arg5 harg5 arg6 harg6 arg7 harg7 arg8 harg8 hc0 x0 x1 x2 x3 x4 x5 xo7 (ix2 r k) = gxBlk x0 x1 x2 x3 x4 x5 r k := by
  rcases lt_or_ge r.val 256 with h | h
  · have e : r = ⟨0 + (⟨r.val, h⟩ : Fin 256).val, by omega⟩ := Fin.ext (by simp)
    rw [e]; exact out_B6_0 c i arg1 harg1 arg2 harg2 arg3 harg3 arg4 harg4 arg5 harg5 arg6 harg6 arg7 harg7 arg8 harg8 x0 x1 x2 x3 x4 x5 hc0 xo7 ⟨r.val, h⟩ k
  · have e : r = ⟨256 + (⟨r.val - 256, by omega⟩ : Fin 256).val, by omega⟩ := Fin.ext (by show r.val = 256 + (r.val - 256); omega)
    rw [e]; exact out_B6_256 c i arg1 harg1 arg2 harg2 arg3 harg3 arg4 harg4 arg5 harg5 arg6 harg6 arg7 harg7 arg8 harg8 x0 x1 x2 x3 x4 x5 hc0 xo7 ⟨r.val - 256, by omega⟩ k

/-- Row 0 of the column sums, first point. -/
theorem out_A7_0 (hc0 : cond0_0 i) (k : Fin 1024) :
    out0_A_7 c i arg1 harg1 arg2 harg2 arg3 harg3 arg4 harg4 arg5 harg5 arg6 harg6 arg7 harg7 arg8 harg8 hc0 x0 x1 x2 x3 x4 x5 (ix2 0 k) = ∑ r : Fin 512, vsBlk x0 x1 x2 x4 x5 0 r k := by
  unfold out0_A_7
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rw [readCov_apply _ _ _ _ (ix2 0 k) (fun a => by fin_cases a <;> simp), canon_hit _ _ _ _ (ix2 0 k) (fun a => by fin_cases a <;> simp)]
  pointwise [k0_pay3]
  rw [sum_512']
  rfl

/-- Row 0 of the column sums, later points. -/
theorem out_B7_0 (hc0 : ¬ cond0_0 i) (xo7 : Vec Ideal S8x1024 .f32) (k : Fin 1024) :
    out0_B_7 c i arg1 harg1 arg2 harg2 arg3 harg3 arg4 harg4 arg5 harg5 arg6 harg6 arg7 harg7 arg8 harg8 hc0 x0 x1 x2 x3 x4 x5 xo7 (ix2 0 k) = xo7 (ix2 0 k) + ∑ r : Fin 512, vsBlk x0 x1 x2 x4 x5 0 r k := by
  unfold out0_B_7
  unfold kernelRun0_B
  dsimp only
  sl_unfold_words
  simp (disch := first | decide | simp) only [readCov_miss (s := S8x1024) (a := 0), View.readCov_cons_toLoadRect]
  refine (read_writes_miss _ _ _ _ _ _ 0 (Or.inl (by simp))).trans ?_
  refine (read_writes_miss _ _ _ _ _ _ 0 (Or.inl (by simp))).trans ?_
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg8.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rw [sum_512]
  rfl

/-- Row 1 of the column sums, first point. -/
theorem out_A7_1 (hc0 : cond0_0 i) (k : Fin 1024) :
    out0_A_7 c i arg1 harg1 arg2 harg2 arg3 harg3 arg4 harg4 arg5 harg5 arg6 harg6 arg7 harg7 arg8 harg8 hc0 x0 x1 x2 x3 x4 x5 (ix2 1 k) = ∑ r : Fin 512, vsBlk x0 x1 x2 x4 x5 1 r k := by
  unfold out0_A_7
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rw [readCov_apply _ _ _ _ (ix2 1 k) (fun a => by fin_cases a <;> simp), canon_hit _ _ _ _ (ix2 1 k) (fun a => by fin_cases a <;> simp)]
  pointwise [k0_pay3]
  rw [sum_512']
  rfl

/-- Row 1 of the column sums, later points. -/
theorem out_B7_1 (hc0 : ¬ cond0_0 i) (xo7 : Vec Ideal S8x1024 .f32) (k : Fin 1024) :
    out0_B_7 c i arg1 harg1 arg2 harg2 arg3 harg3 arg4 harg4 arg5 harg5 arg6 harg6 arg7 harg7 arg8 harg8 hc0 x0 x1 x2 x3 x4 x5 xo7 (ix2 1 k) = xo7 (ix2 1 k) + ∑ r : Fin 512, vsBlk x0 x1 x2 x4 x5 1 r k := by
  unfold out0_B_7
  unfold kernelRun0_B
  dsimp only
  sl_unfold_words
  simp (disch := first | decide | simp) only [readCov_miss (s := S8x1024) (a := 0), View.readCov_cons_toLoadRect]
  refine (read_writes_miss _ _ _ _ _ _ 0 (Or.inl (by simp))).trans ?_
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg8.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rw [sum_512]
  rfl

/-- Row 2 of the column sums, first point. -/
theorem out_A7_2 (hc0 : cond0_0 i) (k : Fin 1024) :
    out0_A_7 c i arg1 harg1 arg2 harg2 arg3 harg3 arg4 harg4 arg5 harg5 arg6 harg6 arg7 harg7 arg8 harg8 hc0 x0 x1 x2 x3 x4 x5 (ix2 2 k) = ∑ r : Fin 512, vsBlk x0 x1 x2 x4 x5 2 r k := by
  unfold out0_A_7
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rw [readCov_apply _ _ _ _ (ix2 2 k) (fun a => by fin_cases a <;> simp), canon_hit _ _ _ _ (ix2 2 k) (fun a => by fin_cases a <;> simp)]
  pointwise [k0_pay3]
  rw [sum_512']
  rfl

/-- Row 2 of the column sums, later points. -/
theorem out_B7_2 (hc0 : ¬ cond0_0 i) (xo7 : Vec Ideal S8x1024 .f32) (k : Fin 1024) :
    out0_B_7 c i arg1 harg1 arg2 harg2 arg3 harg3 arg4 harg4 arg5 harg5 arg6 harg6 arg7 harg7 arg8 harg8 hc0 x0 x1 x2 x3 x4 x5 xo7 (ix2 2 k) = xo7 (ix2 2 k) + ∑ r : Fin 512, vsBlk x0 x1 x2 x4 x5 2 r k := by
  unfold out0_B_7
  unfold kernelRun0_B
  dsimp only
  sl_unfold_words
  simp (disch := first | decide | simp) only [readCov_miss (s := S8x1024) (a := 0), View.readCov_cons_toLoadRect]
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg8.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19]
  rw [sum_512]
  rfl

/-- The rows past the third are zero after the first point. -/
theorem out_A7_rest (hc0 : cond0_0 i) (j : Fin 8) (hj : 3 ≤ j.val) (k : Fin 1024) :
    out0_A_7 c i arg1 harg1 arg2 harg2 arg3 harg3 arg4 harg4 arg5 harg5 arg6 harg6 arg7 harg7 arg8 harg8 hc0 x0 x1 x2 x3 x4 x5 (ix2 j k) = 0 := by
  unfold out0_A_7
  rw [View.read_writes_junk_eq_canon]
  unfold kernelRun0_A
  dsimp only
  sl_unfold_words
  refine (canon_miss _ _ _ _ 0 (Or.inr (by show 2 + 1 ≤ j.val; omega))).trans ?_
  refine (canon_miss _ _ _ _ 0 (Or.inr (by show 1 + 1 ≤ j.val; omega))).trans ?_
  refine (canon_miss _ _ _ _ 0 (Or.inr (by show 0 + 1 ≤ j.val; omega))).trans ?_
  refine (canon_miss _ _ _ _ 0 (Or.inr (by show 2 + 1 ≤ j.val; omega))).trans ?_
  refine (canon_miss _ _ _ _ 0 (Or.inr (by show 1 + 1 ≤ j.val; omega))).trans ?_
  refine (canon_miss _ _ _ _ 0 (Or.inr (by show 0 + 1 ≤ j.val; omega))).trans ?_
  rw [canon_hit _ _ _ _ (ix2 j k) (fun a => by fin_cases a <;> simp)]
  pointwise [k0_pay3]

/-- The column sums after the first point. -/
theorem out_A7 (hc0 : cond0_0 i) (j : Fin 8) (k : Fin 1024) :
    out0_A_7 c i arg1 harg1 arg2 harg2 arg3 harg3 arg4 harg4 arg5 harg5 arg6 harg6 arg7 harg7 arg8 harg8 hc0 x0 x1 x2 x3 x4 x5 (ix2 j k) = 0 + ∑ r : Fin 512, vsBlk x0 x1 x2 x4 x5 j r k := by
  by_cases hj : 3 ≤ j.val
  · rw [out_A7_rest c i arg1 harg1 arg2 harg2 arg3 harg3 arg4 harg4 arg5 harg5 arg6 harg6 arg7 harg7 arg8 harg8 x0 x1 x2 x3 x4 x5 hc0 j hj k]
    have hz : ∀ r : Fin 512, vsBlk x0 x1 x2 x4 x5 j r k = 0 := fun r => by
      unfold vsBlk inVs
      rw [if_neg (fun h => by subst h; omega), if_neg (fun h => by subst h; simp at hj), if_neg (fun h => by subst h; simp at hj)]
    simp only [hz, Finset.sum_const_zero, add_zero]
  · have : j = 0 ∨ j = 1 ∨ j = 2 := by
      rcases j with ⟨v, hv⟩
      simp only [Fin.ext_iff, Fin.val_zero, Fin.val_one, Fin.val_two] at hj ⊢
      omega
    rcases this with rfl | rfl | rfl
    · exact (out_A7_0 c i arg1 harg1 arg2 harg2 arg3 harg3 arg4 harg4 arg5 harg5 arg6 harg6 arg7 harg7 arg8 harg8 x0 x1 x2 x3 x4 x5 hc0 k).trans (zero_add _).symm
    · exact (out_A7_1 c i arg1 harg1 arg2 harg2 arg3 harg3 arg4 harg4 arg5 harg5 arg6 harg6 arg7 harg7 arg8 harg8 x0 x1 x2 x3 x4 x5 hc0 k).trans (zero_add _).symm
    · exact (out_A7_2 c i arg1 harg1 arg2 harg2 arg3 harg3 arg4 harg4 arg5 harg5 arg6 harg6 arg7 harg7 arg8 harg8 x0 x1 x2 x3 x4 x5 hc0 k).trans (zero_add _).symm

/-- The rows past the third are left as they were at later points. -/
theorem out_B7_rest (hc0 : ¬ cond0_0 i) (xo7 : Vec Ideal S8x1024 .f32) (j : Fin 8) (hj : 3 ≤ j.val) (k : Fin 1024) :
    out0_B_7 c i arg1 harg1 arg2 harg2 arg3 harg3 arg4 harg4 arg5 harg5 arg6 harg6 arg7 harg7 arg8 harg8 hc0 x0 x1 x2 x3 x4 x5 xo7 (ix2 j k) = xo7 (ix2 j k) := by
  unfold out0_B_7
  unfold kernelRun0_B
  dsimp only
  sl_unfold_words
  refine (read_writes_miss _ _ _ _ _ _ 0 (Or.inr (by show 2 + 1 ≤ j.val; omega))).trans ?_
  refine (read_writes_miss _ _ _ _ _ _ 0 (Or.inr (by show 1 + 1 ≤ j.val; omega))).trans ?_
  refine (read_writes_miss _ _ _ _ _ _ 0 (Or.inr (by show 0 + 1 ≤ j.val; omega))).trans ?_
  refine (read_writes_miss _ _ _ _ _ _ 0 (Or.inr (by show 2 + 1 ≤ j.val; omega))).trans ?_
  refine (read_writes_miss _ _ _ _ _ _ 0 (Or.inr (by show 1 + 1 ≤ j.val; omega))).trans ?_
  refine (read_writes_miss _ _ _ _ _ _ 0 (Or.inr (by show 0 + 1 ≤ j.val; omega))).trans ?_
  exact congrFun (harg8.read_unread xo7) _

/-- The column sums after a later point. -/
theorem out_B7 (hc0 : ¬ cond0_0 i) (xo7 : Vec Ideal S8x1024 .f32) (j : Fin 8) (k : Fin 1024) :
    out0_B_7 c i arg1 harg1 arg2 harg2 arg3 harg3 arg4 harg4 arg5 harg5 arg6 harg6 arg7 harg7 arg8 harg8 hc0 x0 x1 x2 x3 x4 x5 xo7 (ix2 j k) = xo7 (ix2 j k) + ∑ r : Fin 512, vsBlk x0 x1 x2 x4 x5 j r k := by
  by_cases hj : 3 ≤ j.val
  · rw [out_B7_rest c i arg1 harg1 arg2 harg2 arg3 harg3 arg4 harg4 arg5 harg5 arg6 harg6 arg7 harg7 arg8 harg8 x0 x1 x2 x3 x4 x5 hc0 xo7 j hj k]
    have hz : ∀ r : Fin 512, vsBlk x0 x1 x2 x4 x5 j r k = 0 := fun r => by
      unfold vsBlk inVs
      rw [if_neg (fun h => by subst h; omega), if_neg (fun h => by subst h; simp at hj), if_neg (fun h => by subst h; simp at hj)]
    simp only [hz, Finset.sum_const_zero, add_zero]
  · have : j = 0 ∨ j = 1 ∨ j = 2 := by
      rcases j with ⟨v, hv⟩
      simp only [Fin.ext_iff, Fin.val_zero, Fin.val_one, Fin.val_two] at hj ⊢
      omega
    rcases this with rfl | rfl | rfl
    · exact out_B7_0 c i arg1 harg1 arg2 harg2 arg3 harg3 arg4 harg4 arg5 harg5 arg6 harg6 arg7 harg7 arg8 harg8 x0 x1 x2 x3 x4 x5 hc0 xo7 k
    · exact out_B7_1 c i arg1 harg1 arg2 harg2 arg3 harg3 arg4 harg4 arg5 harg5 arg6 harg6 arg7 harg7 arg8 harg8 x0 x1 x2 x3 x4 x5 hc0 xo7 k
    · exact out_B7_2 c i arg1 harg1 arg2 harg2 arg3 harg3 arg4 harg4 arg5 harg5 arg6 harg6 arg7 harg7 arg8 harg8 x0 x1 x2 x3 x4 x5 hc0 xo7 k

end Cert.InBwdIdeal.Val

end
-- ==== Proof.InArray.lean ====
/-
  The two result arrays of the gradient of the input projection after the run: every row of the gradient of x, and the
  column sums over all 4096 rows.
-/
module

public import proofs.«01_k».proof.Proof.InBlock
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InBwdIdeal.Val

open Cert.InBwdIdeal Cert.InBwdIdeal.Gen Step
open Idealize.ShloMosaic.Pipeline (Dat)

variable (m : (ℓ : Loc nD τ sig) → Buf (Elt Ideal) ℓ) (ρ : Dev nD → PrngReg)

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] :=
  (by decide +kernel : ∀ t : Fin grid0.N, _)

theorem lt8 (t : Fin cfg0.N) : t.val < 8 := lt_of_lt_of_eq t.isLt N_0

/-- The argument arrays as extended reals. -/
abbrev aX (c : Dev nD) : Vec Ideal S4096x1024 .f32 := m ((c : Thread nD τ).loc main_arg0)
abbrev aG (c : Dev nD) : Vec Ideal S1x1024 .f32 := m ((c : Thread nD τ).loc main_arg1)
abbrev aS (c : Dev nD) : Vec Ideal S1x1024 .f32 := m ((c : Thread nD τ).loc main_arg2)
abbrev aW (c : Dev nD) : Vec Ideal S1024x2048 .f32 := m ((c : Thread nD τ).loc main_arg3)
abbrev aD (c : Dev nD) : Vec Ideal S4096x1024 .f32 := m ((c : Thread nD τ).loc main_arg4)
abbrev aZ (c : Dev nD) : Vec Ideal S4096x2048 .f32 := m ((c : Thread nD τ).loc main_arg5)

/-- Row `512 t + r`. -/
def row (t : Fin cfg0.N) (r : Fin 512) : Fin 4096 := ⟨t.val * 512 + r.val, by have := lt8 t; omega⟩

theorem blk0 (c : Dev nD) (t : Fin cfg0.N) (r : Fin 512) (j : Fin 2048) :
    (iblk m c 0 t : Vec Ideal S512x2048 .bf16) (ix2 r j) = aZ m c (ix2 (row t r) j) := by
  blk_simp [iblk]
  entry_read
  pointwise
  blk_ext [idx t, row]

theorem blk1 (c : Dev nD) (t : Fin cfg0.N) (k : Fin 1024) (j : Fin 2048) :
    (iblk m c 1 t : Vec Ideal S1024x2048 .bf16) (ix2 k j) = aW m c (ix2 k j) := by
  blk_simp [iblk]
  entry_read
  pointwise
  blk_ext [idx t]

theorem blk2 (c : Dev nD) (t : Fin cfg0.N) (r : Fin 512) (j : Fin 1024) :
    (iblk m c 2 t : Vec Ideal S512x1024 .f32) (ix2 r j) = aX m c (ix2 (row t r) j) := by
  blk_ext [iblk, V, idx t, row]

theorem blk3 (c : Dev nD) (t : Fin cfg0.N) (r : Fin 512) (j : Fin 1024) :
    (iblk m c 3 t : Vec Ideal S512x1024 .f32) (ix2 r j) = aD m c (ix2 (row t r) j) := by
  blk_ext [iblk, V, idx t, row]

theorem blk4 (c : Dev nD) (t : Fin cfg0.N) (j : Fin 1024) :
    (iblk m c 4 t : Vec Ideal S1x1024 .f32) (ix2 0 j) = aG m c (ix2 0 j) := by
  blk_ext [iblk, V, idx t]

theorem blk5 (c : Dev nD) (t : Fin cfg0.N) (j : Fin 1024) :
    (iblk m c 5 t : Vec Ideal S1x1024 .f32) (ix2 0 j) = aS m c (ix2 0 j) := by
  blk_ext [iblk, V, idx t]

/-- The gradient of x. -/
def gxArr (c : Dev nD) (i : Fin 4096) (k : Fin 1024) : EReal :=
  inGx (fun j => aZ m c (ix2 i j)) (fun k j => aW m c (ix2 k j)) (fun k => aX m c (ix2 i k)) (fun k => aD m c (ix2 i k))
    (fun k => aG m c (ix2 0 k)) (fun k => aS m c (ix2 0 k)) k

/-- Row `i`'s contribution to the column sums. -/
def vsTerm (c : Dev nD) (j : Fin 8) (i : Fin 4096) (k : Fin 1024) : EReal :=
  inVs j (fun j => aZ m c (ix2 i j)) (fun k j => aW m c (ix2 k j)) (fun k => aX m c (ix2 i k))
    (fun k => aG m c (ix2 0 k)) (fun k => aS m c (ix2 0 k)) k

theorem gxBlk_eq (c : Dev nD) (t : Fin cfg0.N) (r : Fin 512) (k : Fin 1024) :
    gxBlk (iblk m c 0 t) (iblk m c 1 t) (iblk m c 2 t) (iblk m c 3 t) (iblk m c 4 t) (iblk m c 5 t) r k = gxArr m c (row t r) k := by
  unfold gxBlk gxArr
  simp only [blk0, blk1, blk2, blk3, blk4, blk5]

theorem vsBlk_eq (c : Dev nD) (t : Fin cfg0.N) (j : Fin 8) (r : Fin 512) (k : Fin 1024) :
    vsBlk (iblk m c 0 t) (iblk m c 1 t) (iblk m c 2 t) (iblk m c 4 t) (iblk m c 5 t) j r k = vsTerm m c j (row t r) k := by
  unfold vsBlk vsTerm
  simp only [blk0, blk1, blk2, blk4, blk5]

/-- The gradient block after point `t`. -/
theorem outs6 (c : Dev nD) (t : Fin cfg0.N) (r : Fin 512) (k : Fin 1024) :
    (outsAt0 m c t.val t.isLt).1 (ix2 r k) = gxArr m c (row t r) k := by
  by_cases h0 : t.val % 8 = 0
  · rw [outsAt0_A m c t h0]
    dsimp only; rw [out_A6]; exact gxBlk_eq m c t r k
  · rw [outsAt0_B m c t h0]
    dsimp only; rw [out_B6]; exact gxBlk_eq m c t r k

/-- The column sums after the first point, -/
theorem outs7_A (c : Dev nD) (t : Fin cfg0.N) (h0 : t.val % 8 = 0) (j : Fin 8) (k : Fin 1024) :
    (outsAt0 m c t.val t.isLt).2 (ix2 j k) = 0 + ∑ r : Fin 512, vsTerm m c j (row t r) k := by
  rw [outsAt0_A m c t h0]
  dsimp only
  rw [out_A7]
  simp only [vsBlk_eq]

/-- and after a later point. -/
theorem outs7_B (c : Dev nD) (t : Fin cfg0.N) (h0 : ¬t.val % 8 = 0) (j : Fin 8) (k : Fin 1024) :
    (outsAt0 m c t.val t.isLt).2 (ix2 j k) = (outsAt0 m c (t.val - 1) (Nat.lt_of_le_of_lt (Nat.sub_le _ _) t.isLt)).2 (ix2 j k)
      + ∑ r : Fin 512, vsTerm m c j (row t r) k := by
  rw [outsAt0_B m c t h0]
  dsimp only
  rw [out_B7]
  simp only [vsBlk_eq]

/-- The last point. -/
def tLast : Fin cfg0.N := ⟨7, by rw [show cfg0.N = 8 from N_0]; decide⟩

/-- The column sums after the last point are sums over all rows. -/
theorem outs7_last (c : Dev nD) (j : Fin 8) (k : Fin 1024) :
    (outsAt0 m c tLast.val tLast.isLt).2 (ix2 j k) = ∑ i : Fin 4096, vsTerm m c j i k := by
  have h := Pipeline.eq_sum_fin_of_reset_step_apply_last (ι := Fin 8 × Fin 1024)
    (fun n h p => (outsAt0 m c n h).2 (ix2 p.1 p.2)) 8 (fun _ => (0 : EReal))
    (fun t p => ∑ r : Fin 512, vsTerm m c p.1 (row t r) p.2) (fun t h p => outs7_A m c t h p.1 p.2)
    (fun t h p => outs7_B m c t h p.1 p.2) (le_of_eq N_0) tLast N_0.symm (j, k)
  rw [zero_add] at h
  exact h.trans (Fin.sum_mul_add_fin 8 512 (fun i : Fin 4096 => vsTerm m c j i k))

/-- The gradient of x after the run. -/
theorem final6 (c : Dev nD) : (dats m 0 c).arrAt 6 cfg0.N
    = (fun i => gxArr m c (i 0) (i 1) : Vec Ideal S4096x1024 .f32) := by
  refine (dats m 0 c).arrAt_eq_of_covers 6 _ (by decide +kernel) fun t _ y => ?_
  blk_simp
  rw [after0_6]
  obtain ⟨r, k, rfl⟩ : ∃ r k, y = ix2 (n0 := 512) (n1 := 1024) r k := ⟨y 0, y 1, eq_ix2 y⟩
  refine (outs6 m c t r k).trans ?_
  have he : (win0_6.blk t).view.emb (ix2 r k) = ix2 (row t r) k := by blk_ext [idx t, row]
  rw [he]
  rfl

/-- The column sums after the run. -/
theorem final7 (c : Dev nD) : (dats m 0 c).arrAt 7 cfg0.N
    = (fun i => ∑ r : Fin 4096, vsTerm m c (i 0) r (i 1) : Vec Ideal S8x1024 .f32) := by
  refine (dats m 0 c).arrAt_eq_of_after_last 7 tLast (by decide +kernel) _ fun j => ?_
  blk_simp
  rw [after0_7]
  obtain ⟨r, k, rfl⟩ : ∃ r k, j = ix2 (n0 := 8) (n1 := 1024) r k := ⟨j 0, j 1, eq_ix2 j⟩
  exact outs7_last m c r k

end Cert.InBwdIdeal.Val

end
-- ==== Proof.Reals.lean ====
/-
The real numbers under the extended reals: which terms are real when the arguments are finite, and the
gradient of an RMS norm in the two forms in which it is written.
-/
module

public import proofs.«01_k».proof.Proof.Common
public import Idealize.ShloMosaic.Lib.ReduceAll
public import Idealize.ShloMosaic.Lib.Pointwise.Select

@[expose] public section

noncomputable section

open Idealize.ShloMosaic

namespace Step

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The word of `1024`. -/
theorem word_1024 : Ideal.ofBits .f32 1149239296#32 = ((1024 : ℝ) : EReal) := by
  simp [Ideal.ofBits, Ideal.ieee, -EReal.coe_mul]; norm_num

/-- The word of `1/2`. -/
theorem word_half : Ideal.ofBits .f32 1056964608#32 = ((1 / 2 : ℝ) : EReal) := by
  simp [Ideal.ofBits, Ideal.ieee, -EReal.coe_mul]; norm_num

/-- The word of `-1/2`. -/
theorem word_neg_half : Ideal.ofBits .f32 3204448256#32 = ((-(1 / 2) : ℝ) : EReal) := by
  simp [Ideal.ofBits, Ideal.ieee, -EReal.coe_mul]; norm_num

/-- The word added under the root of every RMS norm is a positive real number. -/
theorem word_eps : ∃ e : ℝ, 0 < e ∧ Ideal.ofBits .f32 897988541#32 = (e : EReal) := by
  refine ⟨(Ideal.ofBits .f32 897988541#32).toReal, ?_, ?_⟩ <;>
    simp [Ideal.ofBits, Ideal.ieee, -EReal.coe_mul] <;> norm_num

/-- The mean square of a row, with the small word added. -/
def meanSq (x : Fin 1024 → EReal) : EReal :=
  Ideal.div (∑ j, x j * x j) (Ideal.ofBits .f32 1149239296#32) + Ideal.ofBits .f32 897988541#32

theorem rinv_eq (x : Fin 1024 → EReal) : rinv x = Ideal.rsqrt (meanSq x) := rfl

/-- Of a real row the inverse root mean square `ρ` and the mean square `p` are real, and `ρ² p = 1`. -/
theorem rinv_real (x : Fin 1024 → ℝ) : ∃ ρ p : ℝ, 0 < p ∧ ρ * ρ * p = 1 ∧
    meanSq (fun k => (x k : EReal)) = (p : EReal) ∧ rinv (fun k => (x k : EReal)) = (ρ : EReal) := by
  obtain ⟨e, he, hw⟩ := word_eps
  have hs : 0 ≤ ∑ j, x j * x j := Finset.sum_nonneg fun j _ => mul_self_nonneg (x j)
  have hp : 0 < (∑ j, x j * x j) / 1024 + e := by positivity
  have hm : meanSq (fun k => (x k : EReal)) = (((∑ j, x j * x j) / 1024 + e : ℝ) : EReal) := by
    unfold meanSq
    rw [hw, word_1024]
    simp only [← EReal.coe_mul]
    rw [← coe_sum, Ideal.div_coe (by norm_num), ← EReal.coe_mul, ← EReal.coe_add, one_div, div_eq_mul_inv]
  refine ⟨(√((∑ j, x j * x j) / 1024 + e))⁻¹, _, hp, ?_, hm, ?_⟩
  · rw [← mul_inv, Real.mul_self_sqrt hp.le, inv_mul_cancel₀ hp.ne']
  · rw [rinv_eq, hm, Ideal.rsqrt_coe, if_neg (not_lt.2 hp.le), if_neg hp.ne']

theorem rinv_isReal {x : Fin 1024 → EReal} (h : ∀ k, IsReal (x k)) : IsReal (rinv x) := by
  choose y hy using h
  obtain ⟨ρ, p, _, _, _, hr⟩ := rinv_real y
  rw [show x = fun k => (y k : EReal) from funext hy]
  exact ⟨ρ, hr⟩

/-- The share of the mean square in the gradient of an RMS norm, as differentiation writes it: with `a` the gradient that
    reaches `x · r`, the gradient that reaches each `x²`'s two factors. -/
def sqGrad (x a : Fin 1024 → EReal) : EReal :=
  Ideal.div ((∑ j, x j * a j) * (Ideal.ofBits .f32 3204448256#32 * Ideal.div (rinv x) (meanSq x)))
    (Ideal.ofBits .f32 1149239296#32)

/-- THE GRADIENT OF AN RMS NORM: the kernel's `r (a − n · mean (a n))`, with `n = x r`, is the derivative of `x · rsqrt (mean x² + ε)`
    put together by the product rule. -/
theorem rms_grad {x a : Fin 1024 → EReal} (hx : ∀ k, IsReal (x k)) (ha : ∀ k, IsReal (a k)) (k : Fin 1024) :
    rmsBwd a (fun j => x j * rinv x) (rinv x) k = a k * rinv x + x k * sqGrad x a + sqGrad x a * x k := by
  choose y hy using hx
  choose b hb using ha
  obtain rfl : x = fun k => (y k : EReal) := funext hy
  obtain rfl : a = fun k => (b k : EReal) := funext hb
  obtain ⟨ρ, p, hp, h1, hm, hr⟩ := rinv_real y
  unfold rmsBwd sqGrad
  rw [hm, hr, word_1024, word_neg_half]
  simp only [Ideal.div_coe (show (1024 : ℝ) ≠ 0 by norm_num), Ideal.div_coe hp.ne', ← EReal.coe_mul, ← coe_sum,
    ← EReal.coe_sub, ← EReal.coe_add]
  congr 1
  have hpi : p⁻¹ = ρ * ρ := by
    rw [eq_comm, ← mul_one (ρ * ρ), ← mul_inv_cancel₀ hp.ne', ← mul_assoc, h1, one_mul]
  have hS : ∑ l, b l * (y l * ρ) = (∑ l, y l * b l) * ρ := by
    rw [Finset.sum_mul]; exact Finset.sum_congr rfl fun l _ => by ring
  rw [one_div p, hpi, hS]
  ring

/-- An element whose absolute value compares below infinity is a real number. -/
theorem isReal_of_olt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Every element of an array is real when "all of `|x| < inf`" is one. -/
theorem real_of_all {s t u v : Shape} {axes : List (Fin s.rank)} {dims : Fin v.rank → Fin s.rank} [Subsingleton t.Idx]
    (x : FVec Ideal s .f32) (hb : v.BroadcastsInDim s dims) (one : u.Idx → BitVec 1) (hr : s.ReducesTo axes t) (hu : 0 < u.numel)
    (j : t.Idx)
    (e : Host.reduce IntOp.andi (cmpf .olt (Host.absf x) (broadcastInDim s dims hb (constant v .f32 0x7F800000#32))) one hr hu j = 1#1)
    (i : s.Idx) : IsReal (x i) :=
  isReal_of_olt _ (Host.reduce_andi_all _ _ _ _ j e i)

end Step
end
-- ==== Proof.InRef.lean ====
/-
What the reference of `in_bwd` computes: the gradient of the input and the three gradients of the modulation
and of the gain, each element as the kernel's formula.
-/
module

public import proofs.«01_k».proof.Proof.Gen.InBwdRefIdeal.Run
public import proofs.«01_k».proof.Proof.Gen.InBwdRefIdeal.Read
public import proofs.«01_k».proof.Proof.Reals

@[expose] public section

set_option maxRecDepth 16384
noncomputable section

open Idealize.ShloMosaic Idealize.ShloMosaic.TcCoe Idealize.SL.Sem

namespace Cert.InBwdRefIdeal.Val

open Cert.InBwdRefIdeal Cert.InBwdRefIdeal.Gen Cert.InBwdRefIdeal.Read Step

variable (x0 : Vec Ideal S4096x1024 .f32) (x1 : Vec Ideal S1x1024 .f32) (x2 : Vec Ideal S1x1024 .f32) (x3 : Vec Ideal S1024x2048 .f32)
  (x4 : Vec Ideal S4096x1024 .f32) (x5 : Vec Ideal S4096x2048 .f32)

/-- The gradient of the input as differentiation writes it. -/
theorem gx_raw (i : Fin 4096) (k : Fin 1024) : val_main_v52 (F := Ideal) x0 x1 x2 x3 x4 x5 (ix2 i k) =
    x4 (ix2 i k) + dotT (fun j => x5 (ix2 i j)) (fun k j => x3 (ix2 k j)) k * (1 + x2 (ix2 0 k)) * x1 (ix2 0 k) * rinv (fun k => x0 (ix2 i k))
      + x0 (ix2 i k) * sqGrad (fun k => x0 (ix2 i k))
          (fun k => dotT (fun j => x5 (ix2 i j)) (fun k j => x3 (ix2 k j)) k * (1 + x2 (ix2 0 k)) * x1 (ix2 0 k))
      + sqGrad (fun k => x0 (ix2 i k))
          (fun k => dotT (fun j => x5 (ix2 i j)) (fun k j => x3 (ix2 k j)) k * (1 + x2 (ix2 0 k)) * x1 (ix2 0 k)) * x0 (ix2 i k) := by
  pointwise [val_main_cst, val_main_v0, val_main_v1, val_main_cst_0, val_main_v2, val_main_v3, val_main_cst_1, val_main_v4,
    val_main_v5, val_main_cst_2, val_main_v6, val_main_v7, val_main_v8, val_main_v9, val_main_cst_3, val_main_v10,
    val_main_v11, val_main_v12, val_main_v13, val_main_v14, val_main_v15, val_main_cst_4, val_main_v16, val_main_v17,
    val_main_v18, val_main_v19, val_main_v20, val_main_v21, val_main_v22, val_main_v23, val_main_v24, val_main_v25,
    val_main_cst_5, val_main_v26, val_main_v27, val_main_v28, val_main_cst_6, val_main_v29, val_main_v30, val_main_v31,
    val_main_v32, val_main_v33, val_main_cst_7, val_main_v34, val_main_v35, val_main_v36, val_main_v37, val_main_v38,
    val_main_cst_8, val_main_v39, val_main_v40, val_main_v41, val_main_v42, val_main_v43, val_main_v44, val_main_cst_9,
    val_main_v45, val_main_v46, val_main_cst_10, val_main_v47, val_main_v48, val_main_v49, val_main_v50, val_main_v51,
    val_main_v52, val_main_cst_11, val_main_v53, val_main_v54]
  simp only [Finset.univ_unique, Finset.sum_singleton]
  rfl

/-- The gradient of the input is the kernel's, of finite arguments. -/
theorem gx_eq (h0 : ∀ i, IsReal (x0 i)) (h1 : ∀ i, IsReal (x1 i)) (h2 : ∀ i, IsReal (x2 i)) (h3 : ∀ i, IsReal (x3 i))
    (h5 : ∀ i, IsReal (x5 i)) (i : Fin 4096) (k : Fin 1024) : val_main_v52 (F := Ideal) x0 x1 x2 x3 x4 x5 (ix2 i k) =
    inGx (fun j => x5 (ix2 i j)) (fun k j => x3 (ix2 k j)) (fun k => x0 (ix2 i k)) (fun k => x4 (ix2 i k))
      (fun k => x1 (ix2 0 k)) (fun k => x2 (ix2 0 k)) k := by
  rw [gx_raw]
  have e := rms_grad (x := fun k => x0 (ix2 i k))
    (a := fun k => dotT (fun j => x5 (ix2 i j)) (fun k j => x3 (ix2 k j)) k * (1 + x2 (ix2 0 k)) * x1 (ix2 0 k))
    (fun k => h0 _) (fun k => ((IsReal.sum _ fun j => (h5 _).mul (h3 _)).mul (IsReal.one.add (h2 _))).mul (h1 _)) k
  unfold inGx
  dsimp only
  rw [e, ← add_assoc, ← add_assoc]

/-- The gradients of the shift, the scale and the gain, stacked above five rows of zeros. -/
def vs : Vec Ideal S8x1024 .f32 :=
  concatenate S8x1024 0 [⟨S1x1024, val_main_v27 (F := Ideal) x3 x5⟩, ⟨S1x1024, val_main_v30 (F := Ideal) x0 x1 x3 x5⟩,
    ⟨S1x1024, val_main_v35 (F := Ideal) x0 x2 x3 x5⟩, ⟨S5x1024, val_main_v53 (F := Ideal)⟩]
    concatenates_S1x1024_S1x1024_S1x1024_S5x1024_S8x1024_d0

/-- Each row of the stack is the column sum of the kernel's terms. -/
theorem vs_eq (j : Fin 8) (k : Fin 1024) : vs x0 x1 x2 x3 x5 (ix2 j k) =
    ∑ r : Fin 4096, inVs j (fun j => x5 (ix2 r j)) (fun k j => x3 (ix2 k j)) (fun k => x0 (ix2 r k))
      (fun k => x1 (ix2 0 k)) (fun k => x2 (ix2 0 k)) k := by
  fin_cases j
  · pointwise [vs, val_main_cst, val_main_v0, val_main_v1, val_main_cst_0, val_main_v2, val_main_v3, val_main_cst_1, val_main_v4,
    val_main_v5, val_main_cst_2, val_main_v6, val_main_v7, val_main_v8, val_main_v9, val_main_cst_3, val_main_v10,
    val_main_v11, val_main_v12, val_main_v13, val_main_v14, val_main_v15, val_main_cst_4, val_main_v16, val_main_v17,
    val_main_v18, val_main_v19, val_main_v20, val_main_v21, val_main_v22, val_main_v23, val_main_v24, val_main_v25,
    val_main_cst_5, val_main_v26, val_main_v27, val_main_v28, val_main_cst_6, val_main_v29, val_main_v30, val_main_v31,
    val_main_v32, val_main_v33, val_main_cst_7, val_main_v34, val_main_v35, val_main_v36, val_main_v37, val_main_v38,
    val_main_cst_8, val_main_v39, val_main_v40, val_main_v41, val_main_v42, val_main_v43, val_main_v44, val_main_cst_9,
    val_main_v45, val_main_v46, val_main_cst_10, val_main_v47, val_main_v48, val_main_v49, val_main_v50, val_main_v51,
    val_main_v52, val_main_cst_11, val_main_v53, val_main_v54]
    rfl
  · pointwise [vs, val_main_cst, val_main_v0, val_main_v1, val_main_cst_0, val_main_v2, val_main_v3, val_main_cst_1, val_main_v4,
    val_main_v5, val_main_cst_2, val_main_v6, val_main_v7, val_main_v8, val_main_v9, val_main_cst_3, val_main_v10,
    val_main_v11, val_main_v12, val_main_v13, val_main_v14, val_main_v15, val_main_cst_4, val_main_v16, val_main_v17,
    val_main_v18, val_main_v19, val_main_v20, val_main_v21, val_main_v22, val_main_v23, val_main_v24, val_main_v25,
    val_main_cst_5, val_main_v26, val_main_v27, val_main_v28, val_main_cst_6, val_main_v29, val_main_v30, val_main_v31,
    val_main_v32, val_main_v33, val_main_cst_7, val_main_v34, val_main_v35, val_main_v36, val_main_v37, val_main_v38,
    val_main_cst_8, val_main_v39, val_main_v40, val_main_v41, val_main_v42, val_main_v43, val_main_v44, val_main_cst_9,
    val_main_v45, val_main_v46, val_main_cst_10, val_main_v47, val_main_v48, val_main_v49, val_main_v50, val_main_v51,
    val_main_v52, val_main_cst_11, val_main_v53, val_main_v54]
    exact Finset.sum_congr rfl fun r _ => by rw [mul_comm, ← mul_assoc]; rfl
  · pointwise [vs, val_main_cst, val_main_v0, val_main_v1, val_main_cst_0, val_main_v2, val_main_v3, val_main_cst_1, val_main_v4,
    val_main_v5, val_main_cst_2, val_main_v6, val_main_v7, val_main_v8, val_main_v9, val_main_cst_3, val_main_v10,
    val_main_v11, val_main_v12, val_main_v13, val_main_v14, val_main_v15, val_main_cst_4, val_main_v16, val_main_v17,
    val_main_v18, val_main_v19, val_main_v20, val_main_v21, val_main_v22, val_main_v23, val_main_v24, val_main_v25,
    val_main_cst_5, val_main_v26, val_main_v27, val_main_v28, val_main_cst_6, val_main_v29, val_main_v30, val_main_v31,
    val_main_v32, val_main_v33, val_main_cst_7, val_main_v34, val_main_v35, val_main_v36, val_main_v37, val_main_v38,
    val_main_cst_8, val_main_v39, val_main_v40, val_main_v41, val_main_v42, val_main_v43, val_main_v44, val_main_cst_9,
    val_main_v45, val_main_v46, val_main_cst_10, val_main_v47, val_main_v48, val_main_v49, val_main_v50, val_main_v51,
    val_main_v52, val_main_cst_11, val_main_v53, val_main_v54]
    exact Finset.sum_congr rfl fun r _ => by rw [mul_comm]; rfl
  all_goals
    pointwise [vs, val_main_cst, val_main_v0, val_main_v1, val_main_cst_0, val_main_v2, val_main_v3, val_main_cst_1, val_main_v4,
    val_main_v5, val_main_cst_2, val_main_v6, val_main_v7, val_main_v8, val_main_v9, val_main_cst_3, val_main_v10,
    val_main_v11, val_main_v12, val_main_v13, val_main_v14, val_main_v15, val_main_cst_4, val_main_v16, val_main_v17,
    val_main_v18, val_main_v19, val_main_v20, val_main_v21, val_main_v22, val_main_v23, val_main_v24, val_main_v25,
    val_main_cst_5, val_main_v26, val_main_v27, val_main_v28, val_main_cst_6, val_main_v29, val_main_v30, val_main_v31,
    val_main_v32, val_main_v33, val_main_cst_7, val_main_v34, val_main_v35, val_main_v36, val_main_v37, val_main_v38,
    val_main_cst_8, val_main_v39, val_main_v40, val_main_v41, val_main_v42, val_main_v43, val_main_v44, val_main_cst_9,
    val_main_v45, val_main_v46, val_main_cst_10, val_main_v47, val_main_v48, val_main_v49, val_main_v50, val_main_v51,
    val_main_v52, val_main_cst_11, val_main_v53, val_main_v54]
    simp [inVs]

end Cert.InBwdRefIdeal.Val
end
-- ==== Proof.InProof.lean ====
/-
The claims on `in_bwd`: the kernel's run and the reference's end with the same two arrays.
-/
module

public import proofs.«01_k».proof.Defs
public import proofs.«01_k».proof.Proof.InArray
public import proofs.«01_k».proof.Proof.InRef
public import proofs.«01_k».proof.Proof.Gen.InBwd
public import proofs.«01_k».proof.Proof.Gen.InBwd.Frame
public import proofs.«01_k».proof.Proof.Gen.Pre_in_finite

@[expose] public section

noncomputable section

open Idealize.ShloMosaic Idealize.ShloMosaic.TcCoe Idealize.SL.Sem

namespace Cert.InBwdIdeal.Val

open Cert.InBwdIdeal Cert.InBwdIdeal.Gen Step

variable (m : (ℓ : Loc nD τ sig) → Buf (Elt Ideal) ℓ)

/-- The precondition: every element of the six arguments is a real number. -/
theorem reals (h : Cert.Pre_InBwdIdeal_in_finite m) (c : Dev nD) :
    (∀ i, IsReal (aX m c i)) ∧ (∀ i, IsReal (aG m c i)) ∧ (∀ i, IsReal (aS m c i)) ∧ (∀ i, IsReal (aW m c i))
      ∧ (∀ i, IsReal (aD m c i)) ∧ (∀ i, IsReal (aZ m c i)) := by
  have e := congrFun (h c) default
  simp only [Cert.Pre_in_finite.fn, Cert.Pre_in_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e5⟩

/-- Kernel and reference compute the same gradients. -/
theorem algebraic : Cert.algebraic_InBwdIdeal_InBwdRefIdeal_pre_in_finite := by
  intro m g m' g' hp hm
  refine ⟨fun c => (dats m 0 c).arrAt 6 cfg0.N, fun c => (dats m 0 c).arrAt 7 cfg0.N, Value.run_blocks m g, ?_⟩
  refine (θ_run Cert.InBwdRefIdeal.defs _ _).mono (fun r h c => ?_) (Cert.InBwdRefIdeal.Value.run (F := Ideal) m' g')
  obtain ⟨h0, h1, hk⟩ := h c
  obtain ⟨q0, q1, q2, q3, q4, q5⟩ := hm c
  obtain ⟨r0, r1, r2, r3, r4, r5⟩ := reals m hp c
  refine ⟨h0.trans (Eq.trans ?_ (final6 m c).symm), h1.trans (Eq.trans ?_ (final7 m c).symm), hk⟩
  · funext i
    obtain ⟨a, b, rfl⟩ : ∃ (a : Fin 4096) (b : Fin 1024), i = ix2 a b := ⟨i 0, i 1, by ext x; fin_cases x <;> rfl⟩
    rw [Cert.InBwdRefIdeal.Read.val_main_v52_eq, q0, q1, q2, q3, q4, q5]
    exact Cert.InBwdRefIdeal.Val.gx_eq _ _ _ _ _ _ r0 r1 r2 r3 r5 a b
  · funext i
    obtain ⟨a, b, rfl⟩ : ∃ (a : Fin 8) (b : Fin 1024), i = ix2 a b := ⟨i 0, i 1, by ext x; fin_cases x <;> rfl⟩
    rw [q0, q1, q2, q3, q5]
    exact Cert.InBwdRefIdeal.Val.vs_eq (aX m c) (aG m c) (aS m c) (aW m c) (aZ m c) a b

/-- The reference leaves its arguments as they were; it has no semaphore. -/
theorem frame_ref : Cert.quiescent_InBwdRefIdeal := fun m g _ =>
  (θ_run Cert.InBwdRefIdeal.defs _ _).mono (fun _ h => ⟨fun c => (h c).2.2, sem_eq_zero_of_no_sems (by decide) _⟩)
    (Cert.InBwdRefIdeal.Value.run (F := Ideal) m g)

/-- Every claim on `in_bwd`. -/
theorem claims : Cert.quiescent_InBwd ∧ Cert.quiescent_InBwdIdeal ∧ Cert.quiescent_InBwdIdeal_pre_in_finite
    ∧ Cert.quiescent_InBwdRefIdeal ∧ Cert.quiescent_InBwdRefIdeal_pre_in_finite ∧ Cert.preserves_InBwd_InBwdIdeal
    ∧ Cert.algebraic_InBwdIdeal_InBwdRefIdeal_pre_in_finite :=
  ⟨fun m g _ => Cert.InBwd.Gen.frame m g, fun m g _ => Cert.InBwdIdeal.Gen.frame m g, fun m g _ => Cert.InBwdIdeal.Gen.frame m g,
    frame_ref, fun m g _ => frame_ref m g trivial, trivial, algebraic⟩

end Cert.InBwdIdeal.Val
end
-- ==== Proof.UpRows.lean ====
/-
  One row of the gradient through the up-projection, the norm before it, the mixer's gated post-norm and the output
  projection.
-/
module

public import proofs.«01_k».proof.Proof.Common

@[expose] public section

noncomputable section

open Idealize.ShloMosaic

namespace Step

/-- The gradient of a modulated row: the incoming gradient `du` times the transposed weight, in eight blocks of 768
columns, four in each half. -/
def upH (du : Fin 2 → Fin 3072 → EReal) (wu : Fin 8 → Fin 1024 → Fin 768 → EReal) (k : Fin 1024) : EReal :=
  (∑ j : Fin 768, du 0 ⟨j.val, by omega⟩ * wu 0 k j) + (∑ j : Fin 768, du 0 ⟨768 + j.val, by omega⟩ * wu 1 k j)
    + (∑ j : Fin 768, du 0 ⟨1536 + j.val, by omega⟩ * wu 2 k j) + (∑ j : Fin 768, du 0 ⟨2304 + j.val, by omega⟩ * wu 3 k j)
    + (∑ j : Fin 768, du 1 ⟨j.val, by omega⟩ * wu 4 k j) + (∑ j : Fin 768, du 1 ⟨768 + j.val, by omega⟩ * wu 5 k j)
    + (∑ j : Fin 768, du 1 ⟨1536 + j.val, by omega⟩ * wu 6 k j) + (∑ j : Fin 768, du 1 ⟨2304 + j.val, by omega⟩ * wu 7 k j)

/-- The gradient of the mixer's output row `x` from the modulated row's gradient `h`, with the gradient `d` that passes
the block, the gain `g` and the scale `s`. -/
def upX1 (h x d g s : Fin 1024 → EReal) (k : Fin 1024) : EReal :=
  d k + rmsBwd (fun k => h k * (1 + s k) * g k) (fun k => x k * rinv x) (rinv x) k

/-- The gradient of the output projection's row `y` from the gradient `e` of the mixer's output, with the post-norm's
gain `g` and the residual gate `t`. -/
def upY (e y g t : Fin 1024 → EReal) (k : Fin 1024) : EReal :=
  rmsBwd (fun k => e k * t k * g k) (fun k => y k * rinv y) (rinv y) k

/-- A row's contribution to the gradients of the shift (0), the scale (1), the gain (2), the residual gate (3) and the
post-norm's gain (4). -/
def upVs (j : Fin 8) (h x g s e y p t : Fin 1024 → EReal) (k : Fin 1024) : EReal :=
  if j = 0 then h k else if j = 1 then h k * (x k * rinv x * g k)
    else if j = 2 then h k * (1 + s k) * (x k * rinv x) else if j = 3 then e k * (y k * rinv y) * p k
    else if j = 4 then e k * t k * (y k * rinv y) else 0

end Step

end
-- ==== Proof.UpBlock.lean ====
/-
  What one grid point of the gradient of the up-projection leaves in its three row blocks: 512 rows each of the gradient
  of the mixer's output, of the output projection's result and of its argument.
-/
module

public import proofs.«01_k».proof.Proof.Gen.UpBwdIdeal.Value
public import proofs.«01_k».proof.Proof.UpRows
public import Idealize.ShloMosaic.Lib.Pointwise
public import Idealize.ShloMosaic.Lib.Pointwise.Blocks
public import Idealize.ShloMosaic.Lib.Tactic

@[expose] public section

set_option maxRecDepth 16384

noncomputable section

open Idealize.ShloMosaic Idealize.ShloMosaic.TcCoe Idealize.SL.Sem

namespace Cert.UpBwdIdeal.Val

open Cert.UpBwdIdeal Cert.UpBwdIdeal.Gen Step

variable (c : Dev nD) (i : grid0.Coords) (arg1 : Memref sig .tc .vmem S2x512x3072 .bf16) (harg1 : arg1.IsWhole) (arg2 : Memref sig .tc .vmem S8x1024x768 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x1024 .f32) (harg14 : arg14.IsWhole)
    (x0 : Vec Ideal S2x512x3072 .bf16) (x1 : Vec Ideal S8x1024x768 .bf16) (x2 : Vec Ideal S512x1024 .f32) (x3 : Vec Ideal S512x1024 .f32) (x4 : Vec Ideal S512x1024 .f32) (x5 : Vec Ideal S1024x1024 .bf16) (x6 : Vec Ideal S1x1024 .f32) (x7 : Vec Ideal S1x1024 .f32) (x8 : Vec Ideal S1x1024 .f32) (x9 : Vec Ideal S1x1024 .f32)

/-- Row `r`'s gradient of the modulated rows. -/
def hBlk (r : Fin 512) : Fin 1024 → EReal :=
  upH (fun b j => x0 (ix3 b r j)) (fun b k j => x1 (ix3 b k j))

/-- Row `r`'s gradient of the mixer's output. -/
def xBlk (r : Fin 512) : Fin 1024 → EReal :=
  upX1 (hBlk x0 x1 r) (fun k => x2 (ix2 r k)) (fun k => x3 (ix2 r k)) (fun k => x6 (ix2 0 k)) (fun k => x7 (ix2 0 k))

/-- Row `r`'s gradient of the output projection's result. -/
def yBlk (r : Fin 512) : Fin 1024 → EReal :=
  upY (xBlk x0 x1 x2 x3 x6 x7 r) (fun k => x4 (ix2 r k)) (fun k => x8 (ix2 0 k)) (fun k => x9 (ix2 0 k))

/-- Row `r`'s gradient of the output projection's argument. -/
def cBlk (r : Fin 512) : Fin 1024 → EReal :=
  dotT (yBlk x0 x1 x2 x3 x4 x6 x7 x8 x9 r) (fun k j => x5 (ix2 k j))

/-- Row `r`'s contribution to the column sums. -/
def vsBlk (j : Fin 8) (r : Fin 512) : Fin 1024 → EReal :=
  upVs j (hBlk x0 x1 r) (fun k => x2 (ix2 r k)) (fun k => x6 (ix2 0 k)) (fun k => x7 (ix2 0 k)) (xBlk x0 x1 x2 x3 x6 x7 r)
    (fun k => x4 (ix2 r k)) (fun k => x8 (ix2 0 k)) (fun k => x9 (ix2 0 k))

/-- The upper 256 rows of the gradient of the mixer's output, first point. -/
theorem out_A10_256 (hc0 : cond0_0 i) (r : Fin 256) (k : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 ⟨256 + r.val, by omega⟩ k) = xBlk x0 x1 x2 x3 x6 x7 ⟨256 + r.val, by omega⟩ k := by
  unfold out0_A_10
  rw [View.read_writes_junk_eq_canon]
  unfold kernelRun0_A
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- The lower 256 rows of the gradient of the mixer's output, first point. -/
theorem out_A10_0 (hc0 : cond0_0 i) (r : Fin 256) (k : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 ⟨0 + r.val, by omega⟩ k) = xBlk x0 x1 x2 x3 x6 x7 ⟨0 + r.val, by omega⟩ k := by
  unfold out0_A_10
  rw [View.read_writes_junk_eq_canon]
  unfold kernelRun0_A
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- All 512 rows of the gradient of the mixer's output, first point. -/
theorem out_A10 (hc0 : cond0_0 i) (r : Fin 512) (k : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r k) = xBlk x0 x1 x2 x3 x6 x7 r k := by
  rcases lt_or_ge r.val 256 with h | h
  · have e : r = ⟨0 + (⟨r.val, h⟩ : Fin 256).val, by omega⟩ := Fin.ext (by simp)
    rw [e]; exact out_A10_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 ⟨r.val, h⟩ k
  · have e : r = ⟨256 + (⟨r.val - 256, by omega⟩ : Fin 256).val, by omega⟩ := Fin.ext (by show r.val = 256 + (r.val - 256); omega)
    rw [e]; exact out_A10_256 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 ⟨r.val - 256, by omega⟩ k

/-- The upper 256 rows of the gradient of the mixer's output, later points. -/
theorem out_B10_256 (hc0 : ¬ cond0_0 i) (xo13 : Vec Ideal S8x1024 .f32) (r : Fin 256) (k : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 ⟨256 + r.val, by omega⟩ k) = xBlk x0 x1 x2 x3 x6 x7 ⟨256 + r.val, by omega⟩ k := by
  unfold out0_B_10
  rw [View.read_writes_junk_eq_canon]
  unfold kernelRun0_B
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- The lower 256 rows of the gradient of the mixer's output, later points. -/
theorem out_B10_0 (hc0 : ¬ cond0_0 i) (xo13 : Vec Ideal S8x1024 .f32) (r : Fin 256) (k : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 ⟨0 + r.val, by omega⟩ k) = xBlk x0 x1 x2 x3 x6 x7 ⟨0 + r.val, by omega⟩ k := by
  unfold out0_B_10
  rw [View.read_writes_junk_eq_canon]
  unfold kernelRun0_B
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- All 512 rows of the gradient of the mixer's output, later points. -/
theorem out_B10 (hc0 : ¬ cond0_0 i) (xo13 : Vec Ideal S8x1024 .f32) (r : Fin 512) (k : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 r k) = xBlk x0 x1 x2 x3 x6 x7 r k := by
  rcases lt_or_ge r.val 256 with h | h
  · have e : r = ⟨0 + (⟨r.val, h⟩ : Fin 256).val, by omega⟩ := Fin.ext (by simp)
    rw [e]; exact out_B10_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 ⟨r.val, h⟩ k
  · have e : r = ⟨256 + (⟨r.val - 256, by omega⟩ : Fin 256).val, by omega⟩ := Fin.ext (by show r.val = 256 + (r.val - 256); omega)
    rw [e]; exact out_B10_256 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 ⟨r.val - 256, by omega⟩ k

/-- The upper 256 rows of the gradient of the output projection's result, first point. -/
theorem out_A11_256 (hc0 : cond0_0 i) (r : Fin 256) (k : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 ⟨256 + r.val, by omega⟩ k) = yBlk x0 x1 x2 x3 x4 x6 x7 x8 x9 ⟨256 + r.val, by omega⟩ k := by
  unfold out0_A_11
  rw [View.read_writes_junk_eq_canon]
  unfold kernelRun0_A
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- The lower 256 rows of the gradient of the output projection's result, first point. -/
theorem out_A11_0 (hc0 : cond0_0 i) (r : Fin 256) (k : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 ⟨0 + r.val, by omega⟩ k) = yBlk x0 x1 x2 x3 x4 x6 x7 x8 x9 ⟨0 + r.val, by omega⟩ k := by
  unfold out0_A_11
  rw [View.read_writes_junk_eq_canon]
  unfold kernelRun0_A
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- All 512 rows of the gradient of the output projection's result, first point. -/
theorem out_A11 (hc0 : cond0_0 i) (r : Fin 512) (k : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r k) = yBlk x0 x1 x2 x3 x4 x6 x7 x8 x9 r k := by
  rcases lt_or_ge r.val 256 with h | h
  · have e : r = ⟨0 + (⟨r.val, h⟩ : Fin 256).val, by omega⟩ := Fin.ext (by simp)
    rw [e]; exact out_A11_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 ⟨r.val, h⟩ k
  · have e : r = ⟨256 + (⟨r.val - 256, by omega⟩ : Fin 256).val, by omega⟩ := Fin.ext (by show r.val = 256 + (r.val - 256); omega)
    rw [e]; exact out_A11_256 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 ⟨r.val - 256, by omega⟩ k

/-- The upper 256 rows of the gradient of the output projection's result, later points. -/
theorem out_B11_256 (hc0 : ¬ cond0_0 i) (xo13 : Vec Ideal S8x1024 .f32) (r : Fin 256) (k : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 ⟨256 + r.val, by omega⟩ k) = yBlk x0 x1 x2 x3 x4 x6 x7 x8 x9 ⟨256 + r.val, by omega⟩ k := by
  unfold out0_B_11
  rw [View.read_writes_junk_eq_canon]
  unfold kernelRun0_B
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- The lower 256 rows of the gradient of the output projection's result, later points. -/
theorem out_B11_0 (hc0 : ¬ cond0_0 i) (xo13 : Vec Ideal S8x1024 .f32) (r : Fin 256) (k : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 ⟨0 + r.val, by omega⟩ k) = yBlk x0 x1 x2 x3 x4 x6 x7 x8 x9 ⟨0 + r.val, by omega⟩ k := by
  unfold out0_B_11
  rw [View.read_writes_junk_eq_canon]
  unfold kernelRun0_B
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- All 512 rows of the gradient of the output projection's result, later points. -/
theorem out_B11 (hc0 : ¬ cond0_0 i) (xo13 : Vec Ideal S8x1024 .f32) (r : Fin 512) (k : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 r k) = yBlk x0 x1 x2 x3 x4 x6 x7 x8 x9 r k := by
  rcases lt_or_ge r.val 256 with h | h
  · have e : r = ⟨0 + (⟨r.val, h⟩ : Fin 256).val, by omega⟩ := Fin.ext (by simp)
    rw [e]; exact out_B11_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 ⟨r.val, h⟩ k
  · have e : r = ⟨256 + (⟨r.val - 256, by omega⟩ : Fin 256).val, by omega⟩ := Fin.ext (by show r.val = 256 + (r.val - 256); omega)
    rw [e]; exact out_B11_256 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 ⟨r.val - 256, by omega⟩ k

/-- The upper 256 rows of the gradient of the output projection's argument, first point. -/
theorem out_A12_256 (hc0 : cond0_0 i) (r : Fin 256) (k : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 ⟨256 + r.val, by omega⟩ k) = cBlk x0 x1 x2 x3 x4 x5 x6 x7 x8 x9 ⟨256 + r.val, by omega⟩ k := by
  unfold out0_A_12
  rw [View.read_writes_junk_eq_canon]
  unfold kernelRun0_A
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- The lower 256 rows of the gradient of the output projection's argument, first point. -/
theorem out_A12_0 (hc0 : cond0_0 i) (r : Fin 256) (k : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 ⟨0 + r.val, by omega⟩ k) = cBlk x0 x1 x2 x3 x4 x5 x6 x7 x8 x9 ⟨0 + r.val, by omega⟩ k := by
  unfold out0_A_12
  rw [View.read_writes_junk_eq_canon]
  unfold kernelRun0_A
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- All 512 rows of the gradient of the output projection's argument, first point. -/
theorem out_A12 (hc0 : cond0_0 i) (r : Fin 512) (k : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r k) = cBlk x0 x1 x2 x3 x4 x5 x6 x7 x8 x9 r k := by
  rcases lt_or_ge r.val 256 with h | h
  · have e : r = ⟨0 + (⟨r.val, h⟩ : Fin 256).val, by omega⟩ := Fin.ext (by simp)
    rw [e]; exact out_A12_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 ⟨r.val, h⟩ k
  · have e : r = ⟨256 + (⟨r.val - 256, by omega⟩ : Fin 256).val, by omega⟩ := Fin.ext (by show r.val = 256 + (r.val - 256); omega)
    rw [e]; exact out_A12_256 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 ⟨r.val - 256, by omega⟩ k

/-- The upper 256 rows of the gradient of the output projection's argument, later points. -/
theorem out_B12_256 (hc0 : ¬ cond0_0 i) (xo13 : Vec Ideal S8x1024 .f32) (r : Fin 256) (k : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 ⟨256 + r.val, by omega⟩ k) = cBlk x0 x1 x2 x3 x4 x5 x6 x7 x8 x9 ⟨256 + r.val, by omega⟩ k := by
  unfold out0_B_12
  rw [View.read_writes_junk_eq_canon]
  unfold kernelRun0_B
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- The lower 256 rows of the gradient of the output projection's argument, later points. -/
theorem out_B12_0 (hc0 : ¬ cond0_0 i) (xo13 : Vec Ideal S8x1024 .f32) (r : Fin 256) (k : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 ⟨0 + r.val, by omega⟩ k) = cBlk x0 x1 x2 x3 x4 x5 x6 x7 x8 x9 ⟨0 + r.val, by omega⟩ k := by
  unfold out0_B_12
  rw [View.read_writes_junk_eq_canon]
  unfold kernelRun0_B
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

/-- All 512 rows of the gradient of the output projection's argument, later points. -/
theorem out_B12 (hc0 : ¬ cond0_0 i) (xo13 : Vec Ideal S8x1024 .f32) (r : Fin 512) (k : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 r k) = cBlk x0 x1 x2 x3 x4 x5 x6 x7 x8 x9 r k := by
  rcases lt_or_ge r.val 256 with h | h
  · have e : r = ⟨0 + (⟨r.val, h⟩ : Fin 256).val, by omega⟩ := Fin.ext (by simp)
    rw [e]; exact out_B12_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 ⟨r.val, h⟩ k
  · have e : r = ⟨256 + (⟨r.val - 256, by omega⟩ : Fin 256).val, by omega⟩ := Fin.ext (by show r.val = 256 + (r.val - 256); omega)
    rw [e]; exact out_B12_256 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 ⟨r.val - 256, by omega⟩ k

end Cert.UpBwdIdeal.Val

end
-- ==== Proof.UpSums.lean ====
/-
  What one grid point of the gradient of the up-projection adds to the five column sums.
-/
module

public import proofs.«01_k».proof.Proof.Gen.UpBwdIdeal.Value
public import proofs.«01_k».proof.Proof.UpRows
public import Idealize.ShloMosaic.Lib.Pointwise
public import Idealize.ShloMosaic.Lib.Pointwise.Blocks
public import Idealize.ShloMosaic.Lib.Tactic
public import proofs.«01_k».proof.Proof.UpBlock

@[expose] public section

set_option maxRecDepth 16384

noncomputable section

open Idealize.ShloMosaic Idealize.ShloMosaic.TcCoe Idealize.SL.Sem

namespace Cert.UpBwdIdeal.Val

open Cert.UpBwdIdeal Cert.UpBwdIdeal.Gen Step

variable (c : Dev nD) (i : grid0.Coords) (arg1 : Memref sig .tc .vmem S2x512x3072 .bf16) (harg1 : arg1.IsWhole) (arg2 : Memref sig .tc .vmem S8x1024x768 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x1024 .f32) (harg14 : arg14.IsWhole)
    (x0 : Vec Ideal S2x512x3072 .bf16) (x1 : Vec Ideal S8x1024x768 .bf16) (x2 : Vec Ideal S512x1024 .f32) (x3 : Vec Ideal S512x1024 .f32) (x4 : Vec Ideal S512x1024 .f32) (x5 : Vec Ideal S1024x1024 .bf16) (x6 : Vec Ideal S1x1024 .f32) (x7 : Vec Ideal S1x1024 .f32) (x8 : Vec Ideal S1x1024 .f32) (x9 : Vec Ideal S1x1024 .f32)

/-- Row 0 of the column sums, first point. -/
theorem out_A13_0 (hc0 : cond0_0 i) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 0 k) = ∑ r : Fin 512, vsBlk x0 x1 x2 x3 x4 x6 x7 x8 x9 0 r k := by
  unfold out0_A_13
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [readCov_apply _ _ _ _ (ix2 0 k) (fun a => by fin_cases a <;> simp), canon_hit _ _ _ _ (ix2 0 k) (fun a => by fin_cases a <;> simp)]
  pointwise [k0_pay3]
  rw [sum_512']
  rfl

/-- Row 0 of the column sums, later points. -/
theorem out_B13_0 (hc0 : ¬ cond0_0 i) (xo13 : Vec Ideal S8x1024 .f32) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 0 k) = xo13 (ix2 0 k) + ∑ r : Fin 512, vsBlk x0 x1 x2 x3 x4 x6 x7 x8 x9 0 r k := by
  unfold out0_B_13
  unfold kernelRun0_B
  dsimp only
  sl_unfold_words
  simp (disch := first | decide | simp) only [readCov_miss (s := S8x1024) (a := 0), View.readCov_cons_toLoadRect]
  refine (read_writes_miss _ _ _ _ _ _ 0 (Or.inl (by simp))).trans ?_
  refine (read_writes_miss _ _ _ _ _ _ 0 (Or.inl (by simp))).trans ?_
  refine (read_writes_miss _ _ _ _ _ _ 0 (Or.inl (by simp))).trans ?_
  refine (read_writes_miss _ _ _ _ _ _ 0 (Or.inl (by simp))).trans ?_
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread, harg14.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [sum_512]
  rfl

/-- Row 1 of the column sums, first point. -/
theorem out_A13_1 (hc0 : cond0_0 i) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 1 k) = ∑ r : Fin 512, vsBlk x0 x1 x2 x3 x4 x6 x7 x8 x9 1 r k := by
  unfold out0_A_13
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [readCov_apply _ _ _ _ (ix2 1 k) (fun a => by fin_cases a <;> simp), canon_hit _ _ _ _ (ix2 1 k) (fun a => by fin_cases a <;> simp)]
  pointwise [k0_pay3]
  rw [sum_512']
  rfl

/-- Row 1 of the column sums, later points. -/
theorem out_B13_1 (hc0 : ¬ cond0_0 i) (xo13 : Vec Ideal S8x1024 .f32) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 1 k) = xo13 (ix2 1 k) + ∑ r : Fin 512, vsBlk x0 x1 x2 x3 x4 x6 x7 x8 x9 1 r k := by
  unfold out0_B_13
  unfold kernelRun0_B
  dsimp only
  sl_unfold_words
  simp (disch := first | decide | simp) only [readCov_miss (s := S8x1024) (a := 0), View.readCov_cons_toLoadRect]
  refine (read_writes_miss _ _ _ _ _ _ 0 (Or.inl (by simp))).trans ?_
  refine (read_writes_miss _ _ _ _ _ _ 0 (Or.inl (by simp))).trans ?_
  refine (read_writes_miss _ _ _ _ _ _ 0 (Or.inl (by simp))).trans ?_
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread, harg14.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [sum_512]
  rfl

/-- Row 2 of the column sums, first point. -/
theorem out_A13_2 (hc0 : cond0_0 i) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 2 k) = ∑ r : Fin 512, vsBlk x0 x1 x2 x3 x4 x6 x7 x8 x9 2 r k := by
  unfold out0_A_13
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [readCov_apply _ _ _ _ (ix2 2 k) (fun a => by fin_cases a <;> simp), canon_hit _ _ _ _ (ix2 2 k) (fun a => by fin_cases a <;> simp)]
  pointwise [k0_pay3]
  rw [sum_512']
  rfl

/-- Row 2 of the column sums, later points. -/
theorem out_B13_2 (hc0 : ¬ cond0_0 i) (xo13 : Vec Ideal S8x1024 .f32) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 2 k) = xo13 (ix2 2 k) + ∑ r : Fin 512, vsBlk x0 x1 x2 x3 x4 x6 x7 x8 x9 2 r k := by
  unfold out0_B_13
  unfold kernelRun0_B
  dsimp only
  sl_unfold_words
  simp (disch := first | decide | simp) only [readCov_miss (s := S8x1024) (a := 0), View.readCov_cons_toLoadRect]
  refine (read_writes_miss _ _ _ _ _ _ 0 (Or.inl (by simp))).trans ?_
  refine (read_writes_miss _ _ _ _ _ _ 0 (Or.inl (by simp))).trans ?_
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread, harg14.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [sum_512]
  rfl

/-- Row 3 of the column sums, first point. -/
theorem out_A13_3 (hc0 : cond0_0 i) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 3 k) = ∑ r : Fin 512, vsBlk x0 x1 x2 x3 x4 x6 x7 x8 x9 3 r k := by
  unfold out0_A_13
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [readCov_apply _ _ _ _ (ix2 3 k) (fun a => by fin_cases a <;> simp), canon_hit _ _ _ _ (ix2 3 k) (fun a => by fin_cases a <;> simp)]
  pointwise [k0_pay3]
  rw [sum_512']
  rfl

/-- Row 3 of the column sums, later points. -/
theorem out_B13_3 (hc0 : ¬ cond0_0 i) (xo13 : Vec Ideal S8x1024 .f32) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 3 k) = xo13 (ix2 3 k) + ∑ r : Fin 512, vsBlk x0 x1 x2 x3 x4 x6 x7 x8 x9 3 r k := by
  unfold out0_B_13
  unfold kernelRun0_B
  dsimp only
  sl_unfold_words
  simp (disch := first | decide | simp) only [readCov_miss (s := S8x1024) (a := 0), View.readCov_cons_toLoadRect]
  refine (read_writes_miss _ _ _ _ _ _ 0 (Or.inl (by simp))).trans ?_
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread, harg14.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [sum_512]
  rfl

/-- Row 4 of the column sums, first point. -/
theorem out_A13_4 (hc0 : cond0_0 i) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 4 k) = ∑ r : Fin 512, vsBlk x0 x1 x2 x3 x4 x6 x7 x8 x9 4 r k := by
  unfold out0_A_13
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [readCov_apply _ _ _ _ (ix2 4 k) (fun a => by fin_cases a <;> simp), canon_hit _ _ _ _ (ix2 4 k) (fun a => by fin_cases a <;> simp)]
  pointwise [k0_pay3]
  rw [sum_512']
  rfl

/-- Row 4 of the column sums, later points. -/
theorem out_B13_4 (hc0 : ¬ cond0_0 i) (xo13 : Vec Ideal S8x1024 .f32) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 4 k) = xo13 (ix2 4 k) + ∑ r : Fin 512, vsBlk x0 x1 x2 x3 x4 x6 x7 x8 x9 4 r k := by
  unfold out0_B_13
  unfold kernelRun0_B
  dsimp only
  sl_unfold_words
  simp (disch := first | decide | simp) only [readCov_miss (s := S8x1024) (a := 0), View.readCov_cons_toLoadRect]
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg7.read_unread, harg8.read_unread, harg9.read_unread, harg10.read_unread, harg14.read_unread]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rw [sum_512]
  rfl

/-- The rows past the fifth are zero after the first point. -/
theorem out_A13_rest (hc0 : cond0_0 i) (j : Fin 8) (hj : 5 ≤ j.val) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 j k) = 0 := by
  unfold out0_A_13
  rw [View.read_writes_junk_eq_canon]
  unfold kernelRun0_A
  dsimp only
  sl_unfold_words
  refine (canon_miss _ _ _ _ 0 (Or.inr (by show 4 + 1 ≤ j.val; omega))).trans ?_
  refine (canon_miss _ _ _ _ 0 (Or.inr (by show 3 + 1 ≤ j.val; omega))).trans ?_
  refine (canon_miss _ _ _ _ 0 (Or.inr (by show 2 + 1 ≤ j.val; omega))).trans ?_
  refine (canon_miss _ _ _ _ 0 (Or.inr (by show 1 + 1 ≤ j.val; omega))).trans ?_
  refine (canon_miss _ _ _ _ 0 (Or.inr (by show 0 + 1 ≤ j.val; omega))).trans ?_
  refine (canon_miss _ _ _ _ 0 (Or.inr (by show 4 + 1 ≤ j.val; omega))).trans ?_
  refine (canon_miss _ _ _ _ 0 (Or.inr (by show 3 + 1 ≤ j.val; omega))).trans ?_
  refine (canon_miss _ _ _ _ 0 (Or.inr (by show 2 + 1 ≤ j.val; omega))).trans ?_
  refine (canon_miss _ _ _ _ 0 (Or.inr (by show 1 + 1 ≤ j.val; omega))).trans ?_
  refine (canon_miss _ _ _ _ 0 (Or.inr (by show 0 + 1 ≤ j.val; omega))).trans ?_
  rw [canon_hit _ _ _ _ (ix2 j k) (fun a => by fin_cases a <;> simp)]
  pointwise [k0_pay3]

/-- The column sums after the first point. -/
theorem out_A13 (hc0 : cond0_0 i) (j : Fin 8) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 j k) = 0 + ∑ r : Fin 512, vsBlk x0 x1 x2 x3 x4 x6 x7 x8 x9 j r k := by
  by_cases hj : 5 ≤ j.val
  · rw [out_A13_rest c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 j hj k]
    have hz : ∀ r : Fin 512, vsBlk x0 x1 x2 x3 x4 x6 x7 x8 x9 j r k = 0 := fun r => by
      unfold vsBlk upVs
      rw [if_neg (fun h => by subst h; omega), if_neg (fun h => by subst h; simp at hj), if_neg (fun h => by subst h; simp at hj),
        if_neg (fun h => by subst h; simp at hj), if_neg (fun h => by subst h; simp at hj)]
    simp only [hz, Finset.sum_const_zero, add_zero]
  · have : j = 0 ∨ j = 1 ∨ j = 2 ∨ j = 3 ∨ j = 4 := by
      rcases j with ⟨v, hv⟩
      simp only [Fin.ext_iff] at hj ⊢
      simp at hj ⊢
      omega
    rcases this with rfl | rfl | rfl | rfl | rfl
    · exact (out_A13_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 k).trans (zero_add _).symm
    · exact (out_A13_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 k).trans (zero_add _).symm
    · exact (out_A13_2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 k).trans (zero_add _).symm
    · exact (out_A13_3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 k).trans (zero_add _).symm
    · exact (out_A13_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 k).trans (zero_add _).symm

/-- The rows past the fifth are left as they were at later points. -/
theorem out_B13_rest (hc0 : ¬ cond0_0 i) (xo13 : Vec Ideal S8x1024 .f32) (j : Fin 8) (hj : 5 ≤ j.val) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 j k) = xo13 (ix2 j k) := by
  unfold out0_B_13
  unfold kernelRun0_B
  dsimp only
  sl_unfold_words
  refine (read_writes_miss _ _ _ _ _ _ 0 (Or.inr (by show 4 + 1 ≤ j.val; omega))).trans ?_
  refine (read_writes_miss _ _ _ _ _ _ 0 (Or.inr (by show 3 + 1 ≤ j.val; omega))).trans ?_
  refine (read_writes_miss _ _ _ _ _ _ 0 (Or.inr (by show 2 + 1 ≤ j.val; omega))).trans ?_
  refine (read_writes_miss _ _ _ _ _ _ 0 (Or.inr (by show 1 + 1 ≤ j.val; omega))).trans ?_
  refine (read_writes_miss _ _ _ _ _ _ 0 (Or.inr (by show 0 + 1 ≤ j.val; omega))).trans ?_
  refine (read_writes_miss _ _ _ _ _ _ 0 (Or.inr (by show 4 + 1 ≤ j.val; omega))).trans ?_
  refine (read_writes_miss _ _ _ _ _ _ 0 (Or.inr (by show 3 + 1 ≤ j.val; omega))).trans ?_
  refine (read_writes_miss _ _ _ _ _ _ 0 (Or.inr (by show 2 + 1 ≤ j.val; omega))).trans ?_
  refine (read_writes_miss _ _ _ _ _ _ 0 (Or.inr (by show 1 + 1 ≤ j.val; omega))).trans ?_
  refine (read_writes_miss _ _ _ _ _ _ 0 (Or.inr (by show 0 + 1 ≤ j.val; omega))).trans ?_
  exact congrFun (harg14.read_unread xo13) _

/-- The column sums after a later point. -/
theorem out_B13 (hc0 : ¬ cond0_0 i) (xo13 : Vec Ideal S8x1024 .f32) (j : Fin 8) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 j k) = xo13 (ix2 j k) + ∑ r : Fin 512, vsBlk x0 x1 x2 x3 x4 x6 x7 x8 x9 j r k := by
  by_cases hj : 5 ≤ j.val
  · rw [out_B13_rest c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 j hj k]
    have hz : ∀ r : Fin 512, vsBlk x0 x1 x2 x3 x4 x6 x7 x8 x9 j r k = 0 := fun r => by
      unfold vsBlk upVs
      rw [if_neg (fun h => by subst h; omega), if_neg (fun h => by subst h; simp at hj), if_neg (fun h => by subst h; simp at hj),
        if_neg (fun h => by subst h; simp at hj), if_neg (fun h => by subst h; simp at hj)]
    simp only [hz, Finset.sum_const_zero, add_zero]
  · have : j = 0 ∨ j = 1 ∨ j = 2 ∨ j = 3 ∨ j = 4 := by
      rcases j with ⟨v, hv⟩
      simp only [Fin.ext_iff] at hj ⊢
      simp at hj ⊢
      omega
    rcases this with rfl | rfl | rfl | rfl | rfl
    · exact out_B13_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 k
    · exact out_B13_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 k
    · exact out_B13_2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 k
    · exact out_B13_3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 k
    · exact out_B13_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 hc0 xo13 k

end Cert.UpBwdIdeal.Val

end
-- ==== Proof.UpArray.lean ====
/-
  The four result arrays of the gradient of the up-projection after the run: every row of the gradients of the mixer's
  output and of the output projection's result and argument, and the column sums over all 4096 rows.
-/
module

public import proofs.«01_k».proof.Proof.UpSums
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.UpBwdIdeal.Val

open Cert.UpBwdIdeal Cert.UpBwdIdeal.Gen Step
open Idealize.ShloMosaic.Pipeline (Dat)

variable (m : (ℓ : Loc nD τ sig) → Buf (Elt Ideal) ℓ) (ρ : Dev nD → PrngReg)

/-- The windows' block indices. -/
theorem idx : ∀ t : Fin cfg0.N, win0_0.index t = ![0, t.val, 0] ∧ win0_1.index t = ![0, 0, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![0, 0] :=
  (by decide +kernel : ∀ t : Fin grid0.N, _)

theorem lt8 (t : Fin cfg0.N) : t.val < 8 := lt_of_lt_of_eq t.isLt N_0

/-- The argument arrays as extended reals. -/
abbrev aX (c : Dev nD) : Vec Ideal S4096x1024 .f32 := m ((c : Thread nD τ).loc main_arg0)
abbrev aYc (c : Dev nD) : Vec Ideal S4096x1024 .f32 := m ((c : Thread nD τ).loc main_arg1)
abbrev aWo (c : Dev nD) : Vec Ideal S1024x1024 .f32 := m ((c : Thread nD τ).loc main_arg2)
abbrev aGp (c : Dev nD) : Vec Ideal S1x1024 .f32 := m ((c : Thread nD τ).loc main_arg3)
abbrev aGt (c : Dev nD) : Vec Ideal S1x1024 .f32 := m ((c : Thread nD τ).loc main_arg4)
abbrev aG (c : Dev nD) : Vec Ideal S1x1024 .f32 := m ((c : Thread nD τ).loc main_arg5)
abbrev aS (c : Dev nD) : Vec Ideal S1x1024 .f32 := m ((c : Thread nD τ).loc main_arg6)
abbrev aWu (c : Dev nD) : Vec Ideal S1024x6144 .f32 := m ((c : Thread nD τ).loc main_arg7)
abbrev aD (c : Dev nD) : Vec Ideal S4096x1024 .f32 := m ((c : Thread nD τ).loc main_arg8)
abbrev aDu (c : Dev nD) : Vec Ideal S4096x6144 .f32 := m ((c : Thread nD τ).loc main_arg9)

/-- Row `512 t + r`. -/
def row (t : Fin cfg0.N) (r : Fin 512) : Fin 4096 := ⟨t.val * 512 + r.val, by have := lt8 t; omega⟩

/-- The output projection's row `i`. -/
def yArr (c : Dev nD) (i : Fin 4096) (k : Fin 1024) : EReal := ∑ j, aYc m c (ix2 i j) * aWo m c (ix2 j k)

/-- The mixer's output, row `i`. -/
def xArr (c : Dev nD) (i : Fin 4096) (k : Fin 1024) : EReal :=
  aX m c (ix2 i k) + aGt m c (ix2 0 k) * (yArr m c i k * rinv (yArr m c i) * aGp m c (ix2 0 k))

theorem blk0 (c : Dev nD) (t : Fin cfg0.N) (b : Fin 2) (r : Fin 512) (j : Fin 3072) :
    (iblk m c 0 t : Vec Ideal S2x512x3072 .bf16) (ix3 b r j) = aDu m c (ix2 (row t r) ⟨b.val * 3072 + j.val, by omega⟩) := by
  blk_simp [iblk]
  entry_read
  pointwise
  blk_ext [idx t, row]

theorem blk1 (c : Dev nD) (t : Fin cfg0.N) (b : Fin 8) (k : Fin 1024) (j : Fin 768) :
    (iblk m c 1 t : Vec Ideal S8x1024x768 .bf16) (ix3 b k j) = aWu m c (ix2 k ⟨b.val * 768 + j.val, by omega⟩) := by
  blk_simp [iblk]
  entry_read
  pointwise
  blk_ext [idx t]

theorem blk2 (c : Dev nD) (t : Fin cfg0.N) (r : Fin 512) (k : Fin 1024) :
    (iblk m c 2 t : Vec Ideal S512x1024 .f32) (ix2 r k) = xArr m c (row t r) k := by
  blk_simp [iblk]
  have he : (win0_2.blk t).view.emb (ix2 r k) = ix2 (row t r) k := by blk_ext [idx t, row]
  rw [he]
  entry_read
  pointwise
  rfl

theorem blk4 (c : Dev nD) (t : Fin cfg0.N) (r : Fin 512) (k : Fin 1024) :
    (iblk m c 4 t : Vec Ideal S512x1024 .f32) (ix2 r k) = yArr m c (row t r) k := by
  blk_simp [iblk]
  have he : (win0_4.blk t).view.emb (ix2 r k) = ix2 (row t r) k := by blk_ext [idx t, row]
  rw [he]
  entry_read
  pointwise
  rfl

theorem blk3 (c : Dev nD) (t : Fin cfg0.N) (r : Fin 512) (j : Fin 1024) :
    (iblk m c 3 t : Vec Ideal S512x1024 .f32) (ix2 r j) = aD m c (ix2 (row t r) j) := by
  blk_ext [iblk, V, idx t, row]

theorem blk5 (c : Dev nD) (t : Fin cfg0.N) (k j : Fin 1024) :
    (iblk m c 5 t : Vec Ideal S1024x1024 .bf16) (ix2 k j) = aWo m c (ix2 k j) := by
  blk_simp [iblk]
  entry_read
  pointwise
  blk_ext [idx t]

theorem blk6 (c : Dev nD) (t : Fin cfg0.N) (j : Fin 1024) :
    (iblk m c 6 t : Vec Ideal S1x1024 .f32) (ix2 0 j) = aG m c (ix2 0 j) := by
  blk_ext [iblk, V, idx t]

theorem blk7 (c : Dev nD) (t : Fin cfg0.N) (j : Fin 1024) :
    (iblk m c 7 t : Vec Ideal S1x1024 .f32) (ix2 0 j) = aS m c (ix2 0 j) := by
  blk_ext [iblk, V, idx t]

theorem blk8 (c : Dev nD) (t : Fin cfg0.N) (j : Fin 1024) :
    (iblk m c 8 t : Vec Ideal S1x1024 .f32) (ix2 0 j) = aGp m c (ix2 0 j) := by
  blk_ext [iblk, V, idx t]

theorem blk9 (c : Dev nD) (t : Fin cfg0.N) (j : Fin 1024) :
    (iblk m c 9 t : Vec Ideal S1x1024 .f32) (ix2 0 j) = aGt m c (ix2 0 j) := by
  blk_ext [iblk, V, idx t]

/-- A sum over 6144 columns in eight blocks of 768. -/
theorem sum_6144 (f : Fin 6144 → EReal) : ∑ j, f j =
    (∑ j : Fin 768, f ⟨j.val, by omega⟩) + (∑ j : Fin 768, f ⟨768 + j.val, by omega⟩) + (∑ j : Fin 768, f ⟨1536 + j.val, by omega⟩)
    + (∑ j : Fin 768, f ⟨2304 + j.val, by omega⟩) + (∑ j : Fin 768, f ⟨3072 + j.val, by omega⟩)
    + (∑ j : Fin 768, f ⟨3840 + j.val, by omega⟩) + (∑ j : Fin 768, f ⟨4608 + j.val, by omega⟩)
    + (∑ j : Fin 768, f ⟨5376 + j.val, by omega⟩) := by
  rw [← Fin.sum_mul_add_fin 8 768 f]
  simp only [Fin.sum_univ_eight]
  refine congrArg₂ _ (congrArg₂ _ (congrArg₂ _ (congrArg₂ _ (congrArg₂ _ (congrArg₂ _ (congrArg₂ _ ?_ ?_) ?_) ?_) ?_) ?_) ?_) ?_ <;>
    exact Finset.sum_congr rfl fun j _ => congrArg f (Fin.ext (by simp))

/-- The gradient of the modulated row `i`. -/
def hArr (c : Dev nD) (i : Fin 4096) : Fin 1024 → EReal := dotT (fun j => aDu m c (ix2 i j)) (fun k j => aWu m c (ix2 k j))

/-- The eight blocks of columns together are all the columns. -/
theorem hBlk_eq (c : Dev nD) (t : Fin cfg0.N) (r : Fin 512) : hBlk (iblk m c 0 t) (iblk m c 1 t) r = hArr m c (row t r) := by
  funext k
  unfold hBlk hArr upH dotT
  simp only [blk0, blk1]
  rw [sum_6144 (fun j => aDu m c (ix2 (row t r) j) * aWu m c (ix2 k j))]
  refine congrArg₂ _ (congrArg₂ _ (congrArg₂ _ (congrArg₂ _ (congrArg₂ _ (congrArg₂ _ (congrArg₂ _ ?_ ?_) ?_) ?_) ?_) ?_) ?_) ?_ <;>
    refine Finset.sum_congr rfl fun j _ => congrArg₂ _ (congrArg _ ?_) (congrArg _ ?_) <;>
    first
      | (congr 1; done)
      | (congr 1; ext; simp; done)
      | (congr 1; ext; simp; omega)

/-- The gradient of the mixer's output, row `i`. -/
def eArr (c : Dev nD) (i : Fin 4096) : Fin 1024 → EReal :=
  upX1 (hArr m c i) (xArr m c i) (fun k => aD m c (ix2 i k)) (fun k => aG m c (ix2 0 k)) (fun k => aS m c (ix2 0 k))

/-- The gradient of the output projection's row `i`. -/
def dyArr (c : Dev nD) (i : Fin 4096) : Fin 1024 → EReal :=
  upY (eArr m c i) (yArr m c i) (fun k => aGp m c (ix2 0 k)) (fun k => aGt m c (ix2 0 k))

/-- The gradient of the output projection's argument, row `i`. -/
def dycArr (c : Dev nD) (i : Fin 4096) : Fin 1024 → EReal := dotT (dyArr m c i) (fun k j => aWo m c (ix2 k j))

/-- Row `i`'s contribution to the column sums. -/
def vsTerm (c : Dev nD) (j : Fin 8) (i : Fin 4096) : Fin 1024 → EReal :=
  upVs j (hArr m c i) (xArr m c i) (fun k => aG m c (ix2 0 k)) (fun k => aS m c (ix2 0 k)) (eArr m c i) (yArr m c i)
    (fun k => aGp m c (ix2 0 k)) (fun k => aGt m c (ix2 0 k))

theorem xBlk_eq (c : Dev nD) (t : Fin cfg0.N) (r : Fin 512) :
    xBlk (iblk m c 0 t) (iblk m c 1 t) (iblk m c 2 t) (iblk m c 3 t) (iblk m c 6 t) (iblk m c 7 t) r = eArr m c (row t r) := by
  unfold xBlk eArr
  simp only [hBlk_eq, blk2, blk3, blk6, blk7]

theorem yBlk_eq (c : Dev nD) (t : Fin cfg0.N) (r : Fin 512) :
    yBlk (iblk m c 0 t) (iblk m c 1 t) (iblk m c 2 t) (iblk m c 3 t) (iblk m c 4 t) (iblk m c 6 t) (iblk m c 7 t) (iblk m c 8 t) (iblk m c 9 t) r = dyArr m c (row t r) := by
  unfold yBlk dyArr
  simp only [xBlk_eq, blk4, blk8, blk9]

theorem cBlk_eq (c : Dev nD) (t : Fin cfg0.N) (r : Fin 512) :
    cBlk (iblk m c 0 t) (iblk m c 1 t) (iblk m c 2 t) (iblk m c 3 t) (iblk m c 4 t) (iblk m c 5 t) (iblk m c 6 t) (iblk m c 7 t) (iblk m c 8 t) (iblk m c 9 t) r = dycArr m c (row t r) := by
  unfold cBlk dycArr
  simp only [yBlk_eq, blk5]

theorem vsBlk_eq (c : Dev nD) (t : Fin cfg0.N) (j : Fin 8) (r : Fin 512) :
    vsBlk (iblk m c 0 t) (iblk m c 1 t) (iblk m c 2 t) (iblk m c 3 t) (iblk m c 4 t) (iblk m c 6 t) (iblk m c 7 t) (iblk m c 8 t) (iblk m c 9 t) j r = vsTerm m c j (row t r) := by
  unfold vsBlk vsTerm
  simp only [hBlk_eq, xBlk_eq, blk2, blk4, blk6, blk7, blk8, blk9]

theorem outs10 (c : Dev nD) (t : Fin cfg0.N) (r : Fin 512) (k : Fin 1024) :
    (outsAt0 m c t.val t.isLt).1 (ix2 r k) = eArr m c (row t r) k := by
  by_cases h0 : t.val % 8 = 0
  · rw [outsAt0_A m c t h0]
    dsimp only; rw [out_A10, xBlk_eq]
  · rw [outsAt0_B m c t h0]
    dsimp only; rw [out_B10, xBlk_eq]

theorem outs11 (c : Dev nD) (t : Fin cfg0.N) (r : Fin 512) (k : Fin 1024) :
    (outsAt0 m c t.val t.isLt).2.1 (ix2 r k) = dyArr m c (row t r) k := by
  by_cases h0 : t.val % 8 = 0
  · rw [outsAt0_A m c t h0]
    dsimp only; rw [out_A11, yBlk_eq]
  · rw [outsAt0_B m c t h0]
    dsimp only; rw [out_B11, yBlk_eq]

theorem outs12 (c : Dev nD) (t : Fin cfg0.N) (r : Fin 512) (k : Fin 1024) :
    (outsAt0 m c t.val t.isLt).2.2.1 (ix2 r k) = dycArr m c (row t r) k := by
  by_cases h0 : t.val % 8 = 0
  · rw [outsAt0_A m c t h0]
    dsimp only; rw [out_A12, cBlk_eq]
  · rw [outsAt0_B m c t h0]
    dsimp only; rw [out_B12, cBlk_eq]

/-- The column sums after the first point, -/
theorem outs13_A (c : Dev nD) (t : Fin cfg0.N) (h0 : t.val % 8 = 0) (j : Fin 8) (k : Fin 1024) :
    (outsAt0 m c t.val t.isLt).2.2.2 (ix2 j k) = 0 + ∑ r : Fin 512, vsTerm m c j (row t r) k := by
  rw [outsAt0_A m c t h0]
  dsimp only
  rw [out_A13]
  simp only [vsBlk_eq]

/-- and after a later point. -/
theorem outs13_B (c : Dev nD) (t : Fin cfg0.N) (h0 : ¬t.val % 8 = 0) (j : Fin 8) (k : Fin 1024) :
    (outsAt0 m c t.val t.isLt).2.2.2 (ix2 j k) = (outsAt0 m c (t.val - 1) (Nat.lt_of_le_of_lt (Nat.sub_le _ _) t.isLt)).2.2.2 (ix2 j k)
      + ∑ r : Fin 512, vsTerm m c j (row t r) k := by
  rw [outsAt0_B m c t h0]
  dsimp only
  rw [out_B13]
  simp only [vsBlk_eq]

/-- The last point. -/
def tLast : Fin cfg0.N := ⟨7, by rw [show cfg0.N = 8 from N_0]; decide⟩

/-- The column sums after the last point are sums over all rows. -/
theorem outs13_last (c : Dev nD) (j : Fin 8) (k : Fin 1024) :
    (outsAt0 m c tLast.val tLast.isLt).2.2.2 (ix2 j k) = ∑ i : Fin 4096, vsTerm m c j i k := by
  have h := Pipeline.eq_sum_fin_of_reset_step_apply_last (ι := Fin 8 × Fin 1024)
    (fun n h p => (outsAt0 m c n h).2.2.2 (ix2 p.1 p.2)) 8 (fun _ => (0 : EReal))
    (fun t p => ∑ r : Fin 512, vsTerm m c p.1 (row t r) p.2) (fun t h p => outs13_A m c t h p.1 p.2)
    (fun t h p => outs13_B m c t h p.1 p.2) (le_of_eq N_0) tLast N_0.symm (j, k)
  rw [zero_add] at h
  exact h.trans (Fin.sum_mul_add_fin 8 512 (fun i : Fin 4096 => vsTerm m c j i k))

theorem final10 (c : Dev nD) : (dats m 0 c).arrAt 10 cfg0.N = (fun i => eArr m c (i 0) (i 1) : Vec Ideal S4096x1024 .f32) := by
  refine (dats m 0 c).arrAt_eq_of_covers 10 _ (by decide +kernel) fun t _ y => ?_
  blk_simp
  rw [after0_10]
  obtain ⟨r, k, rfl⟩ : ∃ r k, y = ix2 (n0 := 512) (n1 := 1024) r k := ⟨y 0, y 1, eq_ix2 y⟩
  refine (outs10 m c t r k).trans ?_
  have he : (win0_10.blk t).view.emb (ix2 r k) = ix2 (row t r) k := by blk_ext [idx t, row]
  rw [he]
  rfl

theorem final11 (c : Dev nD) : (dats m 0 c).arrAt 11 cfg0.N = (fun i => dyArr m c (i 0) (i 1) : Vec Ideal S4096x1024 .bf16) := by
  refine (dats m 0 c).arrAt_eq_of_covers 11 _ (by decide +kernel) fun t _ y => ?_
  blk_simp
  rw [after0_11]
  obtain ⟨r, k, rfl⟩ : ∃ r k, y = ix2 (n0 := 512) (n1 := 1024) r k := ⟨y 0, y 1, eq_ix2 y⟩
  refine (outs11 m c t r k).trans ?_
  have he : (win0_11.blk t).view.emb (ix2 r k) = ix2 (row t r) k := by blk_ext [idx t, row]
  rw [he]
  rfl

theorem final12 (c : Dev nD) : (dats m 0 c).arrAt 12 cfg0.N = (fun i => dycArr m c (i 0) (i 1) : Vec Ideal S4096x1024 .f32) := by
  refine (dats m 0 c).arrAt_eq_of_covers 12 _ (by decide +kernel) fun t _ y => ?_
  blk_simp
  rw [after0_12]
  obtain ⟨r, k, rfl⟩ : ∃ r k, y = ix2 (n0 := 512) (n1 := 1024) r k := ⟨y 0, y 1, eq_ix2 y⟩
  refine (outs12 m c t r k).trans ?_
  have he : (win0_12.blk t).view.emb (ix2 r k) = ix2 (row t r) k := by blk_ext [idx t, row]
  rw [he]
  rfl

/-- The column sums after the run. -/
theorem final13 (c : Dev nD) : (dats m 0 c).arrAt 13 cfg0.N
    = (fun i => ∑ r : Fin 4096, vsTerm m c (i 0) r (i 1) : Vec Ideal S8x1024 .f32) := by
  refine (dats m 0 c).arrAt_eq_of_after_last 13 tLast (by decide +kernel) _ fun j => ?_
  blk_simp
  rw [after0_13]
  obtain ⟨r, k, rfl⟩ : ∃ r k, j = ix2 (n0 := 8) (n1 := 1024) r k := ⟨j 0, j 1, eq_ix2 j⟩
  exact outs13_last m c r k

end Cert.UpBwdIdeal.Val

end
-- ==== Proof.UpRef.lean ====
/-
  What the reference of `up_bwd` computes, row by row, in the kernel's terms: the mixer's output and its gradient, the
  gradients of the output projection's result and argument, and the five column sums.
-/
module

public import proofs.«01_k».proof.Proof.Gen.UpBwdRefIdeal.Run
public import proofs.«01_k».proof.Proof.Gen.UpBwdRefIdeal.Read
public import proofs.«01_k».proof.Proof.Reals
public import proofs.«01_k».proof.Proof.UpRows

@[expose] public section

set_option maxRecDepth 16384
noncomputable section

open Idealize.ShloMosaic Idealize.ShloMosaic.TcCoe Idealize.SL.Sem

namespace Cert.UpBwdRefIdeal.Val

open Cert.UpBwdRefIdeal Cert.UpBwdRefIdeal.Gen Cert.UpBwdRefIdeal.Read Step

variable (x0 x1 : Vec Ideal S4096x1024 .f32) (x2 : Vec Ideal S1024x1024 .f32) (x3 x4 x5 x6 : Vec Ideal S1x1024 .f32)
  (x7 : Vec Ideal S1024x6144 .f32) (x8 : Vec Ideal S4096x1024 .f32) (x9 : Vec Ideal S4096x6144 .f32)

/-- The output projection's row `i`. -/
def yRow (i : Fin 4096) (k : Fin 1024) : EReal := ∑ j, x1 (ix2 i j) * x2 (ix2 j k)

/-- The mixer's output, row `i`. -/
def xRow (i : Fin 4096) (k : Fin 1024) : EReal :=
  x0 (ix2 i k) + x4 (ix2 0 k) * (yRow x1 x2 i k * rinv (yRow x1 x2 i) * x3 (ix2 0 k))

/-- The gradient of the modulated row `i`. -/
def hRow (i : Fin 4096) : Fin 1024 → EReal := dotT (fun j => x9 (ix2 i j)) (fun k j => x7 (ix2 k j))

/-- The gradient of the mixer's output, row `i`. -/
def eRow (i : Fin 4096) : Fin 1024 → EReal :=
  upX1 (hRow x7 x9 i) (xRow x0 x1 x2 x3 x4 i) (fun k => x8 (ix2 i k)) (fun k => x5 (ix2 0 k)) (fun k => x6 (ix2 0 k))

/-- The gradient of the output projection's row `i`. -/
def dyRow (i : Fin 4096) : Fin 1024 → EReal :=
  upY (eRow x0 x1 x2 x3 x4 x5 x6 x7 x8 x9 i) (yRow x1 x2 i) (fun k => x3 (ix2 0 k)) (fun k => x4 (ix2 0 k))

/-- Row `i`'s contribution to the column sums. -/
def vsRow (j : Fin 8) (i : Fin 4096) : Fin 1024 → EReal :=
  upVs j (hRow x7 x9 i) (xRow x0 x1 x2 x3 x4 i) (fun k => x5 (ix2 0 k)) (fun k => x6 (ix2 0 k))
    (eRow x0 x1 x2 x3 x4 x5 x6 x7 x8 x9 i) (yRow x1 x2 i) (fun k => x3 (ix2 0 k)) (fun k => x4 (ix2 0 k))

theorem v1_eq (i : Fin 4096) (k : Fin 1024) : val_main_v1 (F := Ideal) x1 x2 (ix2 i k) = yRow x1 x2 i k := by
  pointwise [val_main_v1]
  rfl

theorem v19_eq (i : Fin 4096) (k : Fin 1024) : val_main_v19 (F := Ideal) x0 x1 x2 x3 x4 (ix2 i k) = xRow x0 x1 x2 x3 x4 i k := by
  pointwise [val_main_v1, val_main_v2, val_main_cst_0, val_main_v3, val_main_v4, val_main_cst_1, val_main_v5, val_main_v6,
    val_main_cst_2, val_main_v7, val_main_v8, val_main_v9, val_main_v13, val_main_v14, val_main_v15, val_main_v16,
    val_main_v17, val_main_v18, val_main_v19]
  rfl

theorem v44_eq (i : Fin 4096) (k : Fin 1024) : val_main_v44 (F := Ideal) x7 x9 (ix2 i k) = hRow x7 x9 i k := by
  pointwise [val_main_v44]
  rfl

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i)) (h7 : ∀ i, IsReal (x7 i))
  (h8 : ∀ i, IsReal (x8 i)) (h9 : ∀ i, IsReal (x9 i))

include h1 h2 in
theorem yRow_real (i : Fin 4096) (k : Fin 1024) : IsReal (yRow x1 x2 i k) := IsReal.sum _ fun j => (h1 _).mul (h2 _)

include h0 h1 h2 h3 h4 in
theorem xRow_real (i : Fin 4096) (k : Fin 1024) : IsReal (xRow x0 x1 x2 x3 x4 i k) :=
  (h0 _).add ((h4 _).mul (((yRow_real x1 x2 h1 h2 i k).mul (rinv_isReal (yRow_real x1 x2 h1 h2 i))).mul (h3 _)))

include h7 h9 in
theorem hRow_real (i : Fin 4096) (k : Fin 1024) : IsReal (hRow x7 x9 i k) := by
  unfold hRow dotT
  exact IsReal.sum _ fun j => (h9 _).mul (h7 _)

/-- The gradient of the RMS norm of a real row is real. -/
theorem rmsBwd_isReal {x a : Fin 1024 → EReal} (hx : ∀ k, IsReal (x k)) (ha : ∀ k, IsReal (a k)) (k : Fin 1024) :
    IsReal (rmsBwd a (fun j => x j * rinv x) (rinv x) k) := by
  choose y hy using hx
  choose b hb using ha
  obtain rfl : x = fun k => (y k : EReal) := funext hy
  obtain rfl : a = fun k => (b k : EReal) := funext hb
  obtain ⟨ρ, p, hp, h1, hm, hr⟩ := rinv_real y
  unfold rmsBwd
  rw [hr, word_1024]
  simp only [Ideal.div_coe (show (1024 : ℝ) ≠ 0 by norm_num), ← EReal.coe_mul, ← coe_sum, ← EReal.coe_sub]
  exact IsReal.coe _

/-- The gradient of the mixer's output as differentiation writes it. -/
theorem v71_raw (i : Fin 4096) (k : Fin 1024) : val_main_v71 (F := Ideal) x0 x1 x2 x3 x4 x5 x6 x7 x8 x9 (ix2 i k) = x8 (ix2 i k)
    + val_main_v44 (F := Ideal) x7 x9 (ix2 i k) * (1 + x6 (ix2 0 k)) * x5 (ix2 0 k) * rinv (fun k => val_main_v19 (F := Ideal) x0 x1 x2 x3 x4 (ix2 i k))
    + val_main_v19 (F := Ideal) x0 x1 x2 x3 x4 (ix2 i k) * sqGrad (fun k => val_main_v19 (F := Ideal) x0 x1 x2 x3 x4 (ix2 i k))
          (fun k => val_main_v44 (F := Ideal) x7 x9 (ix2 i k) * (1 + x6 (ix2 0 k)) * x5 (ix2 0 k))
    + sqGrad (fun k => val_main_v19 (F := Ideal) x0 x1 x2 x3 x4 (ix2 i k))
          (fun k => val_main_v44 (F := Ideal) x7 x9 (ix2 i k) * (1 + x6 (ix2 0 k)) * x5 (ix2 0 k)) * val_main_v19 (F := Ideal) x0 x1 x2 x3 x4 (ix2 i k) := by
  pointwise [val_main_v20, val_main_cst_4, val_main_v21, val_main_v22, val_main_cst_5, val_main_v23, val_main_v24,
    val_main_cst_6, val_main_v25, val_main_v26, val_main_v27, val_main_v28, val_main_cst_7, val_main_v29, val_main_v30,
    val_main_cst_8, val_main_v35, val_main_v36, val_main_v50, val_main_v51, val_main_v55, val_main_v56, val_main_v57,
    val_main_cst_12, val_main_v58, val_main_v59, val_main_v60, val_main_v61, val_main_v62, val_main_v63,
    val_main_cst_13, val_main_v64, val_main_v65, val_main_cst_14, val_main_v66, val_main_v67, val_main_v68,
    val_main_v69, val_main_v70, val_main_v71]
  simp only [Finset.univ_unique, Finset.sum_singleton]
  rfl

include h0 h1 h2 h3 h4 h5 h6 h7 h9 in
/-- The gradient of the mixer's output is the kernel's. -/
theorem v71_eq (i : Fin 4096) (k : Fin 1024) : val_main_v71 (F := Ideal) x0 x1 x2 x3 x4 x5 x6 x7 x8 x9 (ix2 i k) = eRow x0 x1 x2 x3 x4 x5 x6 x7 x8 x9 i k := by
  rw [v71_raw]
  simp only [v19_eq, v44_eq]
  have e := rms_grad (x := xRow x0 x1 x2 x3 x4 i) (a := fun k => hRow x7 x9 i k * (1 + x6 (ix2 0 k)) * x5 (ix2 0 k))
    (xRow_real x0 x1 x2 x3 x4 h0 h1 h2 h3 h4 i)
    (fun k => ((hRow_real x7 x9 h7 h9 i k).mul (IsReal.one.add (h6 _))).mul (h5 _)) k
  unfold eRow upX1
  rw [e, ← add_assoc, ← add_assoc]

include h0 h1 h2 h3 h4 h5 h6 h7 h8 h9 in
theorem eRow_real (i : Fin 4096) (k : Fin 1024) : IsReal (eRow x0 x1 x2 x3 x4 x5 x6 x7 x8 x9 i k) := by
  have hx := xRow_real x0 x1 x2 x3 x4 h0 h1 h2 h3 h4 i
  have ha : ∀ k, IsReal (hRow x7 x9 i k * (1 + x6 (ix2 0 k)) * x5 (ix2 0 k)) :=
    fun k => ((hRow_real x7 x9 h7 h9 i k).mul (IsReal.one.add (h6 _))).mul (h5 _)
  exact (h8 _).add (rmsBwd_isReal hx ha k)

/-- The gradient of the output projection's row as differentiation writes it. -/
theorem v96_raw (i : Fin 4096) (k : Fin 1024) : val_main_v96 (F := Ideal) x0 x1 x2 x3 x4 x5 x6 x7 x8 x9 (ix2 i k) =
    x4 (ix2 0 k) * val_main_v71 (F := Ideal) x0 x1 x2 x3 x4 x5 x6 x7 x8 x9 (ix2 i k) * x3 (ix2 0 k) * rinv (fun k => val_main_v1 (F := Ideal) x1 x2 (ix2 i k))
    + val_main_v1 (F := Ideal) x1 x2 (ix2 i k) * sqGrad (fun k => val_main_v1 (F := Ideal) x1 x2 (ix2 i k))
          (fun k => x4 (ix2 0 k) * val_main_v71 (F := Ideal) x0 x1 x2 x3 x4 x5 x6 x7 x8 x9 (ix2 i k) * x3 (ix2 0 k))
    + sqGrad (fun k => val_main_v1 (F := Ideal) x1 x2 (ix2 i k))
          (fun k => x4 (ix2 0 k) * val_main_v71 (F := Ideal) x0 x1 x2 x3 x4 x5 x6 x7 x8 x9 (ix2 i k) * x3 (ix2 0 k)) * val_main_v1 (F := Ideal) x1 x2 (ix2 i k) := by
  pointwise [val_main_v2, val_main_cst_0, val_main_v3, val_main_v4, val_main_cst_1, val_main_v5, val_main_v6, val_main_cst_2,
    val_main_v7, val_main_v8, val_main_v9, val_main_v10, val_main_cst_3, val_main_v11, val_main_v12, val_main_v72,
    val_main_v73, val_main_v74, val_main_v81, val_main_v82, val_main_v83, val_main_cst_17, val_main_v84, val_main_v85,
    val_main_v86, val_main_v87, val_main_v88, val_main_cst_18, val_main_v89, val_main_v90, val_main_cst_19,
    val_main_v91, val_main_v92, val_main_v93, val_main_v94, val_main_v95, val_main_v96]
  simp only [Finset.univ_unique, Finset.sum_singleton]
  rfl

include h0 h1 h2 h3 h4 h5 h6 h7 h8 h9 in
/-- The gradient of the output projection's row is the kernel's. -/
theorem v96_eq (i : Fin 4096) (k : Fin 1024) : val_main_v96 (F := Ideal) x0 x1 x2 x3 x4 x5 x6 x7 x8 x9 (ix2 i k) = dyRow x0 x1 x2 x3 x4 x5 x6 x7 x8 x9 i k := by
  rw [v96_raw]
  simp only [v1_eq, v71_eq x0 x1 x2 x3 x4 x5 x6 x7 x8 x9 h0 h1 h2 h3 h4 h5 h6 h7 h9, mul_comm (x4 _)]
  have e := rms_grad (x := yRow x1 x2 i) (a := fun k => eRow x0 x1 x2 x3 x4 x5 x6 x7 x8 x9 i k * x4 (ix2 0 k) * x3 (ix2 0 k))
    (yRow_real x1 x2 h1 h2 i)
    (fun k => ((eRow_real x0 x1 x2 x3 x4 x5 x6 x7 x8 x9 h0 h1 h2 h3 h4 h5 h6 h7 h8 h9 i k).mul (h4 _)).mul (h3 _)) k
  unfold dyRow upY
  rw [e]

include h0 h1 h2 h3 h4 h5 h6 h7 h8 h9 in
/-- The gradient of the output projection's result, rounded: over the reals the same. -/
theorem v102_eq (i : Fin 4096) (k : Fin 1024) : val_main_v102 (F := Ideal) x0 x1 x2 x3 x4 x5 x6 x7 x8 x9 (ix2 i k) = dyRow x0 x1 x2 x3 x4 x5 x6 x7 x8 x9 i k := by
  rw [← v96_eq x0 x1 x2 x3 x4 x5 x6 x7 x8 x9 h0 h1 h2 h3 h4 h5 h6 h7 h8 h9]
  pointwise [val_main_v102]

include h0 h1 h2 h3 h4 h5 h6 h7 h8 h9 in
/-- The gradient of the output projection's argument is the kernel's. -/
theorem v99_eq (i : Fin 4096) (k : Fin 1024) : val_main_v99 (F := Ideal) x0 x1 x2 x3 x4 x5 x6 x7 x8 x9 (ix2 i k) =
    dotT (dyRow x0 x1 x2 x3 x4 x5 x6 x7 x8 x9 i) (fun k j => x2 (ix2 k j)) k := by
  pointwise [val_main_v99]
  simp only [v96_eq x0 x1 x2 x3 x4 x5 x6 x7 x8 x9 h0 h1 h2 h3 h4 h5 h6 h7 h8 h9]
  rfl

include h0 h1 h2 h3 h4 h5 h6 h7 h9 in
/-- Each row of the stack is the column sum of the kernel's terms. -/
theorem vs_eq (j : Fin 8) (k : Fin 1024) : val_main_v101 (F := Ideal) x0 x1 x2 x3 x4 x5 x6 x7 x8 x9 (ix2 j k) = ∑ r : Fin 4096, vsRow x0 x1 x2 x3 x4 x5 x6 x7 x8 x9 j r k := by
  fin_cases j
  · pointwise [val_main_v2, val_main_cst_0, val_main_v3, val_main_v4, val_main_cst_1, val_main_v5, val_main_v6, val_main_cst_2,
    val_main_v7, val_main_v8, val_main_v9, val_main_v13, val_main_v14, val_main_v15, val_main_v16, val_main_v20,
    val_main_cst_4, val_main_v21, val_main_v22, val_main_cst_5, val_main_v23, val_main_v24, val_main_cst_6,
    val_main_v25, val_main_v26, val_main_v27, val_main_v31, val_main_v32, val_main_v33, val_main_v34, val_main_cst_8,
    val_main_v35, val_main_v36, val_main_cst_9, val_main_v45, val_main_v46, val_main_v47, val_main_cst_10,
    val_main_v48, val_main_v49, val_main_v50, val_main_v51, val_main_v52, val_main_cst_11, val_main_v53, val_main_v54,
    val_main_v72, val_main_v73, val_main_v74, val_main_v75, val_main_cst_15, val_main_v76, val_main_v77, val_main_v78,
    val_main_cst_16, val_main_v79, val_main_v80, val_main_cst_20, val_main_v100, val_main_v101]
    refine Finset.sum_congr rfl fun r _ => ?_
    simp only [v1_eq, v19_eq, v44_eq, v71_eq x0 x1 x2 x3 x4 x5 x6 x7 x8 x9 h0 h1 h2 h3 h4 h5 h6 h7 h9]
    rfl
  · pointwise [val_main_v2, val_main_cst_0, val_main_v3, val_main_v4, val_main_cst_1, val_main_v5, val_main_v6, val_main_cst_2,
    val_main_v7, val_main_v8, val_main_v9, val_main_v13, val_main_v14, val_main_v15, val_main_v16, val_main_v20,
    val_main_cst_4, val_main_v21, val_main_v22, val_main_cst_5, val_main_v23, val_main_v24, val_main_cst_6,
    val_main_v25, val_main_v26, val_main_v27, val_main_v31, val_main_v32, val_main_v33, val_main_v34, val_main_cst_8,
    val_main_v35, val_main_v36, val_main_cst_9, val_main_v45, val_main_v46, val_main_v47, val_main_cst_10,
    val_main_v48, val_main_v49, val_main_v50, val_main_v51, val_main_v52, val_main_cst_11, val_main_v53, val_main_v54,
    val_main_v72, val_main_v73, val_main_v74, val_main_v75, val_main_cst_15, val_main_v76, val_main_v77, val_main_v78,
    val_main_cst_16, val_main_v79, val_main_v80, val_main_cst_20, val_main_v100, val_main_v101]
    refine Finset.sum_congr rfl fun r _ => ?_
    simp only [v1_eq, v19_eq, v44_eq, v71_eq x0 x1 x2 x3 x4 x5 x6 x7 x8 x9 h0 h1 h2 h3 h4 h5 h6 h7 h9]
    rw [mul_comm]; rfl
  · pointwise [val_main_v2, val_main_cst_0, val_main_v3, val_main_v4, val_main_cst_1, val_main_v5, val_main_v6, val_main_cst_2,
    val_main_v7, val_main_v8, val_main_v9, val_main_v13, val_main_v14, val_main_v15, val_main_v16, val_main_v20,
    val_main_cst_4, val_main_v21, val_main_v22, val_main_cst_5, val_main_v23, val_main_v24, val_main_cst_6,
    val_main_v25, val_main_v26, val_main_v27, val_main_v31, val_main_v32, val_main_v33, val_main_v34, val_main_cst_8,
    val_main_v35, val_main_v36, val_main_cst_9, val_main_v45, val_main_v46, val_main_v47, val_main_cst_10,
    val_main_v48, val_main_v49, val_main_v50, val_main_v51, val_main_v52, val_main_cst_11, val_main_v53, val_main_v54,
    val_main_v72, val_main_v73, val_main_v74, val_main_v75, val_main_cst_15, val_main_v76, val_main_v77, val_main_v78,
    val_main_cst_16, val_main_v79, val_main_v80, val_main_cst_20, val_main_v100, val_main_v101]
    refine Finset.sum_congr rfl fun r _ => ?_
    simp only [v1_eq, v19_eq, v44_eq, v71_eq x0 x1 x2 x3 x4 x5 x6 x7 x8 x9 h0 h1 h2 h3 h4 h5 h6 h7 h9]
    rw [mul_comm]; rfl
  · pointwise [val_main_v2, val_main_cst_0, val_main_v3, val_main_v4, val_main_cst_1, val_main_v5, val_main_v6, val_main_cst_2,
    val_main_v7, val_main_v8, val_main_v9, val_main_v13, val_main_v14, val_main_v15, val_main_v16, val_main_v20,
    val_main_cst_4, val_main_v21, val_main_v22, val_main_cst_5, val_main_v23, val_main_v24, val_main_cst_6,
    val_main_v25, val_main_v26, val_main_v27, val_main_v31, val_main_v32, val_main_v33, val_main_v34, val_main_cst_8,
    val_main_v35, val_main_v36, val_main_cst_9, val_main_v45, val_main_v46, val_main_v47, val_main_cst_10,
    val_main_v48, val_main_v49, val_main_v50, val_main_v51, val_main_v52, val_main_cst_11, val_main_v53, val_main_v54,
    val_main_v72, val_main_v73, val_main_v74, val_main_v75, val_main_cst_15, val_main_v76, val_main_v77, val_main_v78,
    val_main_cst_16, val_main_v79, val_main_v80, val_main_cst_20, val_main_v100, val_main_v101]
    refine Finset.sum_congr rfl fun r _ => ?_
    simp only [v1_eq, v19_eq, v44_eq, v71_eq x0 x1 x2 x3 x4 x5 x6 x7 x8 x9 h0 h1 h2 h3 h4 h5 h6 h7 h9]
    rw [← mul_assoc]; rfl
  · pointwise [val_main_v2, val_main_cst_0, val_main_v3, val_main_v4, val_main_cst_1, val_main_v5, val_main_v6, val_main_cst_2,
    val_main_v7, val_main_v8, val_main_v9, val_main_v13, val_main_v14, val_main_v15, val_main_v16, val_main_v20,
    val_main_cst_4, val_main_v21, val_main_v22, val_main_cst_5, val_main_v23, val_main_v24, val_main_cst_6,
    val_main_v25, val_main_v26, val_main_v27, val_main_v31, val_main_v32, val_main_v33, val_main_v34, val_main_cst_8,
    val_main_v35, val_main_v36, val_main_cst_9, val_main_v45, val_main_v46, val_main_v47, val_main_cst_10,
    val_main_v48, val_main_v49, val_main_v50, val_main_v51, val_main_v52, val_main_cst_11, val_main_v53, val_main_v54,
    val_main_v72, val_main_v73, val_main_v74, val_main_v75, val_main_cst_15, val_main_v76, val_main_v77, val_main_v78,
    val_main_cst_16, val_main_v79, val_main_v80, val_main_cst_20, val_main_v100, val_main_v101]
    refine Finset.sum_congr rfl fun r _ => ?_
    simp only [v1_eq, v19_eq, v44_eq, v71_eq x0 x1 x2 x3 x4 x5 x6 x7 x8 x9 h0 h1 h2 h3 h4 h5 h6 h7 h9]
    rw [mul_comm, mul_comm (x4 _)]; rfl
  all_goals
    pointwise [val_main_v2, val_main_cst_0, val_main_v3, val_main_v4, val_main_cst_1, val_main_v5, val_main_v6, val_main_cst_2,
    val_main_v7, val_main_v8, val_main_v9, val_main_v13, val_main_v14, val_main_v15, val_main_v16, val_main_v20,
    val_main_cst_4, val_main_v21, val_main_v22, val_main_cst_5, val_main_v23, val_main_v24, val_main_cst_6,
    val_main_v25, val_main_v26, val_main_v27, val_main_v31, val_main_v32, val_main_v33, val_main_v34, val_main_cst_8,
    val_main_v35, val_main_v36, val_main_cst_9, val_main_v45, val_main_v46, val_main_v47, val_main_cst_10,
    val_main_v48, val_main_v49, val_main_v50, val_main_v51, val_main_v52, val_main_cst_11, val_main_v53, val_main_v54,
    val_main_v72, val_main_v73, val_main_v74, val_main_v75, val_main_cst_15, val_main_v76, val_main_v77, val_main_v78,
    val_main_cst_16, val_main_v79, val_main_v80, val_main_cst_20, val_main_v100, val_main_v101]
    simp [vsRow, upVs]

end Cert.UpBwdRefIdeal.Val
end
-- ==== Proof.UpProof.lean ====
/-
  The claims on `up_bwd`: kernel and reference compute the same gradients of finite arguments.
-/
module

public import proofs.«01_k».proof.Defs
public import proofs.«01_k».proof.Proof.UpArray
public import proofs.«01_k».proof.Proof.UpRef
public import proofs.«01_k».proof.Proof.Gen.UpBwd
public import proofs.«01_k».proof.Proof.Gen.UpBwd.Frame
public import proofs.«01_k».proof.Proof.Gen.Pre_up_finite

@[expose] public section

noncomputable section

open Idealize.ShloMosaic Idealize.ShloMosaic.TcCoe Idealize.SL.Sem

namespace Cert.UpBwdIdeal.Val

open Cert.UpBwdIdeal Cert.UpBwdIdeal.Gen Step

variable (m : (ℓ : Loc nD τ sig) → Buf (Elt Ideal) ℓ)

/-- The precondition: every element of the ten arguments is a real number. -/
theorem reals (h : Cert.Pre_UpBwdIdeal_up_finite m) (c : Dev nD) :
    (∀ i, IsReal (aX m c i)) ∧ (∀ i, IsReal (aYc m c i)) ∧ (∀ i, IsReal (aWo m c i)) ∧ (∀ i, IsReal (aGp m c i)) ∧ (∀ i, IsReal (aGt m c i))
      ∧ (∀ i, IsReal (aG m c i)) ∧ (∀ i, IsReal (aS m c i)) ∧ (∀ i, IsReal (aWu m c i)) ∧ (∀ i, IsReal (aD m c i)) ∧ (∀ i, IsReal (aDu m c i)) := by
  have e := congrFun (h c) default
  simp only [Cert.Pre_up_finite.fn, Cert.Pre_up_finite.fn_part2, Cert.Pre_up_finite.fn_part1] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3, real_of_all _ _ _ _ _ _ e4, real_of_all _ _ _ _ _ _ e5, real_of_all _ _ _ _ _ _ e6, real_of_all _ _ _ _ _ _ e7, real_of_all _ _ _ _ _ _ e8, real_of_all _ _ _ _ _ _ e9⟩

/-- Kernel and reference compute the same gradients. -/
theorem algebraic : Cert.algebraic_UpBwdIdeal_UpBwdRefIdeal_pre_up_finite := by
  intro m g m' g' hp hm
  refine ⟨fun c => (dats m 0 c).arrAt 10 cfg0.N, fun c => (dats m 0 c).arrAt 11 cfg0.N, fun c => (dats m 0 c).arrAt 12 cfg0.N,
    fun c => (dats m 0 c).arrAt 13 cfg0.N, Value.run_blocks m g, ?_⟩
  refine (θ_run Cert.UpBwdRefIdeal.defs _ _).mono (fun r h c => ?_) (Cert.UpBwdRefIdeal.Value.run (F := Ideal) m' g')
  obtain ⟨h0, h1, h2, h3, hk⟩ := h c
  obtain ⟨q0, q1, q2, q3, q4, q5, q6, q7, q8, q9⟩ := hm c
  obtain ⟨r0, r1, r2, r3, r4, r5, r6, r7, r8, r9⟩ := reals m hp c
  refine ⟨h0.trans (Eq.trans ?_ (final10 m c).symm), h1.trans (Eq.trans ?_ (final11 m c).symm),
    h2.trans (Eq.trans ?_ (final12 m c).symm), h3.trans (Eq.trans ?_ (final13 m c).symm), hk⟩
  · funext i
    obtain ⟨a, b, rfl⟩ : ∃ (a : Fin 4096) (b : Fin 1024), i = ix2 a b := ⟨i 0, i 1, by ext x; fin_cases x <;> rfl⟩
    rw [Cert.UpBwdRefIdeal.Read.val_main_v71_eq, q0, q1, q2, q3, q4, q5, q6, q7, q8, q9]
    exact Cert.UpBwdRefIdeal.Val.v71_eq _ _ _ _ _ _ _ _ _ _ r0 r1 r2 r3 r4 r5 r6 r7 r9 a b
  · funext i
    obtain ⟨a, b, rfl⟩ : ∃ (a : Fin 4096) (b : Fin 1024), i = ix2 a b := ⟨i 0, i 1, by ext x; fin_cases x <;> rfl⟩
    rw [Cert.UpBwdRefIdeal.Read.val_main_v102_eq, q0, q1, q2, q3, q4, q5, q6, q7, q8, q9]
    exact Cert.UpBwdRefIdeal.Val.v102_eq _ _ _ _ _ _ _ _ _ _ r0 r1 r2 r3 r4 r5 r6 r7 r8 r9 a b
  · funext i
    obtain ⟨a, b, rfl⟩ : ∃ (a : Fin 4096) (b : Fin 1024), i = ix2 a b := ⟨i 0, i 1, by ext x; fin_cases x <;> rfl⟩
    rw [Cert.UpBwdRefIdeal.Read.val_main_v99_eq, q0, q1, q2, q3, q4, q5, q6, q7, q8, q9]
    exact Cert.UpBwdRefIdeal.Val.v99_eq _ _ _ _ _ _ _ _ _ _ r0 r1 r2 r3 r4 r5 r6 r7 r8 r9 a b
  · funext i
    obtain ⟨a, b, rfl⟩ : ∃ (a : Fin 8) (b : Fin 1024), i = ix2 a b := ⟨i 0, i 1, by ext x; fin_cases x <;> rfl⟩
    rw [Cert.UpBwdRefIdeal.Read.val_main_v101_eq, q0, q1, q2, q3, q4, q5, q6, q7, q8, q9]
    exact Cert.UpBwdRefIdeal.Val.vs_eq _ _ _ _ _ _ _ _ _ _ r0 r1 r2 r3 r4 r5 r6 r7 r9 a b

/-- The reference leaves its arguments as they were; it has no semaphore. -/
theorem frame_ref : Cert.quiescent_UpBwdRefIdeal := fun m g _ =>
  (θ_run Cert.UpBwdRefIdeal.defs _ _).mono (fun _ h => ⟨fun c => (h c).2.2.2.2, sem_eq_zero_of_no_sems (by decide) _⟩)
    (Cert.UpBwdRefIdeal.Value.run (F := Ideal) m g)

/-- Every claim on `up_bwd`. -/
theorem claims : Cert.quiescent_UpBwd ∧ Cert.quiescent_UpBwdIdeal ∧ Cert.quiescent_UpBwdIdeal_pre_up_finite
    ∧ Cert.quiescent_UpBwdRefIdeal ∧ Cert.quiescent_UpBwdRefIdeal_pre_up_finite ∧ Cert.preserves_UpBwd_UpBwdIdeal
    ∧ Cert.algebraic_UpBwdIdeal_UpBwdRefIdeal_pre_up_finite :=
  ⟨fun m g _ => Cert.UpBwd.Gen.frame m g, fun m g _ => Cert.UpBwdIdeal.Gen.frame m g, fun m g _ => Cert.UpBwdIdeal.Gen.frame m g,
    frame_ref, fun m g _ => frame_ref m g trivial, trivial, algebraic⟩

end Cert.UpBwdIdeal.Val
end
-- ==== Proof.TailRows.lean ====
/-
  One row of the down-projection's tail: the projection's result, the error against the target and the gradients that the
  loss sends back, and one row's share of the loss.
-/
module

public import proofs.«01_k».proof.Proof.Common

@[expose] public section

noncomputable section

open Idealize.ShloMosaic

namespace Step

/-- A row of the down-projection. -/
def tailY (a : Fin 3072 → EReal) (w : Fin 3072 → Fin 1024 → EReal) (k : Fin 1024) : EReal := ∑ j, a j * w j k

/-- A row of the error: the residual `x` and the gated post-norm of `y` (gate `t`, gain `g`) against the target `q`. -/
def tailErr (y x t g q : Fin 1024 → EReal) (k : Fin 1024) : EReal := x k + t k * (y k * rinv y * g k) - q k

/-- A row of the loss's gradient: the error `e` over the number of features. -/
def tailDo (e : Fin 1024 → EReal) (k : Fin 1024) : EReal := e k * Ideal.ofBits .f32 981467136#32

/-- A row of the gradient of the down-projection's result `y` from the loss's gradient `d`. -/
def tailDy (d y t g : Fin 1024 → EReal) (k : Fin 1024) : EReal :=
  rmsBwd (fun k => d k * t k * g k) (fun k => y k * rinv y) (rinv y) k

/-- A row's contribution to the gradients of the residual gate (0) and the post-norm's gain (1). -/
def tailVs (j : Fin 8) (d y t g : Fin 1024 → EReal) (k : Fin 1024) : EReal :=
  if j = 0 then d k * (y k * rinv y) * g k else if j = 1 then d k * t k * (y k * rinv y) else 0

/-- The loss of 256 rows of errors: half the sum of their squares over the number of features. -/
def tailLoss (e : Fin 256 → Fin 1024 → EReal) : EReal :=
  Ideal.ofBits .f32 1056964608#32 * (∑ r, ∑ k, e r k * e r k) * Ideal.ofBits .f32 981467136#32

end Step

end
-- ==== Proof.TailBlock.lean ====
/-
  What one grid point of the tail of the down-projection leaves in its two row blocks: 512 rows each of the gradient of
  the projection's result and of the loss's gradient.
-/
module

public import proofs.«01_k».proof.Proof.Gen.TailIdeal.Value
public import proofs.«01_k».proof.Proof.TailRows
public import Idealize.ShloMosaic.Lib.Pointwise
public import Idealize.ShloMosaic.Lib.Pointwise.Blocks
public import Idealize.ShloMosaic.Lib.Tactic

@[expose] public section

set_option maxRecDepth 16384

noncomputable section

open Idealize.ShloMosaic Idealize.ShloMosaic.TcCoe Idealize.SL.Sem

namespace Cert.TailIdeal.Val

open Cert.TailIdeal Cert.TailIdeal.Gen Step

variable (c : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S8x128 .f32) (harg9 : arg9.IsWhole) (arg10 : Memref sig .tc .vmem S8x1024 .f32) (harg10 : arg10.IsWhole)
    (x0 : Vec Ideal S512x3072 .bf16) (x1 : Vec Ideal S3072x1024 .bf16) (x2 : Vec Ideal S512x1024 .f32) (x3 : Vec Ideal S1x1024 .f32) (x4 : Vec Ideal S1x1024 .f32) (x5 : Vec Ideal S512x1024 .f32)

/-- Row `r` of the down-projection. -/
def yBlk (r : Fin 512) : Fin 1024 → EReal := tailY (fun j => x0 (ix2 r j)) (fun j k => x1 (ix2 j k))

/-- Row `r` of the error. -/
def eBlk (r : Fin 512) : Fin 1024 → EReal :=
  tailErr (yBlk x0 x1 r) (fun k => x2 (ix2 r k)) (fun k => x3 (ix2 0 k)) (fun k => x4 (ix2 0 k)) (fun k => x5 (ix2 r k))

/-- Row `r` of the loss's gradient. -/
def oBlk (r : Fin 512) : Fin 1024 → EReal := tailDo (eBlk x0 x1 x2 x3 x4 x5 r)

/-- Row `r` of the gradient of the down-projection's result. -/
def dBlk (r : Fin 512) : Fin 1024 → EReal :=
  tailDy (oBlk x0 x1 x2 x3 x4 x5 r) (yBlk x0 x1 r) (fun k => x3 (ix2 0 k)) (fun k => x4 (ix2 0 k))

/-- Row `r`'s contribution to the column sums. -/
def vsBlk (j : Fin 8) (r : Fin 512) : Fin 1024 → EReal :=
  tailVs j (oBlk x0 x1 x2 x3 x4 x5 r) (yBlk x0 x1 r) (fun k => x3 (ix2 0 k)) (fun k => x4 (ix2 0 k))

/-- The loss of the block's lower and upper rows. -/
def lossBlk : EReal :=
  tailLoss (fun r => eBlk x0 x1 x2 x3 x4 x5 ⟨r.val, by omega⟩) + tailLoss (fun r => eBlk x0 x1 x2 x3 x4 x5 ⟨256 + r.val, by omega⟩)

/-- The upper 256 rows of the gradient of the down-projection's result, first point. -/
theorem out_A6_256 (hc0 : cond0_0 i) (r : Fin 256) (k : Fin 1024) :
    out0_A_6 c i arg1 harg1 arg2 harg2 arg3 harg3 arg4 harg4 arg5 harg5 arg6 harg6 arg7 harg7 arg8 harg8 arg9 harg9 arg10 harg10 hc0 x0 x1 x2 x3 x4 x5 (ix2 ⟨256 + r.val, by omega⟩ k) = dBlk x0 x1 x2 x3 x4 x5 ⟨256 + r.val, by omega⟩ k := by
  unfold out0_A_6
  rw [View.read_writes_junk_eq_canon]
  unfold kernelRun0_A
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- The lower 256 rows of the gradient of the down-projection's result, first point. -/
theorem out_A6_0 (hc0 : cond0_0 i) (r : Fin 256) (k : Fin 1024) :
    out0_A_6 c i arg1 harg1 arg2 harg2 arg3 harg3 arg4 harg4 arg5 harg5 arg6 harg6 arg7 harg7 arg8 harg8 arg9 harg9 arg10 harg10 hc0 x0 x1 x2 x3 x4 x5 (ix2 ⟨0 + r.val, by omega⟩ k) = dBlk x0 x1 x2 x3 x4 x5 ⟨0 + r.val, by omega⟩ k := by
  unfold out0_A_6
  rw [View.read_writes_junk_eq_canon]
  unfold kernelRun0_A
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- All 512 rows of the gradient of the down-projection's result, first point. -/
theorem out_A6 (hc0 : cond0_0 i) (r : Fin 512) (k : Fin 1024) :
    out0_A_6 c i arg1 harg1 arg2 harg2 arg3 harg3 arg4 harg4 arg5 harg5 arg6 harg6 arg7 harg7 arg8 harg8 arg9 harg9 arg10 harg10 hc0 x0 x1 x2 x3 x4 x5 (ix2 r k) = dBlk x0 x1 x2 x3 x4 x5 r k := by
  rcases lt_or_ge r.val 256 with h | h
  · have e : r = ⟨0 + (⟨r.val, h⟩ : Fin 256).val, by omega⟩ := Fin.ext (by simp)
    rw [e]; exact out_A6_0 c i arg1 harg1 arg2 harg2 arg3 harg3 arg4 harg4 arg5 harg5 arg6 harg6 arg7 harg7 arg8 harg8 arg9 harg9 arg10 harg10 x0 x1 x2 x3 x4 x5 hc0 ⟨r.val, h⟩ k
  · have e : r = ⟨256 + (⟨r.val - 256, by omega⟩ : Fin 256).val, by omega⟩ := Fin.ext (by show r.val = 256 + (r.val - 256); omega)
    rw [e]; exact out_A6_256 c i arg1 harg1 arg2 harg2 arg3 harg3 arg4 harg4 arg5 harg5 arg6 harg6 arg7 harg7 arg8 harg8 arg9 harg9 arg10 harg10 x0 x1 x2 x3 x4 x5 hc0 ⟨r.val - 256, by omega⟩ k

/-- The upper 256 rows of the gradient of the down-projection's result, later points. -/
theorem out_B6_256 (hc0 : ¬ cond0_0 i) (xo8 : Vec Ideal S8x128 .f32) (xo9 : Vec Ideal S8x1024 .f32) (r : Fin 256) (k : Fin 1024) :
    out0_B_6 c i arg1 harg1 arg2 harg2 arg3 harg3 arg4 harg4 arg5 harg5 arg6 harg6 arg7 harg7 arg8 harg8 arg9 harg9 arg10 harg10 hc0 x0 x1 x2 x3 x4 x5 xo8 xo9 (ix2 ⟨256 + r.val, by omega⟩ k) = dBlk x0 x1 x2 x3 x4 x5 ⟨256 + r.val, by omega⟩ k := by
  unfold out0_B_6
  rw [View.read_writes_junk_eq_canon]
  unfold kernelRun0_B
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- The lower 256 rows of the gradient of the down-projection's result, later points. -/
theorem out_B6_0 (hc0 : ¬ cond0_0 i) (xo8 : Vec Ideal S8x128 .f32) (xo9 : Vec Ideal S8x1024 .f32) (r : Fin 256) (k : Fin 1024) :
    out0_B_6 c i arg1 harg1 arg2 harg2 arg3 harg3 arg4 harg4 arg5 harg5 arg6 harg6 arg7 harg7 arg8 harg8 arg9 harg9 arg10 harg10 hc0 x0 x1 x2 x3 x4 x5 xo8 xo9 (ix2 ⟨0 + r.val, by omega⟩ k) = dBlk x0 x1 x2 x3 x4 x5 ⟨0 + r.val, by omega⟩ k := by
  unfold out0_B_6
  rw [View.read_writes_junk_eq_canon]
  unfold kernelRun0_B
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- All 512 rows of the gradient of the down-projection's result, later points. -/
theorem out_B6 (hc0 : ¬ cond0_0 i) (xo8 : Vec Ideal S8x128 .f32) (xo9 : Vec Ideal S8x1024 .f32) (r : Fin 512) (k : Fin 1024) :
    out0_B_6 c i arg1 harg1 arg2 harg2 arg3 harg3 arg4 harg4 arg5 harg5 arg6 harg6 arg7 harg7 arg8 harg8 arg9 harg9 arg10 harg10 hc0 x0 x1 x2 x3 x4 x5 xo8 xo9 (ix2 r k) = dBlk x0 x1 x2 x3 x4 x5 r k := by
  rcases lt_or_ge r.val 256 with h | h
  · have e : r = ⟨0 + (⟨r.val, h⟩ : Fin 256).val, by omega⟩ := Fin.ext (by simp)
    rw [e]; exact out_B6_0 c i arg1 harg1 arg2 harg2 arg3 harg3 arg4 harg4 arg5 harg5 arg6 harg6 arg7 harg7 arg8 harg8 arg9 harg9 arg10 harg10 x0 x1 x2 x3 x4 x5 hc0 xo8 xo9 ⟨r.val, h⟩ k
  · have e : r = ⟨256 + (⟨r.val - 256, by omega⟩ : Fin 256).val, by omega⟩ := Fin.ext (by show r.val = 256 + (r.val - 256); omega)
    rw [e]; exact out_B6_256 c i arg1 harg1 arg2 harg2 arg3 harg3 arg4 harg4 arg5 harg5 arg6 harg6 arg7 harg7 arg8 harg8 arg9 harg9 arg10 harg10 x0 x1 x2 x3 x4 x5 hc0 xo8 xo9 ⟨r.val - 256, by omega⟩ k

/-- The upper 256 rows of the loss's gradient, first point. -/
theorem out_A7_256 (hc0 : cond0_0 i) (r : Fin 256) (k : Fin 1024) :
    out0_A_7 c i arg1 harg1 arg2 harg2 arg3 harg3 arg4 harg4 arg5 harg5 arg6 harg6 arg7 harg7 arg8 harg8 arg9 harg9 arg10 harg10 hc0 x0 x1 x2 x3 x4 x5 (ix2 ⟨256 + r.val, by omega⟩ k) = oBlk x0 x1 x2 x3 x4 x5 ⟨256 + r.val, by omega⟩ k := by
  unfold out0_A_7
  rw [View.read_writes_junk_eq_canon]
  unfold kernelRun0_A
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- The lower 256 rows of the loss's gradient, first point. -/
theorem out_A7_0 (hc0 : cond0_0 i) (r : Fin 256) (k : Fin 1024) :
    out0_A_7 c i arg1 harg1 arg2 harg2 arg3 harg3 arg4 harg4 arg5 harg5 arg6 harg6 arg7 harg7 arg8 harg8 arg9 harg9 arg10 harg10 hc0 x0 x1 x2 x3 x4 x5 (ix2 ⟨0 + r.val, by omega⟩ k) = oBlk x0 x1 x2 x3 x4 x5 ⟨0 + r.val, by omega⟩ k := by
  unfold out0_A_7
  rw [View.read_writes_junk_eq_canon]
  unfold kernelRun0_A
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- All 512 rows of the loss's gradient, first point. -/
theorem out_A7 (hc0 : cond0_0 i) (r : Fin 512) (k : Fin 1024) :
    out0_A_7 c i arg1 harg1 arg2 harg2 arg3 harg3 arg4 harg4 arg5 harg5 arg6 harg6 arg7 harg7 arg8 harg8 arg9 harg9 arg10 harg10 hc0 x0 x1 x2 x3 x4 x5 (ix2 r k) = oBlk x0 x1 x2 x3 x4 x5 r k := by
  rcases lt_or_ge r.val 256 with h | h
  · have e : r = ⟨0 + (⟨r.val, h⟩ : Fin 256).val, by omega⟩ := Fin.ext (by simp)
    rw [e]; exact out_A7_0 c i arg1 harg1 arg2 harg2 arg3 harg3 arg4 harg4 arg5 harg5 arg6 harg6 arg7 harg7 arg8 harg8 arg9 harg9 arg10 harg10 x0 x1 x2 x3 x4 x5 hc0 ⟨r.val, h⟩ k
  · have e : r = ⟨256 + (⟨r.val - 256, by omega⟩ : Fin 256).val, by omega⟩ := Fin.ext (by show r.val = 256 + (r.val - 256); omega)
    rw [e]; exact out_A7_256 c i arg1 harg1 arg2 harg2 arg3 harg3 arg4 harg4 arg5 harg5 arg6 harg6 arg7 harg7 arg8 harg8 arg9 harg9 arg10 harg10 x0 x1 x2 x3 x4 x5 hc0 ⟨r.val - 256, by omega⟩ k

/-- The upper 256 rows of the loss's gradient, later points. -/
theorem out_B7_256 (hc0 : ¬ cond0_0 i) (xo8 : Vec Ideal S8x128 .f32) (xo9 : Vec Ideal S8x1024 .f32) (r : Fin 256) (k : Fin 1024) :
    out0_B_7 c i arg1 harg1 arg2 harg2 arg3 harg3 arg4 harg4 arg5 harg5 arg6 harg6 arg7 harg7 arg8 harg8 arg9 harg9 arg10 harg10 hc0 x0 x1 x2 x3 x4 x5 xo8 xo9 (ix2 ⟨256 + r.val, by omega⟩ k) = oBlk x0 x1 x2 x3 x4 x5 ⟨256 + r.val, by omega⟩ k := by
  unfold out0_B_7
  rw [View.read_writes_junk_eq_canon]
  unfold kernelRun0_B
  dsimp only
  sl_unfold_words
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- The lower 256 rows of the loss's gradient, later points. -/
theorem out_B7_0 (hc0 : ¬ cond0_0 i) (xo8 : Vec Ideal S8x128 .f32) (xo9 : Vec Ideal S8x1024 .f32) (r : Fin 256) (k : Fin 1024) :
    out0_B_7 c i arg1 harg1 arg2 harg2 arg3 harg3 arg4 harg4 arg5 harg5 arg6 harg6 arg7 harg7 arg8 harg8 arg9 harg9 arg10 harg10 hc0 x0 x1 x2 x3 x4 x5 xo8 xo9 (ix2 ⟨0 + r.val, by omega⟩ k) = oBlk x0 x1 x2 x3 x4 x5 ⟨0 + r.val, by omega⟩ k := by
  unfold out0_B_7
  rw [View.read_writes_junk_eq_canon]
  unfold kernelRun0_B
  dsimp only
  sl_unfold_words
  rw [canon_miss _ _ _ _ 0 (Or.inl (by show 0 + r.val < 256; omega))]
  rw [canon_hit _ _ _ _ (ix2 r k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rfl

/-- All 512 rows of the loss's gradient, later points. -/
theorem out_B7 (hc0 : ¬ cond0_0 i) (xo8 : Vec Ideal S8x128 .f32) (xo9 : Vec Ideal S8x1024 .f32) (r : Fin 512) (k : Fin 1024) :
    out0_B_7 c i arg1 harg1 arg2 harg2 arg3 harg3 arg4 harg4 arg5 harg5 arg6 harg6 arg7 harg7 arg8 harg8 arg9 harg9 arg10 harg10 hc0 x0 x1 x2 x3 x4 x5 xo8 xo9 (ix2 r k) = oBlk x0 x1 x2 x3 x4 x5 r k := by
  rcases lt_or_ge r.val 256 with h | h
  · have e : r = ⟨0 + (⟨r.val, h⟩ : Fin 256).val, by omega⟩ := Fin.ext (by simp)
    rw [e]; exact out_B7_0 c i arg1 harg1 arg2 harg2 arg3 harg3 arg4 harg4 arg5 harg5 arg6 harg6 arg7 harg7 arg8 harg8 arg9 harg9 arg10 harg10 x0 x1 x2 x3 x4 x5 hc0 xo8 xo9 ⟨r.val, h⟩ k
  · have e : r = ⟨256 + (⟨r.val - 256, by omega⟩ : Fin 256).val, by omega⟩ := Fin.ext (by show r.val = 256 + (r.val - 256); omega)
    rw [e]; exact out_B7_256 c i arg1 harg1 arg2 harg2 arg3 harg3 arg4 harg4 arg5 harg5 arg6 harg6 arg7 harg7 arg8 harg8 arg9 harg9 arg10 harg10 x0 x1 x2 x3 x4 x5 hc0 xo8 xo9 ⟨r.val - 256, by omega⟩ k

end Cert.TailIdeal.Val

end
-- ==== Proof.TailSums.lean ====
/-
  What one grid point of the tail of the down-projection adds to the loss and to the two column sums.
-/
module

public import proofs.«01_k».proof.Proof.Gen.TailIdeal.Value
public import proofs.«01_k».proof.Proof.TailRows
public import Idealize.ShloMosaic.Lib.Pointwise
public import Idealize.ShloMosaic.Lib.Pointwise.Blocks
public import Idealize.ShloMosaic.Lib.Tactic
public import proofs.«01_k».proof.Proof.TailBlock

@[expose] public section

set_option maxRecDepth 16384

noncomputable section

open Idealize.ShloMosaic Idealize.ShloMosaic.TcCoe Idealize.SL.Sem

namespace Cert.TailIdeal.Val

open Cert.TailIdeal Cert.TailIdeal.Gen Step

variable (c : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S8x128 .f32) (harg9 : arg9.IsWhole) (arg10 : Memref sig .tc .vmem S8x1024 .f32) (harg10 : arg10.IsWhole)
    (x0 : Vec Ideal S512x3072 .bf16) (x1 : Vec Ideal S3072x1024 .bf16) (x2 : Vec Ideal S512x1024 .f32) (x3 : Vec Ideal S1x1024 .f32) (x4 : Vec Ideal S1x1024 .f32) (x5 : Vec Ideal S512x1024 .f32)

/-- The loss's block, first point. -/
theorem out_A8 (hc0 : cond0_0 i) (a : Fin 8) (b : Fin 128) :
    out0_A_8 c i arg1 harg1 arg2 harg2 arg3 harg3 arg4 harg4 arg5 harg5 arg6 harg6 arg7 harg7 arg8 harg8 arg9 harg9 arg10 harg10 hc0 x0 x1 x2 x3 x4 x5 (ix2 a b) = lossBlk x0 x1 x2 x3 x4 x5 := by
  unfold out0_A_8
  rw [View.read_writes_junk_eq_canon]
  unfold kernelRun0_A
  dsimp only
  sl_unfold_words
  simp only [View.readCov_cons_toLoadRect]
  rw [canon_hit _ _ _ _ (ix2 a b) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay3]
  rfl

/-- The loss's block, later points. -/
theorem out_B8 (hc0 : ¬ cond0_0 i) (xo8 : Vec Ideal S8x128 .f32) (xo9 : Vec Ideal S8x1024 .f32) (a : Fin 8) (b : Fin 128) :
    out0_B_8 c i arg1 harg1 arg2 harg2 arg3 harg3 arg4 harg4 arg5 harg5 arg6 harg6 arg7 harg7 arg8 harg8 arg9 harg9 arg10 harg10 hc0 x0 x1 x2 x3 x4 x5 xo8 xo9 (ix2 a b) = xo8 (ix2 a b) + lossBlk x0 x1 x2 x3 x4 x5 := by
  unfold out0_B_8
  rw [View.read_writes_junk_eq_canon]
  unfold kernelRun0_B
  dsimp only
  sl_unfold_words
  simp only [View.readCov_cons_toLoadRect]
  rw [canon_hit _ _ _ _ (ix2 a b) (fun a => by fin_cases a <;> simp)]
  simp only [View.readAt_eq_ld, harg1.read_unread, harg2.read_unread, harg3.read_unread, harg4.read_unread, harg5.read_unread, harg6.read_unread, harg9.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  exact add_assoc _ _ _

/-- Row 0 of the column sums, first point. -/
theorem out_A9_0 (hc0 : cond0_0 i) (k : Fin 1024) :
    out0_A_9 c i arg1 harg1 arg2 harg2 arg3 harg3 arg4 harg4 arg5 harg5 arg6 harg6 arg7 harg7 arg8 harg8 arg9 harg9 arg10 harg10 hc0 x0 x1 x2 x3 x4 x5 (ix2 0 k) = ∑ r : Fin 512, vsBlk x0 x1 x2 x3 x4 x5 0 r k := by
  unfold out0_A_9
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rw [readCov_apply _ _ _ _ (ix2 0 k) (fun a => by fin_cases a <;> simp), canon_hit _ _ _ _ (ix2 0 k) (fun a => by fin_cases a <;> simp)]
  pointwise [k0_pay4]
  rw [sum_512']
  rfl

/-- Row 0 of the column sums, later points. -/
theorem out_B9_0 (hc0 : ¬ cond0_0 i) (xo8 : Vec Ideal S8x128 .f32) (xo9 : Vec Ideal S8x1024 .f32) (k : Fin 1024) :
    out0_B_9 c i arg1 harg1 arg2 harg2 arg3 harg3 arg4 harg4 arg5 harg5 arg6 harg6 arg7 harg7 arg8 harg8 arg9 harg9 arg10 harg10 hc0 x0 x1 x2 x3 x4 x5 xo8 xo9 (ix2 0 k) = xo9 (ix2 0 k) + ∑ r : Fin 512, vsBlk x0 x1 x2 x3 x4 x5 0 r k := by
  unfold out0_B_9
  unfold kernelRun0_B
  dsimp only
  sl_unfold_words
  simp (disch := first | decide | simp) only [readCov_miss (s := S8x1024) (a := 0), View.readCov_cons_toLoadRect]
  refine (read_writes_miss _ _ _ _ _ _ 0 (Or.inl (by simp))).trans ?_
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg10.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rw [sum_512]
  rfl

/-- Row 1 of the column sums, first point. -/
theorem out_A9_1 (hc0 : cond0_0 i) (k : Fin 1024) :
    out0_A_9 c i arg1 harg1 arg2 harg2 arg3 harg3 arg4 harg4 arg5 harg5 arg6 harg6 arg7 harg7 arg8 harg8 arg9 harg9 arg10 harg10 hc0 x0 x1 x2 x3 x4 x5 (ix2 1 k) = ∑ r : Fin 512, vsBlk x0 x1 x2 x3 x4 x5 1 r k := by
  unfold out0_A_9
  rw [View.read_writes_junk_eq_canon]
  unfold kernelRun0_A
  dsimp only
  sl_unfold_words
  simp (disch := first | decide | simp) only [canon_miss (s := S8x1024) (a := 0), readCov_miss (s := S8x1024) (a := 0), View.readCov_cons_toLoadRect]
  rw [canon_hit _ _ _ _ (ix2 0 k) (fun a => by fin_cases a <;> simp)]
  simp only [View.readAt_eq_ld, harg1.read_unread, harg2.read_unread, harg3.read_unread, harg4.read_unread, harg5.read_unread, harg6.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rw [readCov_apply _ _ _ _ (ix2 1 k) (fun a => by fin_cases a <;> simp), canon_hit _ _ _ _ (ix2 1 k) (fun a => by fin_cases a <;> simp)]
  pointwise [k0_pay4]
  rw [sum_512']
  rfl

/-- Row 1 of the column sums, later points. -/
theorem out_B9_1 (hc0 : ¬ cond0_0 i) (xo8 : Vec Ideal S8x128 .f32) (xo9 : Vec Ideal S8x1024 .f32) (k : Fin 1024) :
    out0_B_9 c i arg1 harg1 arg2 harg2 arg3 harg3 arg4 harg4 arg5 harg5 arg6 harg6 arg7 harg7 arg8 harg8 arg9 harg9 arg10 harg10 hc0 x0 x1 x2 x3 x4 x5 xo8 xo9 (ix2 1 k) = xo9 (ix2 1 k) + ∑ r : Fin 512, vsBlk x0 x1 x2 x3 x4 x5 1 r k := by
  unfold out0_B_9
  unfold kernelRun0_B
  dsimp only
  sl_unfold_words
  simp (disch := first | decide | simp) only [readCov_miss (s := S8x1024) (a := 0), View.readCov_cons_toLoadRect]
  rw [read_writes_hit _ _ _ _ _ _ (ix2 0 k) (fun a => by fin_cases a <;> simp)]
  simp only [View.readAt_eq_ld, harg1.read_unread, harg2.read_unread, harg3.read_unread, harg4.read_unread, harg5.read_unread, harg6.read_unread, harg10.read_unread]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rw [sum_512]
  rfl

/-- The rows past the second are zero after the first point. -/
theorem out_A9_rest (hc0 : cond0_0 i) (j : Fin 8) (hj : 2 ≤ j.val) (k : Fin 1024) :
    out0_A_9 c i arg1 harg1 arg2 harg2 arg3 harg3 arg4 harg4 arg5 harg5 arg6 harg6 arg7 harg7 arg8 harg8 arg9 harg9 arg10 harg10 hc0 x0 x1 x2 x3 x4 x5 (ix2 j k) = 0 := by
  unfold out0_A_9
  rw [View.read_writes_junk_eq_canon]
  unfold kernelRun0_A
  dsimp only
  sl_unfold_words
  refine (canon_miss _ _ _ _ 0 (Or.inr (by show 1 + 1 ≤ j.val; omega))).trans ?_
  refine (canon_miss _ _ _ _ 0 (Or.inr (by show 0 + 1 ≤ j.val; omega))).trans ?_
  refine (canon_miss _ _ _ _ 0 (Or.inr (by show 1 + 1 ≤ j.val; omega))).trans ?_
  refine (canon_miss _ _ _ _ 0 (Or.inr (by show 0 + 1 ≤ j.val; omega))).trans ?_
  rw [canon_hit _ _ _ _ (ix2 j k) (fun a => by fin_cases a <;> simp)]
  pointwise [k0_pay4]

/-- The column sums after the first point. -/
theorem out_A9 (hc0 : cond0_0 i) (j : Fin 8) (k : Fin 1024) :
    out0_A_9 c i arg1 harg1 arg2 harg2 arg3 harg3 arg4 harg4 arg5 harg5 arg6 harg6 arg7 harg7 arg8 harg8 arg9 harg9 arg10 harg10 hc0 x0 x1 x2 x3 x4 x5 (ix2 j k) = 0 + ∑ r : Fin 512, vsBlk x0 x1 x2 x3 x4 x5 j r k := by
  by_cases hj : 2 ≤ j.val
  · rw [out_A9_rest c i arg1 harg1 arg2 harg2 arg3 harg3 arg4 harg4 arg5 harg5 arg6 harg6 arg7 harg7 arg8 harg8 arg9 harg9 arg10 harg10 x0 x1 x2 x3 x4 x5 hc0 j hj k]
    have hz : ∀ r : Fin 512, vsBlk x0 x1 x2 x3 x4 x5 j r k = 0 := fun r => by
      unfold vsBlk tailVs
      rw [if_neg (fun h => by subst h; omega), if_neg (fun h => by subst h; simp at hj)]
    simp only [hz, Finset.sum_const_zero, add_zero]
  · have : j = 0 ∨ j = 1 := by
      rcases j with ⟨v, hv⟩
      simp only [Fin.ext_iff] at hj ⊢
      simp at hj ⊢
      omega
    rcases this with rfl | rfl
    · exact (out_A9_0 c i arg1 harg1 arg2 harg2 arg3 harg3 arg4 harg4 arg5 harg5 arg6 harg6 arg7 harg7 arg8 harg8 arg9 harg9 arg10 harg10 x0 x1 x2 x3 x4 x5 hc0 k).trans (zero_add _).symm
    · exact (out_A9_1 c i arg1 harg1 arg2 harg2 arg3 harg3 arg4 harg4 arg5 harg5 arg6 harg6 arg7 harg7 arg8 harg8 arg9 harg9 arg10 harg10 x0 x1 x2 x3 x4 x5 hc0 k).trans (zero_add _).symm

/-- The rows past the second are left as they were at later points. -/
theorem out_B9_rest (hc0 : ¬ cond0_0 i) (xo8 : Vec Ideal S8x128 .f32) (xo9 : Vec Ideal S8x1024 .f32) (j : Fin 8) (hj : 2 ≤ j.val) (k : Fin 1024) :
    out0_B_9 c i arg1 harg1 arg2 harg2 arg3 harg3 arg4 harg4 arg5 harg5 arg6 harg6 arg7 harg7 arg8 harg8 arg9 harg9 arg10 harg10 hc0 x0 x1 x2 x3 x4 x5 xo8 xo9 (ix2 j k) = xo9 (ix2 j k) := by
  unfold out0_B_9
  unfold kernelRun0_B
  dsimp only
  sl_unfold_words
  refine (read_writes_miss _ _ _ _ _ _ 0 (Or.inr (by show 1 + 1 ≤ j.val; omega))).trans ?_
  refine (read_writes_miss _ _ _ _ _ _ 0 (Or.inr (by show 0 + 1 ≤ j.val; omega))).trans ?_
  refine (read_writes_miss _ _ _ _ _ _ 0 (Or.inr (by show 1 + 1 ≤ j.val; omega))).trans ?_
  refine (read_writes_miss _ _ _ _ _ _ 0 (Or.inr (by show 0 + 1 ≤ j.val; omega))).trans ?_
  exact congrFun (harg10.read_unread xo9) _

/-- The column sums after a later point. -/
theorem out_B9 (hc0 : ¬ cond0_0 i) (xo8 : Vec Ideal S8x128 .f32) (xo9 : Vec Ideal S8x1024 .f32) (j : Fin 8) (k : Fin 1024) :
    out0_B_9 c i arg1 harg1 arg2 harg2 arg3 harg3 arg4 harg4 arg5 harg5 arg6 harg6 arg7 harg7 arg8 harg8 arg9 harg9 arg10 harg10 hc0 x0 x1 x2 x3 x4 x5 xo8 xo9 (ix2 j k) = xo9 (ix2 j k) + ∑ r : Fin 512, vsBlk x0 x1 x2 x3 x4 x5 j r k := by
  by_cases hj : 2 ≤ j.val
  · rw [out_B9_rest c i arg1 harg1 arg2 harg2 arg3 harg3 arg4 harg4 arg5 harg5 arg6 harg6 arg7 harg7 arg8 harg8 arg9 harg9 arg10 harg10 x0 x1 x2 x3 x4 x5 hc0 xo8 xo9 j hj k]
    have hz : ∀ r : Fin 512, vsBlk x0 x1 x2 x3 x4 x5 j r k = 0 := fun r => by
      unfold vsBlk tailVs
      rw [if_neg (fun h => by subst h; omega), if_neg (fun h => by subst h; simp at hj)]
    simp only [hz, Finset.sum_const_zero, add_zero]
  · have : j = 0 ∨ j = 1 := by
      rcases j with ⟨v, hv⟩
      simp only [Fin.ext_iff] at hj ⊢
      simp at hj ⊢
      omega
    rcases this with rfl | rfl
    · exact out_B9_0 c i arg1 harg1 arg2 harg2 arg3 harg3 arg4 harg4 arg5 harg5 arg6 harg6 arg7 harg7 arg8 harg8 arg9 harg9 arg10 harg10 x0 x1 x2 x3 x4 x5 hc0 xo8 xo9 k
    · exact out_B9_1 c i arg1 harg1 arg2 harg2 arg3 harg3 arg4 harg4 arg5 harg5 arg6 harg6 arg7 harg7 arg8 harg8 arg9 harg9 arg10 harg10 x0 x1 x2 x3 x4 x5 hc0 xo8 xo9 k

end Cert.TailIdeal.Val

end
-- ==== Proof.TailArray.lean ====
/-
  The four result arrays of the down-projection's tail after the run: every row of the gradients of the projection's
  result and of the loss, the loss itself, and the column sums over all 4096 rows.
-/
module

public import proofs.«01_k».proof.Proof.TailSums
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.TailIdeal.Val

open Cert.TailIdeal Cert.TailIdeal.Gen Step
open Idealize.ShloMosaic.Pipeline (Dat)

variable (m : (ℓ : Loc nD τ sig) → Buf (Elt Ideal) ℓ) (ρ : Dev nD → PrngReg)

/-- The windows' block indices. -/
theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

theorem lt8 (t : Fin cfg0.N) : t.val < 8 := lt_of_lt_of_eq t.isLt N_0

/-- The argument arrays as extended reals. -/
abbrev aA (c : Dev nD) : Vec Ideal S4096x3072 .f32 := m ((c : Thread nD τ).loc main_arg0)
abbrev aW (c : Dev nD) : Vec Ideal S3072x1024 .f32 := m ((c : Thread nD τ).loc main_arg1)
abbrev aX (c : Dev nD) : Vec Ideal S4096x1024 .f32 := m ((c : Thread nD τ).loc main_arg2)
abbrev aT (c : Dev nD) : Vec Ideal S1x1024 .f32 := m ((c : Thread nD τ).loc main_arg3)
abbrev aG (c : Dev nD) : Vec Ideal S1x1024 .f32 := m ((c : Thread nD τ).loc main_arg4)
abbrev aQ (c : Dev nD) : Vec Ideal S4096x1024 .f32 := m ((c : Thread nD τ).loc main_arg5)

/-- Row `512 t + r`. -/
def row (t : Fin cfg0.N) (r : Fin 512) : Fin 4096 := ⟨t.val * 512 + r.val, by have := lt8 t; omega⟩

/-- Row `i` of the down-projection, -/
def yArr (c : Dev nD) (i : Fin 4096) : Fin 1024 → EReal := tailY (fun j => aA m c (ix2 i j)) (fun j k => aW m c (ix2 j k))

/-- of the error, -/
def eArr (c : Dev nD) (i : Fin 4096) : Fin 1024 → EReal :=
  tailErr (yArr m c i) (fun k => aX m c (ix2 i k)) (fun k => aT m c (ix2 0 k)) (fun k => aG m c (ix2 0 k)) (fun k => aQ m c (ix2 i k))

/-- of the loss's gradient -/
def oArr (c : Dev nD) (i : Fin 4096) : Fin 1024 → EReal := tailDo (eArr m c i)

/-- and of the gradient of the down-projection's result. -/
def dArr (c : Dev nD) (i : Fin 4096) : Fin 1024 → EReal :=
  tailDy (oArr m c i) (yArr m c i) (fun k => aT m c (ix2 0 k)) (fun k => aG m c (ix2 0 k))

/-- Row `i`'s contribution to the column sums. -/
def vsTerm (c : Dev nD) (j : Fin 8) (i : Fin 4096) : Fin 1024 → EReal :=
  tailVs j (oArr m c i) (yArr m c i) (fun k => aT m c (ix2 0 k)) (fun k => aG m c (ix2 0 k))

/-- The loss of 512 rows `f`, in two halves. -/
def loss512 (f : Fin 512 → Fin 1024 → EReal) : EReal :=
  tailLoss (fun r => f ⟨r.val, by omega⟩) + tailLoss (fun r => f ⟨256 + r.val, by omega⟩)

theorem blk0 (c : Dev nD) (t : Fin cfg0.N) (r : Fin 512) (j : Fin 3072) :
    (iblk m c 0 t : Vec Ideal S512x3072 .bf16) (ix2 r j) = aA m c (ix2 (row t r) j) := by
  blk_simp [iblk]
  entry_read
  pointwise
  blk_ext [idx t, row]

theorem blk1 (c : Dev nD) (t : Fin cfg0.N) (j : Fin 3072) (k : Fin 1024) :
    (iblk m c 1 t : Vec Ideal S3072x1024 .bf16) (ix2 j k) = aW m c (ix2 j k) := by
  blk_simp [iblk]
  entry_read
  pointwise
  blk_ext [idx t]

theorem blk2 (c : Dev nD) (t : Fin cfg0.N) (r : Fin 512) (j : Fin 1024) :
    (iblk m c 2 t : Vec Ideal S512x1024 .f32) (ix2 r j) = aX m c (ix2 (row t r) j) := by
  blk_ext [iblk, V, idx t, row]

theorem blk5 (c : Dev nD) (t : Fin cfg0.N) (r : Fin 512) (j : Fin 1024) :
    (iblk m c 5 t : Vec Ideal S512x1024 .f32) (ix2 r j) = aQ m c (ix2 (row t r) j) := by
  blk_ext [iblk, V, idx t, row]

theorem blk3 (c : Dev nD) (t : Fin cfg0.N) (j : Fin 1024) :
    (iblk m c 3 t : Vec Ideal S1x1024 .f32) (ix2 0 j) = aT m c (ix2 0 j) := by
  blk_ext [iblk, V, idx t]

theorem blk4 (c : Dev nD) (t : Fin cfg0.N) (j : Fin 1024) :
    (iblk m c 4 t : Vec Ideal S1x1024 .f32) (ix2 0 j) = aG m c (ix2 0 j) := by
  blk_ext [iblk, V, idx t]

theorem yBlk_eq (c : Dev nD) (t : Fin cfg0.N) (r : Fin 512) : yBlk (iblk m c 0 t) (iblk m c 1 t) r = yArr m c (row t r) := by
  unfold yBlk yArr
  simp only [blk0, blk1]

theorem eBlk_eq (c : Dev nD) (t : Fin cfg0.N) (r : Fin 512) : eBlk (iblk m c 0 t) (iblk m c 1 t) (iblk m c 2 t) (iblk m c 3 t) (iblk m c 4 t) (iblk m c 5 t) r = eArr m c (row t r) := by
  unfold eBlk eArr
  simp only [yBlk_eq, blk2, blk3, blk4, blk5]

theorem oBlk_eq (c : Dev nD) (t : Fin cfg0.N) (r : Fin 512) : oBlk (iblk m c 0 t) (iblk m c 1 t) (iblk m c 2 t) (iblk m c 3 t) (iblk m c 4 t) (iblk m c 5 t) r = oArr m c (row t r) := by
  unfold oBlk oArr
  rw [eBlk_eq]

theorem dBlk_eq (c : Dev nD) (t : Fin cfg0.N) (r : Fin 512) : dBlk (iblk m c 0 t) (iblk m c 1 t) (iblk m c 2 t) (iblk m c 3 t) (iblk m c 4 t) (iblk m c 5 t) r = dArr m c (row t r) := by
  unfold dBlk dArr
  simp only [oBlk_eq, yBlk_eq, blk3, blk4]

theorem vsBlk_eq (c : Dev nD) (t : Fin cfg0.N) (j : Fin 8) (r : Fin 512) : vsBlk (iblk m c 0 t) (iblk m c 1 t) (iblk m c 2 t) (iblk m c 3 t) (iblk m c 4 t) (iblk m c 5 t) j r = vsTerm m c j (row t r) := by
  unfold vsBlk vsTerm
  simp only [oBlk_eq, yBlk_eq, blk3, blk4]

theorem lossBlk_eq (c : Dev nD) (t : Fin cfg0.N) : lossBlk (iblk m c 0 t) (iblk m c 1 t) (iblk m c 2 t) (iblk m c 3 t) (iblk m c 4 t) (iblk m c 5 t) = loss512 (fun r => eArr m c (row t r)) := by
  unfold lossBlk loss512
  simp only [eBlk_eq]

theorem outs6 (c : Dev nD) (t : Fin cfg0.N) (r : Fin 512) (k : Fin 1024) :
    (outsAt0 m c t.val t.isLt).1 (ix2 r k) = dArr m c (row t r) k := by
  by_cases h0 : t.val % 8 = 0
  · rw [outsAt0_A m c t h0]
    dsimp only; rw [out_A6, dBlk_eq]
  · rw [outsAt0_B m c t h0]
    dsimp only; rw [out_B6, dBlk_eq]

theorem outs7 (c : Dev nD) (t : Fin cfg0.N) (r : Fin 512) (k : Fin 1024) :
    (outsAt0 m c t.val t.isLt).2.1 (ix2 r k) = oArr m c (row t r) k := by
  by_cases h0 : t.val % 8 = 0
  · rw [outsAt0_A m c t h0]
    dsimp only; rw [out_A7, oBlk_eq]
  · rw [outsAt0_B m c t h0]
    dsimp only; rw [out_B7, oBlk_eq]

/-- The column sums after the first point, -/
theorem outs9_A (c : Dev nD) (t : Fin cfg0.N) (h0 : t.val % 8 = 0) (j : Fin 8) (k : Fin 1024) :
    (outsAt0 m c t.val t.isLt).2.2.2 (ix2 j k) = 0 + ∑ r : Fin 512, vsTerm m c j (row t r) k := by
  rw [outsAt0_A m c t h0]
  dsimp only
  rw [out_A9]
  simp only [vsBlk_eq]

/-- and after a later point. -/
theorem outs9_B (c : Dev nD) (t : Fin cfg0.N) (h0 : ¬t.val % 8 = 0) (j : Fin 8) (k : Fin 1024) :
    (outsAt0 m c t.val t.isLt).2.2.2 (ix2 j k) = (outsAt0 m c (t.val - 1) (Nat.lt_of_le_of_lt (Nat.sub_le _ _) t.isLt)).2.2.2 (ix2 j k)
      + ∑ r : Fin 512, vsTerm m c j (row t r) k := by
  rw [outsAt0_B m c t h0]
  dsimp only
  rw [out_B9]
  simp only [vsBlk_eq]

/-- The last point. -/
def tLast : Fin cfg0.N := ⟨7, by rw [show cfg0.N = 8 from N_0]; decide⟩

/-- The column sums after the last point are sums over all rows. -/
theorem outs9_last (c : Dev nD) (j : Fin 8) (k : Fin 1024) :
    (outsAt0 m c tLast.val tLast.isLt).2.2.2 (ix2 j k) = ∑ i : Fin 4096, vsTerm m c j i k := by
  have h := Pipeline.eq_sum_fin_of_reset_step_apply_last (ι := Fin 8 × Fin 1024)
    (fun n h p => (outsAt0 m c n h).2.2.2 (ix2 p.1 p.2)) 8 (fun _ => (0 : EReal))
    (fun t p => ∑ r : Fin 512, vsTerm m c p.1 (row t r) p.2) (fun t h p => outs9_A m c t h p.1 p.2)
    (fun t h p => outs9_B m c t h p.1 p.2) (le_of_eq N_0) tLast N_0.symm (j, k)
  rw [zero_add] at h
  exact h.trans (Fin.sum_mul_add_fin 8 512 (fun i : Fin 4096 => vsTerm m c j i k))

/-- The loss after the first point, -/
theorem outs8_A (c : Dev nD) (t : Fin cfg0.N) (h0 : t.val % 8 = 0) (a : Fin 8) (b : Fin 128) :
    (outsAt0 m c t.val t.isLt).2.2.1 (ix2 a b) = 0 + loss512 (fun r => eArr m c (row t r)) := by
  rw [outsAt0_A m c t h0]
  dsimp only
  rw [out_A8, lossBlk_eq, zero_add]

/-- and after a later point. -/
theorem outs8_B (c : Dev nD) (t : Fin cfg0.N) (h0 : ¬t.val % 8 = 0) (a : Fin 8) (b : Fin 128) :
    (outsAt0 m c t.val t.isLt).2.2.1 (ix2 a b)
      = (outsAt0 m c (t.val - 1) (Nat.lt_of_le_of_lt (Nat.sub_le _ _) t.isLt)).2.2.1 (ix2 a b) + loss512 (fun r => eArr m c (row t r)) := by
  rw [outsAt0_B m c t h0]
  dsimp only
  rw [out_B8, lossBlk_eq]

/-- The loss after the last point is the sum of the points' losses. -/
theorem outs8_last (c : Dev nD) (a : Fin 8) (b : Fin 128) :
    (outsAt0 m c tLast.val tLast.isLt).2.2.1 (ix2 a b)
      = ∑ t : Fin 8, loss512 (fun r => eArr m c ⟨t.val * 512 + r.val, by omega⟩) := by
  have h := Pipeline.eq_sum_fin_of_reset_step_apply_last (ι := Fin 8 × Fin 128)
    (fun n h p => (outsAt0 m c n h).2.2.1 (ix2 p.1 p.2)) 8 (fun _ => (0 : EReal))
    (fun t p => loss512 (fun r => eArr m c (row t r))) (fun t h p => outs8_A m c t h p.1 p.2)
    (fun t h p => outs8_B m c t h p.1 p.2) (le_of_eq N_0) tLast N_0.symm (a, b)
  rw [zero_add] at h
  exact h

theorem final6 (c : Dev nD) : (dats m 0 c).arrAt 6 cfg0.N = (fun i => dArr m c (i 0) (i 1) : Vec Ideal S4096x1024 .bf16) := by
  refine (dats m 0 c).arrAt_eq_of_covers 6 _ (by decide +kernel) fun t _ y => ?_
  blk_simp
  rw [after0_6]
  obtain ⟨r, k, rfl⟩ : ∃ r k, y = ix2 (n0 := 512) (n1 := 1024) r k := ⟨y 0, y 1, eq_ix2 y⟩
  refine (outs6 m c t r k).trans ?_
  have he : (win0_6.blk t).view.emb (ix2 r k) = ix2 (row t r) k := by blk_ext [idx t, row]
  rw [he]
  rfl

theorem final7 (c : Dev nD) : (dats m 0 c).arrAt 7 cfg0.N = (fun i => oArr m c (i 0) (i 1) : Vec Ideal S4096x1024 .f32) := by
  refine (dats m 0 c).arrAt_eq_of_covers 7 _ (by decide +kernel) fun t _ y => ?_
  blk_simp
  rw [after0_7]
  obtain ⟨r, k, rfl⟩ : ∃ r k, y = ix2 (n0 := 512) (n1 := 1024) r k := ⟨y 0, y 1, eq_ix2 y⟩
  refine (outs7 m c t r k).trans ?_
  have he : (win0_7.blk t).view.emb (ix2 r k) = ix2 (row t r) k := by blk_ext [idx t, row]
  rw [he]
  rfl

/-- The loss after the run. -/
theorem final8 (c : Dev nD) : (dats m 0 c).arrAt 8 cfg0.N
    = (fun _ => ∑ t : Fin 8, loss512 (fun r => eArr m c ⟨t.val * 512 + r.val, by omega⟩) : Vec Ideal S8x128 .f32) := by
  refine (dats m 0 c).arrAt_eq_of_after_last 8 tLast (by decide +kernel) _ fun j => ?_
  blk_simp
  rw [after0_8]
  obtain ⟨r, k, rfl⟩ : ∃ r k, j = ix2 (n0 := 8) (n1 := 128) r k := ⟨j 0, j 1, eq_ix2 j⟩
  exact outs8_last m c r k

/-- The column sums after the run. -/
theorem final9 (c : Dev nD) : (dats m 0 c).arrAt 9 cfg0.N
    = (fun i => ∑ r : Fin 4096, vsTerm m c (i 0) r (i 1) : Vec Ideal S8x1024 .f32) := by
  refine (dats m 0 c).arrAt_eq_of_after_last 9 tLast (by decide +kernel) _ fun j => ?_
  blk_simp
  rw [after0_9]
  obtain ⟨r, k, rfl⟩ : ∃ r k, j = ix2 (n0 := 8) (n1 := 1024) r k := ⟨j 0, j 1, eq_ix2 j⟩
  exact outs9_last m c r k

end Cert.TailIdeal.Val

end
-- ==== Proof.TailRef.lean ====
/-
  What the reference of `ffn_tail` computes, row by row, in the kernel's terms: the error, the gradients of the loss and of
  the down-projection's result, the loss and the two column sums.
-/
module

public import proofs.«01_k».proof.Proof.Gen.TailRefIdeal.Run
public import proofs.«01_k».proof.Proof.Gen.TailRefIdeal.Read
public import proofs.«01_k».proof.Proof.Reals
public import proofs.«01_k».proof.Proof.TailRows

@[expose] public section

set_option maxRecDepth 16384
noncomputable section

open Idealize.ShloMosaic Idealize.ShloMosaic.TcCoe Idealize.SL.Sem

namespace Step

theorem word_two : Ideal.ofBits .f32 1073741824#32 = ((2 : ℝ) : EReal) := by
  simp [Ideal.ofBits, Ideal.ieee, -EReal.coe_mul]; norm_num

theorem word_1024_inv : Ideal.ofBits .f32 981467136#32 = ((1 / 1024 : ℝ) : EReal) := by
  simp [Ideal.ofBits, Ideal.ieee, -EReal.coe_mul]; norm_num

theorem IsReal.sub {x y : EReal} (hx : IsReal x) (hy : IsReal y) : IsReal (x - y) := by
  obtain ⟨a, rfl⟩ := hx
  obtain ⟨b, rfl⟩ := hy
  exact ⟨a - b, (EReal.coe_sub a b).symm⟩

end Step

namespace Cert.TailRefIdeal.Val

open Cert.TailRefIdeal Cert.TailRefIdeal.Gen Cert.TailRefIdeal.Read Step

variable (x0 : Vec Ideal S4096x3072 .f32) (x1 : Vec Ideal S3072x1024 .f32) (x2 : Vec Ideal S4096x1024 .f32)
  (x3 x4 : Vec Ideal S1x1024 .f32) (x5 : Vec Ideal S4096x1024 .f32)

/-- Row `i` of the down-projection, -/
def yRow (i : Fin 4096) : Fin 1024 → EReal := tailY (fun j => x0 (ix2 i j)) (fun j k => x1 (ix2 j k))

/-- of the error, -/
def eRow (i : Fin 4096) : Fin 1024 → EReal :=
  tailErr (yRow x0 x1 i) (fun k => x2 (ix2 i k)) (fun k => x3 (ix2 0 k)) (fun k => x4 (ix2 0 k)) (fun k => x5 (ix2 i k))

/-- of the loss's gradient -/
def oRow (i : Fin 4096) : Fin 1024 → EReal := tailDo (eRow x0 x1 x2 x3 x4 x5 i)

/-- and of the gradient of the down-projection's result. -/
def dRow (i : Fin 4096) : Fin 1024 → EReal :=
  tailDy (oRow x0 x1 x2 x3 x4 x5 i) (yRow x0 x1 i) (fun k => x3 (ix2 0 k)) (fun k => x4 (ix2 0 k))

/-- Row `i`'s contribution to the column sums. -/
def vsRow (j : Fin 8) (i : Fin 4096) : Fin 1024 → EReal :=
  tailVs j (oRow x0 x1 x2 x3 x4 x5 i) (yRow x0 x1 i) (fun k => x3 (ix2 0 k)) (fun k => x4 (ix2 0 k))

theorem v0_eq (i : Fin 4096) (k : Fin 1024) : val_main_v0 (F := Ideal) x0 x1 (ix2 i k) = yRow x0 x1 i k := by
  pointwise [val_main_v0]
  rfl

theorem v19_eq (i : Fin 4096) (k : Fin 1024) : val_main_v19 (F := Ideal) x0 x1 x2 x3 x4 x5 (ix2 i k) = eRow x0 x1 x2 x3 x4 x5 i k := by
  pointwise [val_main_v0, val_main_v1, val_main_cst, val_main_v2, val_main_v3, val_main_cst_0, val_main_v4, val_main_v5, val_main_cst_1, val_main_v6, val_main_v7, val_main_v8, val_main_v12, val_main_v13, val_main_v14, val_main_v15, val_main_v16, val_main_v17, val_main_v18, val_main_v19]
  rfl

/-- The loss's gradient: twice the error times half of one over the number of features. -/
theorem v33_eq (i : Fin 4096) (k : Fin 1024) : val_main_v33 (F := Ideal) x0 x1 x2 x3 x4 x5 (ix2 i k) = oRow x0 x1 x2 x3 x4 x5 i k := by
  pointwise [val_main_cst_3, val_main_v21, val_main_v22, val_main_cst_8, val_main_cst_9, val_main_v28, val_main_v29, val_main_cst_10, val_main_v30, val_main_v31, val_main_v32, val_main_v33]
  rw [v19_eq]
  unfold oRow tailDo
  simp only [word_half, word_two, word_1024, word_1024_inv, Ideal.div_coe (show (1024 : ℝ) ≠ 0 by norm_num)]
  rw [← mul_assoc, mul_comm]
  congr 1
  simp only [← EReal.coe_mul, mul_one]
  congr 1
  norm_num

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i))

include h0 h1 in
theorem yRow_real (i : Fin 4096) (k : Fin 1024) : IsReal (yRow x0 x1 i k) := by
  unfold yRow tailY
  exact IsReal.sum _ fun j => (h0 _).mul (h1 _)

include h0 h1 h2 h3 h4 h5 in
theorem eRow_real (i : Fin 4096) (k : Fin 1024) : IsReal (eRow x0 x1 x2 x3 x4 x5 i k) :=
  ((h2 _).add ((h3 _).mul (((yRow_real x0 x1 h0 h1 i k).mul (rinv_isReal (yRow_real x0 x1 h0 h1 i))).mul (h4 _)))).sub (h5 _)

include h0 h1 h2 h3 h4 h5 in
theorem oRow_real (i : Fin 4096) (k : Fin 1024) : IsReal (oRow x0 x1 x2 x3 x4 x5 i k) :=
  (eRow_real x0 x1 x2 x3 x4 x5 h0 h1 h2 h3 h4 h5 i k).mul (word_1024_inv ▸ IsReal.coe _)

/-- The gradient of the down-projection's row as differentiation writes it. -/
theorem v57_raw (i : Fin 4096) (k : Fin 1024) : val_main_v57 (F := Ideal) x0 x1 x2 x3 x4 x5 (ix2 i k) =
    x3 (ix2 0 k) * val_main_v33 (F := Ideal) x0 x1 x2 x3 x4 x5 (ix2 i k) * x4 (ix2 0 k) * rinv (fun k => val_main_v0 (F := Ideal) x0 x1 (ix2 i k))
    + val_main_v0 (F := Ideal) x0 x1 (ix2 i k) * sqGrad (fun k => val_main_v0 (F := Ideal) x0 x1 (ix2 i k))
          (fun k => x3 (ix2 0 k) * val_main_v33 (F := Ideal) x0 x1 x2 x3 x4 x5 (ix2 i k) * x4 (ix2 0 k))
    + sqGrad (fun k => val_main_v0 (F := Ideal) x0 x1 (ix2 i k))
          (fun k => x3 (ix2 0 k) * val_main_v33 (F := Ideal) x0 x1 x2 x3 x4 x5 (ix2 i k) * x4 (ix2 0 k)) * val_main_v0 (F := Ideal) x0 x1 (ix2 i k) := by
  pointwise [val_main_v1, val_main_cst, val_main_v2, val_main_v3, val_main_cst_0, val_main_v4, val_main_v5, val_main_cst_1, val_main_v6, val_main_v7, val_main_v8, val_main_v9, val_main_cst_2, val_main_v10, val_main_v11, val_main_v34, val_main_v35, val_main_v42, val_main_v43, val_main_v44, val_main_cst_13, val_main_v45, val_main_v46, val_main_v47, val_main_v48, val_main_v49, val_main_cst_14, val_main_v50, val_main_v51, val_main_cst_15, val_main_v52, val_main_v53, val_main_v54, val_main_v55, val_main_v56, val_main_v57]
  simp only [Finset.univ_unique, Finset.sum_singleton]
  rfl

include h0 h1 h2 h3 h4 h5 in
/-- The gradient of the down-projection's row is the kernel's. -/
theorem v57_eq (i : Fin 4096) (k : Fin 1024) : val_main_v57 (F := Ideal) x0 x1 x2 x3 x4 x5 (ix2 i k) = dRow x0 x1 x2 x3 x4 x5 i k := by
  rw [v57_raw]
  simp only [v0_eq, v33_eq, mul_comm (x3 _)]
  have e := rms_grad (x := yRow x0 x1 i) (a := fun k => oRow x0 x1 x2 x3 x4 x5 i k * x3 (ix2 0 k) * x4 (ix2 0 k))
    (yRow_real x0 x1 h0 h1 i)
    (fun k => ((oRow_real x0 x1 x2 x3 x4 x5 h0 h1 h2 h3 h4 h5 i k).mul (h3 _)).mul (h4 _)) k
  unfold dRow tailDy
  rw [e]

include h0 h1 h2 h3 h4 h5 in
/-- The same, stored in the narrower format. -/
theorem v60_eq (i : Fin 4096) (k : Fin 1024) : val_main_v60 (F := Ideal) x0 x1 x2 x3 x4 x5 (ix2 i k) = dRow x0 x1 x2 x3 x4 x5 i k := by
  rw [← v57_eq x0 x1 x2 x3 x4 x5 h0 h1 h2 h3 h4 h5]
  pointwise [val_main_v60]

/-- The loss: half the sum over the rows of the mean square of the error. -/
theorem v61_eq (a : Fin 8) (b : Fin 128) : val_main_v61 (F := Ideal) x0 x1 x2 x3 x4 x5 (ix2 a b) =
    Ideal.ofBits .f32 1056964608#32 * ∑ i : Fin 4096, Ideal.div (∑ k, eRow x0 x1 x2 x3 x4 x5 i k * eRow x0 x1 x2 x3 x4 x5 i k) (Ideal.ofBits .f32 1149239296#32) := by
  pointwise [val_main_v20, val_main_cst_4, val_main_v23, val_main_cst_5, val_main_v24, val_main_v25, val_main_cst_6, val_main_v26, val_main_cst_7, val_main_v27, val_main_v61]
  simp only [v19_eq]

/-- Each row of the stack is the column sum of the kernel's terms. -/
theorem vs_eq (j : Fin 8) (k : Fin 1024) : val_main_v59 (F := Ideal) x0 x1 x2 x3 x4 x5 (ix2 j k) = ∑ r : Fin 4096, vsRow x0 x1 x2 x3 x4 x5 j r k := by
  fin_cases j
  · pointwise [val_main_v1, val_main_cst, val_main_v2, val_main_v3, val_main_cst_0, val_main_v4, val_main_v5, val_main_cst_1, val_main_v6, val_main_v7, val_main_v8, val_main_v12, val_main_v13, val_main_v14, val_main_v15, val_main_v36, val_main_cst_11, val_main_v37, val_main_v38, val_main_v34, val_main_v35, val_main_v39, val_main_cst_12, val_main_v40, val_main_v41, val_main_cst_16, val_main_v58, val_main_v59]
    refine Finset.sum_congr rfl fun r _ => ?_
    simp only [v0_eq, v33_eq]
    rw [← mul_assoc]; rfl
  · pointwise [val_main_v1, val_main_cst, val_main_v2, val_main_v3, val_main_cst_0, val_main_v4, val_main_v5, val_main_cst_1, val_main_v6, val_main_v7, val_main_v8, val_main_v12, val_main_v13, val_main_v14, val_main_v15, val_main_v36, val_main_cst_11, val_main_v37, val_main_v38, val_main_v34, val_main_v35, val_main_v39, val_main_cst_12, val_main_v40, val_main_v41, val_main_cst_16, val_main_v58, val_main_v59]
    refine Finset.sum_congr rfl fun r _ => ?_
    simp only [v0_eq, v33_eq]
    rw [mul_comm, mul_comm (x3 _)]; rfl
  all_goals
    pointwise [val_main_v1, val_main_cst, val_main_v2, val_main_v3, val_main_cst_0, val_main_v4, val_main_v5, val_main_cst_1, val_main_v6, val_main_v7, val_main_v8, val_main_v12, val_main_v13, val_main_v14, val_main_v15, val_main_v36, val_main_cst_11, val_main_v37, val_main_v38, val_main_v34, val_main_v35, val_main_v39, val_main_cst_12, val_main_v40, val_main_v41, val_main_cst_16, val_main_v58, val_main_v59]
    simp [vsRow, tailVs]

end Cert.TailRefIdeal.Val

end
-- ==== Proof.TailProof.lean ====
/-
  The claims on `ffn_tail`: of finite arguments kernel and reference compute the same loss and the same gradients.
-/
module

public import proofs.«01_k».proof.Defs
public import proofs.«01_k».proof.Proof.TailArray
public import proofs.«01_k».proof.Proof.TailRef
public import proofs.«01_k».proof.Proof.Gen.Tail
public import proofs.«01_k».proof.Proof.Gen.Tail.Frame
public import proofs.«01_k».proof.Proof.Gen.Pre_tail_finite

@[expose] public section

noncomputable section

open Idealize.ShloMosaic Idealize.ShloMosaic.TcCoe Idealize.SL.Sem

namespace Step

/-- Half of the loss's sum taken 512 rows at a time is half of the sum of the rows' mean squares. -/
theorem loss_eq {e : Fin 4096 → Fin 1024 → EReal} (he : ∀ i k, IsReal (e i k)) :
    ∑ t : Fin 8, Cert.TailIdeal.Val.loss512 (fun r => e ⟨t.val * 512 + r.val, by omega⟩)
      = Ideal.ofBits .f32 1056964608#32 * ∑ i, Ideal.div (∑ k, e i k * e i k) (Ideal.ofBits .f32 1149239296#32) := by
  choose f hf using he
  have hs : ∀ i, ∑ k, e i k * e i k = ((∑ k, f i k * f i k : ℝ) : EReal) := fun i => by
    simp only [hf, coe_sum, EReal.coe_mul]
  have ht : ∀ t : Fin 8, Cert.TailIdeal.Val.loss512 (fun r => e ⟨t.val * 512 + r.val, by omega⟩)
      = ((∑ r : Fin 512, 1 / 2 * (∑ k, f ⟨t.val * 512 + r.val, by omega⟩ k * f ⟨t.val * 512 + r.val, by omega⟩ k) * (1 / 1024) : ℝ) : EReal) := fun t => by
    simp only [Cert.TailIdeal.Val.loss512, tailLoss, hs, word_half, word_1024_inv, ← coe_sum, ← EReal.coe_mul, ← EReal.coe_add]
    congr 1
    simp only [Finset.mul_sum, Finset.sum_mul]
    exact (Fin.sum_univ_add (a := 256) (b := 256) (fun r : Fin 512 => ∑ k, 1 / 2 * (f ⟨t.val * 512 + r.val, by omega⟩ k * f ⟨t.val * 512 + r.val, by omega⟩ k) * (1 / 1024))).symm
  simp only [ht, hs, word_half, word_1024, Ideal.div_coe (show (1024 : ℝ) ≠ 0 by norm_num), ← coe_sum, ← EReal.coe_mul]
  congr 1
  rw [Fin.sum_mul_add_fin 8 512 (fun i : Fin 4096 => 1 / 2 * (∑ k, f i k * f i k) * (1 / 1024)), Finset.mul_sum]
  exact Finset.sum_congr rfl fun i _ => mul_assoc _ _ _

end Step

namespace Cert.TailIdeal.Val

open Cert.TailIdeal Cert.TailIdeal.Gen Step

variable (m : (ℓ : Loc nD τ sig) → Buf (Elt Ideal) ℓ)

/-- The precondition: every element of the six arguments is a real number. -/
theorem reals (h : Cert.Pre_TailIdeal_tail_finite m) (c : Dev nD) :
    (∀ i, IsReal (aA m c i)) ∧ (∀ i, IsReal (aW m c i)) ∧ (∀ i, IsReal (aX m c i)) ∧ (∀ i, IsReal (aT m c i)) ∧ (∀ i, IsReal (aG m c i)) ∧ (∀ i, IsReal (aQ m c i)) := by
  have e := congrFun (h c) default
  simp only [Cert.Pre_tail_finite.fn, Cert.Pre_tail_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3, real_of_all _ _ _ _ _ _ e4, real_of_all _ _ _ _ _ _ e5⟩

/-- Kernel and reference compute the same loss and the same gradients. -/
theorem algebraic : Cert.algebraic_TailIdeal_TailRefIdeal_pre_tail_finite := by
  intro m g m' g' hp hm
  refine ⟨fun c => (dats m 0 c).arrAt 6 cfg0.N, fun c => (dats m 0 c).arrAt 7 cfg0.N, fun c => (dats m 0 c).arrAt 8 cfg0.N,
    fun c => (dats m 0 c).arrAt 9 cfg0.N, Value.run_blocks m g, ?_⟩
  refine (θ_run Cert.TailRefIdeal.defs _ _).mono (fun r h c => ?_) (Cert.TailRefIdeal.Value.run (F := Ideal) m' g')
  obtain ⟨h0, h1, h2, h3, hk⟩ := h c
  obtain ⟨q0, q1, q2, q3, q4, q5⟩ := hm c
  obtain ⟨r0, r1, r2, r3, r4, r5⟩ := reals m hp c
  refine ⟨h0.trans (Eq.trans ?_ (final6 m c).symm), h1.trans (Eq.trans ?_ (final7 m c).symm),
    h2.trans (Eq.trans ?_ (final8 m c).symm), h3.trans (Eq.trans ?_ (final9 m c).symm), hk⟩
  · funext i
    obtain ⟨a, b, rfl⟩ : ∃ (a : Fin 4096) (b : Fin 1024), i = ix2 a b := ⟨i 0, i 1, by ext x; fin_cases x <;> rfl⟩
    rw [Cert.TailRefIdeal.Read.val_main_v60_eq, q0, q1, q2, q3, q4, q5]
    exact Cert.TailRefIdeal.Val.v60_eq _ _ _ _ _ _ r0 r1 r2 r3 r4 r5 a b
  · funext i
    obtain ⟨a, b, rfl⟩ : ∃ (a : Fin 4096) (b : Fin 1024), i = ix2 a b := ⟨i 0, i 1, by ext x; fin_cases x <;> rfl⟩
    rw [Cert.TailRefIdeal.Read.val_main_v33_eq, q0, q1, q2, q3, q4, q5]
    exact Cert.TailRefIdeal.Val.v33_eq _ _ _ _ _ _ a b
  · funext i
    obtain ⟨a, b, rfl⟩ : ∃ (a : Fin 8) (b : Fin 128), i = ix2 a b := ⟨i 0, i 1, by ext x; fin_cases x <;> rfl⟩
    rw [Cert.TailRefIdeal.Read.val_main_v61_eq, q0, q1, q2, q3, q4, q5]
    exact (Cert.TailRefIdeal.Val.v61_eq _ _ _ _ _ _ a b).trans (loss_eq (e := eArr m c) (Cert.TailRefIdeal.Val.eRow_real _ _ _ _ _ _ r0 r1 r2 r3 r4 r5)).symm
  · funext i
    obtain ⟨a, b, rfl⟩ : ∃ (a : Fin 8) (b : Fin 1024), i = ix2 a b := ⟨i 0, i 1, by ext x; fin_cases x <;> rfl⟩
    rw [Cert.TailRefIdeal.Read.val_main_v59_eq, q0, q1, q2, q3, q4, q5]
    exact Cert.TailRefIdeal.Val.vs_eq _ _ _ _ _ _ a b

/-- The reference leaves its arguments as they were; it has no semaphore. -/
theorem frame_ref : Cert.quiescent_TailRefIdeal := fun m g _ =>
  (θ_run Cert.TailRefIdeal.defs _ _).mono (fun _ h => ⟨fun c => (h c).2.2.2.2, sem_eq_zero_of_no_sems (by decide) _⟩)
    (Cert.TailRefIdeal.Value.run (F := Ideal) m g)

/-- Every claim on `ffn_tail`. -/
theorem claims : Cert.quiescent_Tail ∧ Cert.quiescent_TailIdeal ∧ Cert.quiescent_TailIdeal_pre_tail_finite
    ∧ Cert.quiescent_TailRefIdeal ∧ Cert.quiescent_TailRefIdeal_pre_tail_finite ∧ Cert.preserves_Tail_TailIdeal
    ∧ Cert.algebraic_TailIdeal_TailRefIdeal_pre_tail_finite :=
  ⟨fun m g _ => Cert.Tail.Gen.frame m g, fun m g _ => Cert.TailIdeal.Gen.frame m g, fun m g _ => Cert.TailIdeal.Gen.frame m g,
    frame_ref, fun m g _ => frame_ref m g trivial, trivial, algebraic⟩

end Cert.TailIdeal.Val
end
-- ==== Proof.OnePoint.lean ====
/-
  A result window that only the first grid point writes and only the last grid point sends back: from the second point
  on its buffer holds what the first point left. And a load of a whole buffer reads the buffer.
-/
module

public import Idealize.ShloMosaic.Lib.Pipeline.FrameBody
public import Idealize.ShloMosaic.Lib.VecWindow

@[expose] public section

noncomputable section

open Idealize.ShloMosaic Idealize.SL.Sem
open Idealize.ShloMosaic.Pipeline (Dat Cfg Window)

namespace Step

section

variable {nD : Nat} {τ : Topo} {sig : RefSig} {Val : EltTy → Type} {Λ₀ : Idealize.SL.Sem.Labels}
variable {Ix : Type} [DecidableEq Ix] {Name : Type} [DecidableEq Name] {U : Type} [Idealize.SL.RA.URA U] {Lvl : Type}

/-- From the second point on, a window idle there and written back at the last point alone holds what the first point left. -/
theorem before_of_first {cfg : Pipeline.Cfg sig Λ₀} {c : Dev nD} (dat : Dat τ Val Ix Name U Lvl cfg c) (w : Fin cfg.W)
    (hw : (cfg.win w).isOut = true) (hclip : ∀ (i : cfg.grid.Coords) a, (cfg.win w).clip i a = none)
    (h0 : 0 < cfg.N) (hlive : cfg.idle w (cfg.grid.coords ⟨0, h0⟩) = false)
    (hidle : ∀ t : Fin cfg.N, t.val ≠ 0 → cfg.idle w (cfg.grid.coords t) = true)
    (hfl : ∀ t : Fin cfg.N, t.val + 1 < cfg.N → (cfg.win w).flush t = false) (d) :
    ∀ (n : ℕ) (hn : n + 1 < cfg.N), dat.before w ⟨n + 1, hn⟩ d = dat.after w ⟨0, h0⟩ := by
  intro n
  induction n with
  | zero =>
    intro hn
    rw [dat.before_of_pos w ⟨0 + 1, hn⟩ (Nat.succ_ne_zero 0) ((cfg.win w).fetch_out hw _) d]
    show (if (cfg.win w).flush ⟨0, _⟩ = true then d else dat.left w ⟨0, _⟩ d) = _
    rw [hfl ⟨0, h0⟩ hn, if_neg Bool.false_ne_true]
    unfold Dat.left
    rw [hlive]
    show dat.kept w ⟨0, h0⟩ d = _
    unfold Dat.kept
    rw [Pipeline.fill_of_clip_none w _ (hclip _) d (dat.after w _), Window.fill_cut]
  | succ n ih =>
    intro hn
    rw [dat.before_of_pos w ⟨n + 1 + 1, hn⟩ (Nat.succ_ne_zero _) ((cfg.win w).fetch_out hw _) d]
    show (if (cfg.win w).flush ⟨n + 1, _⟩ = true then d else dat.left w ⟨n + 1, _⟩ d) = _
    rw [hfl ⟨n + 1, Nat.lt_of_succ_lt hn⟩ hn, if_neg Bool.false_ne_true]
    unfold Dat.left
    rw [hidle ⟨n + 1, Nat.lt_of_succ_lt hn⟩ (Nat.succ_ne_zero n)]
    exact ih (Nat.lt_of_succ_lt hn)

end

/-- A load of a whole block reads the block. -/
theorem ld_whole {Val : EltTy → Type} {s : Shape} {e : EltTy} (x : s.Idx → Val e) {off : Fin s.rank → ℕ}
    (inb : ∀ a, off a + s.size a ≤ s.size a) : View.ld x (Rect.unit off s.size inb) = x := by
  funext y
  refine congrArg x (funext fun a => Fin.ext ?_)
  show off a + 1 * (y a).val = (y a).val
  have := inb a
  omega

end Step

end
-- ==== Proof.TwoStores.lean ====
/-
  A kernel body that loads two whole blocks, stores a function of them rounded to bf16, and where a condition holds stores
  the function itself: what it leaves, over any signature and any shapes. And the body's obligation from that, where the
  second result is written at the first grid point and sent back after the last.
-/
module

public import proofs.«01_k».proof.Proof.OnePoint
public import Idealize.ShloMosaic.Lib.Claim
public import Idealize.ShloMosaic.Lib.Tactic

@[expose] public section

set_option maxRecDepth 16384

noncomputable section

namespace Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {nD : Nat} {τ : Topo} {sig : RefSig} {Λ : Idealize.SL.Sem.Labels}

local notation "𝕄" => MT nD τ sig Unit (Elt F) ℕ (UR sig nD τ) ℕ

section

variable {s1 s2 s3 : Shape} {o1 : Fin s1.rank → ℕ} {o2 : Fin s2.rank → ℕ} {o3 : Fin s3.rank → ℕ}
  (i1 : ∀ a, o1 a + s1.size a ≤ s1.size a) (i2 : ∀ a, o2 a + s2.size a ≤ s2.size a) (i3 : ∀ a, o3 a + s3.size a ≤ s3.size a)
  (n1 : 0 < s1.numel) (n2 : 0 < s2.numel) (n3 : 0 < s3.numel)
  (pk : (Rect.unit (s := s3) o3 s3.size i3).PackedRows (EltTy.packing .bf16))
  (f : Vec F s1 .bf16 → Vec F s2 .bf16 → FVec F s3 .f32)
  (b : BitVec 1)
  (a1 : Memref sig .tc .vmem s1 .bf16) (h1 : a1.IsWhole) (a2 : Memref sig .tc .vmem s2 .bf16) (h2 : a2.IsWhole)
  (a3 : Memref sig .tc .vmem s3 .bf16) (h3 : a3.IsWhole) (a4 : Memref sig .tc .vmem s3 .f32) (h4 : a4.IsWhole)

/-- The function rounded to bf16. -/
def rounded (x1 : Vec F s1 .bf16) (x2 : Vec F s2 .bf16) : FVec F s3 .bf16 := truncf .bf16 (f x1 x2) (by decide)

/-- The body. -/
def twoStores : Prog (TpuEff nD τ sig (Elt F) Λ .tc) PUnit := do
  let v0 : Vec F s1 .bf16 ← Prog.lift (.load a1 (Rect.unit (s := s1) o1 s1.size i1).toLoadRect (View.loadsAt_vmem n1))
  let v2 : Vec F s2 .bf16 ← Prog.lift (.load a2 (Rect.unit (s := s2) o2 s2.size i2).toLoadRect (View.loadsAt_vmem n2))
  let v6 : Vec F s3 .bf16 ← Prog.lift (.load a3 (Rect.unit (s := s3) o3 s3.size i3).toLoadRect (View.loadsAt_vmem n3))
  Prog.lift (.store a3 (Rect.unit (s := s3) o3 s3.size i3) (rounded f v0 v2) Finset.univ
    (View.stores_vmem n3 (h3.storeExact_slice rfl _ pk) (fun _ => rfl)) (.inl rfl))
  if hb : b = 1#1 then do
    let v10 : Vec F s3 .f32 ← Prog.lift (.load a4 (Rect.unit (s := s3) o3 s3.size i3).toLoadRect (View.loadsAt_vmem n3))
    Prog.lift (.store a4 (Rect.unit (s := s3) o3 s3.size i3) (f v0 v2) Finset.univ (View.stores_vmem_bits_univ n3 rfl) (.inl rfl))
    pure ⟨⟩
  else do
    pure ⟨⟩
  pure ⟨⟩

variable (defs : Defs nD τ sig (Elt F) Λ) (c : Dev nD) (x1 : Vec F s1 .bf16) (x2 : Vec F s2 .bf16)

include h1 h2

/-- What the two loads read. -/
theorem loads_eq {γ : Type} (g : Vec F s1 .bf16 → Vec F s2 .bf16 → γ) :
    g (View.readAt (Elt F) a1.view (Rect.unit o1 s1.size i1).toLoadRect (h1.unread x1))
      (View.readAt (Elt F) a2.view (Rect.unit o2 s2.size i2).toLoadRect (h2.unread x2)) = g x1 x2 := by
  simp only [View.readAt_eq_ld, h1.read_unread, h2.read_unread]
  exact congrArg₂ g (ld_whole x1 i1) (ld_whole x2 i2)

/-- Where the condition holds both results are stored, -/
theorem twoStores_both {D3 D4 : Type} (d3 : D3 → Vec F s3 .bf16) (d4 : D4 → Vec F s3 .f32) (hb : b = 1#1) (E : Set ℕ) (K : PUnit → sProp 𝕄) :
    iprop(owns (c : Thread nD τ) a1 fullShare x1 ∗ owns (c : Thread nD τ) a2 fullShare x2
      ∗ (∃ d, owns (c : Thread nD τ) a3 fullShare (d3 d)) ∗ (∃ d, owns (c : Thread nD τ) a4 fullShare (d4 d))
      ∗ (iprop(owns (c : Thread nD τ) a1 fullShare x1 ∗ owns (c : Thread nD τ) a2 fullShare x2
          ∗ owns (c : Thread nD τ) a3 fullShare (rounded f x1 x2) ∗ owns (c : Thread nD τ) a4 fullShare (f x1 x2)) -∗ K ⟨⟩))
    ⊢ wp frame (wpE defs Variants.none c none) E (twoStores i1 i2 i3 n1 n2 n3 pk f b a1 a2 a3 h3 a4) K := by
  unfold twoStores owns
  iintro ⟨⟨%f0, %hf0, H0⟩, ⟨%f1, %hf1, H1⟩, ⟨%d2, %f2, -, H2⟩, ⟨%d3, %f3, -, H3⟩, Hk⟩
  obtain rfl := h1.eq_unread hf0
  obtain rfl := h2.eq_unread hf1
  sl_exec (disch := first | sl_exact hb)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr
    swap; · iexact H2
    ipureintro
    exact (View.read_writes_full _ _ _ _ _).trans (loads_eq i1 i2 a1 h1 a2 h2 x1 x2 (rounded f))
  iexists _; isplitr
  swap; · iexact H3
  ipureintro
  exact (View.read_writes_full _ _ _ _ _).trans (loads_eq i1 i2 a1 h1 a2 h2 x1 x2 f)

/-- and elsewhere the rounded one alone. -/
theorem twoStores_one {D3 : Type} (d3 : D3 → Vec F s3 .bf16) (hb : ¬ b = 1#1) (E : Set ℕ) (K : PUnit → sProp 𝕄) :
    iprop(owns (c : Thread nD τ) a1 fullShare x1 ∗ owns (c : Thread nD τ) a2 fullShare x2
      ∗ (∃ d, owns (c : Thread nD τ) a3 fullShare (d3 d))
      ∗ (iprop(owns (c : Thread nD τ) a1 fullShare x1 ∗ owns (c : Thread nD τ) a2 fullShare x2
          ∗ owns (c : Thread nD τ) a3 fullShare (rounded f x1 x2)) -∗ K ⟨⟩))
    ⊢ wp frame (wpE defs Variants.none c none) E (twoStores i1 i2 i3 n1 n2 n3 pk f b a1 a2 a3 h3 a4) K := by
  unfold twoStores owns
  iintro ⟨⟨%f0, %hf0, H0⟩, ⟨%f1, %hf1, H1⟩, ⟨%d2, %f2, -, H2⟩, Hk⟩
  obtain rfl := h1.eq_unread hf0
  obtain rfl := h2.eq_unread hf1
  sl_exec (disch := first | sl_exact hb)
  sl_step
  iapply Hk
  isplitl [H0]
  · iexists _; isplitr; · ipureintro; exact h1.read_unread _
    iexact H0
  isplitl [H1]
  · iexists _; isplitr; · ipureintro; exact h2.read_unread _
    iexact H1
  iexists _; isplitr
  swap; · iexact H2
  ipureintro
  exact (View.read_writes_full _ _ _ _ _).trans (loads_eq i1 i2 a1 h1 a2 h2 x1 x2 (rounded f))

/-- So at every point: `L` is what the point has to leave of the second result's buffer. -/
theorem twoStores_sound {P O L : sProp 𝕄} {D1 D2 D3 D4 : Type} (d3 : D3 → Vec F s3 .bf16) (d4 : D4 → Vec F s3 .f32)
    (hL : b = 1#1 → owns (c : Thread nD τ) a4 fullShare (f x1 x2) ⊢ L)
    (hI : ¬ b = 1#1 → ∀ d, owns (c : Thread nD τ) a4 fullShare (d4 d) ⊢ L) (E : Set ℕ) :
    iprop(P ∗ O ∗ (∃ _ : D1, owns (c : Thread nD τ) a1 fullShare x1) ∗ (∃ _ : D2, owns (c : Thread nD τ) a2 fullShare x2)
      ∗ (∃ d, owns (c : Thread nD τ) a3 fullShare (d3 d)) ∗ (∃ d, owns (c : Thread nD τ) a4 fullShare (d4 d)))
    ⊢ wp frame (wpE defs Variants.none c none) E (twoStores i1 i2 i3 n1 n2 n3 pk f b a1 a2 a3 h3 a4) fun _ =>
      iprop(P ∗ O ∗ owns (c : Thread nD τ) a1 fullShare x1 ∗ owns (c : Thread nD τ) a2 fullShare x2
        ∗ owns (c : Thread nD τ) a3 fullShare (rounded f x1 x2) ∗ L) := by
  by_cases hb : b = 1#1
  · iintro ⟨HP, HO, ⟨%e1, H1⟩, ⟨%e2, H2⟩, H3, H4⟩
    iapply (twoStores_both i1 i2 i3 n1 n2 n3 pk f b a1 h1 a2 h2 a3 h3 a4 defs c x1 x2 d3 d4 hb E _)
    isplitl [H1]; · iexact H1
    isplitl [H2]; · iexact H2
    isplitl [H3]; · iexact H3
    isplitl [H4]; · iexact H4
    iintro ⟨H1, H2, H3, H4⟩
    isplitl [HP]; · iexact HP
    isplitl [HO]; · iexact HO
    isplitl [H1]; · iexact H1
    isplitl [H2]; · iexact H2
    isplitl [H3]; · iexact H3
    iapply (hL hb)
    iexact H4
  · iintro ⟨HP, HO, ⟨%e1, H1⟩, ⟨%e2, H2⟩, H3, ⟨%d, H4⟩⟩
    iapply (twoStores_one i1 i2 i3 n1 n2 n3 pk f b a1 h1 a2 h2 a3 h3 a4 defs c x1 x2 d3 hb E _)
    isplitl [H1]; · iexact H1
    isplitl [H2]; · iexact H2
    isplitl [H3]; · iexact H3
    iintro ⟨H1, H2, H3⟩
    isplitl [HP]; · iexact HP
    isplitl [HO]; · iexact HO
    isplitl [H1]; · iexact H1
    isplitl [H2]; · iexact H2
    isplitl [H3]; · iexact H3
    iapply (hI hb d)
    iexact H4

end

/-! ## A window written at the first point and sent back after the last -/

section

variable {cfg : Pipeline.Cfg sig Λ} {c : Dev nD} (dat : Dat τ (Elt F) Unit ℕ (UR sig nD τ) ℕ cfg c) (w : Fin cfg.W)

/-- At the point that writes it, its buffer is left as the point wrote it. -/
theorem leaves_live (t : Fin cfg.N) (h : cfg.idle w (cfg.grid.coords t) = false) :
    owns (c : Thread nD τ) ((cfg.win w).stage (cfg.slots t w)) fullShare (dat.after w t) ⊢ (dat.leavesExact w t : sProp 𝕄) := by
  unfold Dat.leavesExact
  rw [h]

/-- At a later point it is left as it was found, which is as the first point wrote it. -/
theorem leaves_idle (hw : (cfg.win w).isOut = true) (hclip : ∀ (i : cfg.grid.Coords) a, (cfg.win w).clip i a = none)
    (h0 : 0 < cfg.N) (hlive : cfg.idle w (cfg.grid.coords ⟨0, h0⟩) = false)
    (hidle : ∀ t : Fin cfg.N, t.val ≠ 0 → cfg.idle w (cfg.grid.coords t) = true)
    (hfl : ∀ t : Fin cfg.N, t.val + 1 < cfg.N → (cfg.win w).flush t = false)
    (hconst : ∀ t : Fin cfg.N, dat.after w t = dat.after w ⟨0, h0⟩) (t : Fin cfg.N) (ht : t.val ≠ 0) (d) :
    owns (c : Thread nD τ) ((cfg.win w).stage (cfg.slots t w)) fullShare (dat.before w t d) ⊢ (dat.leavesExact w t : sProp 𝕄) := by
  have hb : dat.before w t d = dat.after w t := by
    obtain ⟨n, hn⟩ := t
    cases n with
    | zero => exact absurd rfl ht
    | succ n => exact (before_of_first dat w hw hclip h0 hlive hidle hfl d n hn).trans (hconst _).symm
  unfold Dat.leavesExact
  rw [hidle t ht]
  dsimp only
  cases (cfg.win w).flush t
  · iintro H; iexists d; iexact H
  · rw [hb]

end

end Step
end
-- ==== Proof.WInRun.lean ====
/-
  The weight-gradient call of the input projection, run: at every grid point the body leaves the bf16 product of its
  blocks, at the first point also the product in f32, and at the end the arguments are as they were and no counter is up.
-/
module

public import proofs.«01_k».proof.Proof.Gen.WInIdeal.Frame
public import proofs.«01_k».proof.Proof.TwoStores

@[expose] public section

set_option maxRecDepth 16384

noncomputable section

namespace Cert.WInIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WInIdeal Cert.WInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product of two blocks along their rows. -/
def prod (x0 : Vec F S4096x1024 .bf16) (x1 : Vec F S4096x256 .bf16) : FVec F S1024x256 .f32 :=
  matmul dot_S4096x1024_S4096x256_S1024x256_0_0_1_1_n_n none (shapeCast S4096x1024 x0 shapeCasts_S4096x1024_S4096x1024 : FVec F S4096x1024 .bf16)
    (shapeCast S4096x256 x1 shapeCasts_S4096x256_S4096x256 : FVec F S4096x256 .bf16) (constant S1024x256 .f32 0x00000000#32)

/-- The product rounded to bf16. -/
def prod16 (x0 : Vec F S4096x1024 .bf16) (x1 : Vec F S4096x256 .bf16) : FVec F S1024x256 .bf16 := truncf .bf16 (prod x0 x1) bitsLt_bf16_f32

/-- The condition of the second store holds at the first point only. -/
theorem cond_iff (t : Fin cfg0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  have h : k0_cond1 (grid0.coords t) = 1#1 ↔ t.val % 8 = 0 := by
    simp only [k0_cond1, e0]
    word_cmp
  rw [h, Nat.mod_eq_of_lt ht]

/-- The body loads its two blocks whole, stores their product rounded and, where the condition holds, the product. -/
theorem body_eq_two (t : Fin cfg0.N) : bodyAt0 (F := F) t = Step.twoStores inb_S4096x1024_S4096x1024_0_0 inb_S4096x256_S4096x256_0_0 inb_S1024x256_S1024x256_0_0 h_S4096x1024 h_S4096x256 h_S1024x256
      packedbf16_S1024x256_S1024x256_0_0 prod (k0_cond1 (grid0.coords t)) (st0_0 t) (st0_1 t) (st0_2 t)
      (hstage0_2 ((cfg0.slots t 2).cast nbuf0_2)) (st0_3 t) := rfl

/-- The first grid point. -/
def t0 : Fin cfg0.N := ⟨0, by rw [show cfg0.N = 8 from N_0]; decide⟩

/-- What the windows' buffers hold after the body at each point: the inputs' blocks, the bf16 product of this point's
    blocks, the f32 product of the first point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod16 (iblk m c 0 t) (iblk m c 1 t)
    | ⟨3, _⟩ => prod (iblk m c 0 t0) (iblk m c 1 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = prod16 (iblk m c 0 t) (iblk m c 1 t) := by dsimp only [dats]
theorem after_3 (c : Dev nD) (t : Fin cfg0.N) : (dats m 0 c).after 3 t = prod (iblk m c 0 t0) (iblk m c 1 t0) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem idle_first (t : Fin cfg0.N) (h : t.val = 0) : cfg0.idle 3 (cfg0.grid.coords t) = false := by
  show (!(k0_cond1 (grid0.coords t) == 1#1)) = false
  rw [(cond_iff t).mpr h]; rfl

theorem idle_later (t : Fin cfg0.N) (h : t.val ≠ 0) : cfg0.idle 3 (cfg0.grid.coords t) = true := by
  show (!(k0_cond1 (grid0.coords t) == 1#1)) = true
  rw [beq_eq_false_iff_ne.mpr (fun e => h ((cond_iff t).mp e))]; rfl

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- At the first point the f32 result's buffer is left as written, -/
theorem leaves_first (c : Dev nD) (t : Fin cfg0.N) (h : t.val = 0) :
    owns (c : Thread nD τ) (st0_3 t) fullShare (prod (iblk m c 0 t) (iblk m c 1 t)) ⊢ ((dats m 0 c).leavesExact 3 t : sProp 𝕄) := by
  obtain rfl : t = t0 := Fin.ext h
  exact Step.leaves_live (dats m 0 c) 3 t0 (idle_first _ rfl)

/-- and at a later point as it was found. -/
theorem leaves_later (c : Dev nD) (t : Fin cfg0.N) (h : t.val ≠ 0) (d) :
    owns (c : Thread nD τ) (st0_3 t) fullShare ((dats m 0 c).before 3 t d) ⊢ ((dats m 0 c).leavesExact 3 t : sProp 𝕄) :=
  Step.leaves_idle (dats m 0 c) 3 rfl (fun _ _ => rfl) t0.isLt (idle_first _ rfl) idle_later
    (fun t ht => Bool.eq_false_iff.mpr fun e => by
      have := (flush0_3 t).mp e
      have : cfg0.N = 8 := N_0
      omega) (fun t => (after_3 m c t).trans (after_3 m c _).symm) t h d

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq_two]
  simp only [before_0, before_1]
  rw [after_0, after_1, after_2]
  exact Step.twoStores_sound _ _ _ _ _ _ _ _ _ _ (hstage0_0 ((cfg0.slots t 0).cast nbuf0_0)) _ (hstage0_1 ((cfg0.slots t 1).cast nbuf0_1)) _ _ _ _ c _ _ _ _
    (fun hb => leaves_first m c t ((cond_iff t).mp hb)) (fun hb => leaves_later m c t fun h => hb ((cond_iff t).mpr h)) _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs to the end, and every array ends at what the points wrote back. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.WInIdeal.Val

end
-- ==== Proof.WInProof.lean ====
/-
  The claims on the weight-gradient call of the input projection: the whole gradient in bf16 and device 0's own block of it in f32.
-/
module

public import proofs.«01_k».proof.Defs
public import proofs.«01_k».proof.Proof.WInRun
public import proofs.«01_k».proof.Proof.Common
public import proofs.«01_k».proof.Proof.Gen.WIn
public import proofs.«01_k».proof.Proof.Gen.WInRefIdeal.Run
public import proofs.«01_k».proof.Proof.Gen.WInRefIdeal.Read
public import Idealize.ShloMosaic.Lib.Pointwise
public import Idealize.ShloMosaic.Lib.Pointwise.Blocks
public import Idealize.ShloMosaic.Lib.Pipeline.ValueKit

@[expose] public section

set_option maxRecDepth 16384

noncomputable section

open Idealize.ShloMosaic Idealize.ShloMosaic.TcCoe Idealize.SL.Sem

namespace Cert.WInIdeal.Val

open Cert.WInIdeal Cert.WInIdeal.Gen Step
open Idealize.ShloMosaic.Pipeline (Dat)

variable (m : (ℓ : Loc nD τ sig) → Buf (Elt Ideal) ℓ)

/-- The windows' block indices. -/
theorem idx : ∀ t : Fin cfg0.N, win0_0.index t = ![0, 0] ∧ win0_1.index t = ![0, t.val] ∧ win0_2.index t = ![0, t.val] ∧ win0_3.index t = ![0, 0] :=
  (by decide +kernel : ∀ t : Fin grid0.N, _)

theorem lt8 (t : Fin cfg0.N) : t.val < 8 := lt_of_lt_of_eq t.isLt N_0

/-- The argument arrays as extended reals. -/
abbrev aA (c : Dev nD) : Vec Ideal S4096x1024 .f32 := m ((c : Thread nD τ).loc main_arg0)
abbrev aD (c : Dev nD) : Vec Ideal S4096x2048 .f32 := m ((c : Thread nD τ).loc main_arg1)

/-- The weight gradient: activations transposed times the gradient. -/
def gArr (c : Dev nD) (i : Fin 1024) (k : Fin 2048) : EReal := ∑ r : Fin 4096, aA m c (ix2 r i) * aD m c (ix2 r k)

/-- Column `256 t + k` of the weight. -/
def col (t : Fin cfg0.N) (k : Fin 256) : Fin 2048 := ⟨t.val * 256 + k.val, by have := lt8 t; omega⟩

theorem blk0 (c : Dev nD) (t : Fin cfg0.N) (r : Fin 4096) (i : Fin 1024) :
    (iblk m c 0 t : Vec Ideal S4096x1024 .bf16) (ix2 r i) = aA m c (ix2 r i) := by
  blk_simp [iblk]
  entry_read
  pointwise
  blk_ext [idx t]

theorem blk1 (c : Dev nD) (t : Fin cfg0.N) (r : Fin 4096) (k : Fin 256) :
    (iblk m c 1 t : Vec Ideal S4096x256 .bf16) (ix2 r k) = aD m c (ix2 r (col t k)) := by
  blk_simp [iblk]
  entry_read
  pointwise
  blk_ext [idx t, col]

/-- The product of two blocks, entry by entry. -/
theorem prod_apply (x0 : Vec Ideal S4096x1024 .bf16) (x1 : Vec Ideal S4096x256 .bf16) (i : Fin 1024) (k : Fin 256) :
    prod x0 x1 (ix2 i k) = ∑ r : Fin 4096, x0 (ix2 r i) * x1 (ix2 r k) := by
  pointwise [prod]

theorem prod_blk (c : Dev nD) (t : Fin cfg0.N) (i : Fin 1024) (k : Fin 256) :
    prod (iblk m c 0 t : Vec Ideal S4096x1024 .bf16) (iblk m c 1 t : Vec Ideal S4096x256 .bf16) (ix2 i k) = gArr m c i (col t k) := by
  rw [prod_apply]
  exact Finset.sum_congr rfl fun r _ => by rw [blk0, blk1]

/-- The whole gradient after the run. -/
theorem final2 (c : Dev nD) : (dats m 0 c).arrAt 2 cfg0.N = (fun i => gArr m c (i 0) (i 1) : Vec Ideal S1024x2048 .bf16) := by
  refine (dats m 0 c).arrAt_eq_of_covers 2 _ (by decide +kernel) fun t _ y => ?_
  blk_simp
  rw [after_2]
  obtain ⟨i, k, rfl⟩ : ∃ i k, y = ix2 (n0 := 1024) (n1 := 256) i k := ⟨y 0, y 1, eq_ix2 y⟩
  refine (prod_blk m c t i k).trans ?_
  have he : (win0_2.blk t).view.emb (ix2 i k) = ix2 i (col t k) := by blk_ext [idx t, col]
  rw [he]
  rfl

/-- The last grid point. -/
def tLast : Fin cfg0.N := ⟨7, by rw [show cfg0.N = 8 from N_0]; decide⟩

/-- Device 0's own block after the run. -/
theorem final3 (c : Dev nD) : (dats m 0 c).arrAt 3 cfg0.N = (fun i => gArr m c (i 0) ⟨(i 1).val, Nat.lt_trans (i 1).isLt (by decide)⟩ : Vec Ideal S1024x256 .f32) := by
  refine (dats m 0 c).arrAt_eq_of_after_last 3 tLast (by decide +kernel) _ fun y => ?_
  blk_simp
  rw [after_3]
  obtain ⟨i, k, rfl⟩ : ∃ i k, y = ix2 (n0 := 1024) (n1 := 256) i k := ⟨y 0, y 1, eq_ix2 y⟩
  refine (prod_blk m c t0 i k).trans ?_
  exact congrArg (fun j => gArr m c i j) (Fin.ext (by show 0 * 256 + k.val = k.val; omega))

/-- What the run leaves: the two results, and the arguments as they were. -/
theorem run_blocks (g : Dev nD → PrngReg) : θ_run defs (onTc (τ := τ) (main (F := Ideal))) ⟨m, fun _ => 0, g⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1.1 c).1 2, (h.1.1 c).1 3, h.2.1 c⟩) (θ_run_and (run_quiescent m g) (frame m g))

/-- The reference's product, entry by entry. -/
theorem ref_apply (x0 : Vec Ideal S4096x1024 .f32) (x1 : Vec Ideal S4096x2048 .f32) (i : Fin 1024) (k : Fin 2048) :
    Cert.WInRefIdeal.Read.val_main_v3 (F := Ideal) x0 x1 (ix2 i k) = ∑ r : Fin 4096, x0 (ix2 r i) * x1 (ix2 r k) := by
  rw [Cert.WInRefIdeal.Read.val_main_v3_apply, Cert.WInRefIdeal.Read.val_main_v2_apply]
  refine Finset.sum_congr rfl fun r _ => ?_
  rw [mul_comm]
  refine congrArg₂ (· * ·) (congrArg x0 ?_) (congrArg x1 ?_) <;> (ext a; fin_cases a <;> rfl)

/-- Kernel and reference compute the same gradient. -/
theorem algebraic : Cert.algebraic_WInIdeal_WInRefIdeal := by
  intro m g m' g' hp hm
  refine ⟨fun c => (dats m 0 c).arrAt 2 cfg0.N, fun c => (dats m 0 c).arrAt 3 cfg0.N, run_blocks m g, ?_⟩
  refine (θ_run Cert.WInRefIdeal.defs _ _).mono (fun r h c => ?_) (Cert.WInRefIdeal.Value.run (F := Ideal) m' g')
  obtain ⟨h0, h1, hk⟩ := h c
  obtain ⟨q0, q1⟩ := hm c
  refine ⟨h0.trans (Eq.trans ?_ (final2 m c).symm), h1.trans (Eq.trans ?_ (final3 m c).symm), hk⟩
  · funext i
    obtain ⟨a, b, rfl⟩ : ∃ (a : Fin 1024) (b : Fin 2048), i = ix2 a b := ⟨i 0, i 1, by ext x; fin_cases x <;> rfl⟩
    rw [Cert.WInRefIdeal.Read.val_main_v4_eq, q0, q1]
    exact ref_apply _ _ a b
  · funext i
    obtain ⟨a, b, rfl⟩ : ∃ (a : Fin 1024) (b : Fin 256), i = ix2 a b := ⟨i 0, i 1, by ext x; fin_cases x <;> rfl⟩
    rw [Cert.WInRefIdeal.Read.val_main_v5_eq, q0, q1, Cert.WInRefIdeal.Read.val_main_v5_apply]
    refine Eq.trans (congrArg _ ?_) (ref_apply _ _ a ⟨b.val, by omega⟩)
    ext x; fin_cases x <;> rfl

/-- The reference leaves its arguments as they were; it has no semaphore. -/
theorem frame_ref : Cert.quiescent_WInRefIdeal := fun m g _ =>
  (θ_run Cert.WInRefIdeal.defs _ _).mono (fun _ h => ⟨fun c => (h c).2.2, sem_eq_zero_of_no_sems (by decide) _⟩)
    (Cert.WInRefIdeal.Value.run (F := Ideal) m g)

/-- The two programs' bodies are the same text, -/
theorem body_eq : Cert.WIn.defs₀ (F := Bits) = Cert.WInIdeal.defs₀ (F := Bits) := by
  refine congrArg Defs.onTc (funext fun l => funext fun x => ?_)
  match l, x with
  | 0, (t, s) => rfl

theorem defs_eq : Cert.WIn.defs (F := Bits) = Cert.WInIdeal.defs (F := Bits) := by
  unfold Cert.WIn.defs
  rw [body_eq]
  rfl

/-- so the kernel's frame with its own arithmetic is the run above, at bits. -/
theorem frame_bits : Cert.quiescent_WIn := fun m g _ => by
  rw [defs_eq]
  exact frame (F := Bits) m g

/-- Every claim on the call. -/
theorem claims : Cert.quiescent_WIn ∧ Cert.quiescent_WInIdeal ∧ Cert.quiescent_WInRefIdeal ∧ Cert.preserves_WIn_WInIdeal
    ∧ Cert.algebraic_WInIdeal_WInRefIdeal :=
  ⟨frame_bits, fun m g _ => frame m g, frame_ref, trivial, algebraic⟩

end Cert.WInIdeal.Val

end
-- ==== Proof.WOutRun.lean ====
/-
  The weight-gradient call of the output projection, run: at every grid point the body leaves the bf16 product of its
  blocks, at the first point also the product in f32, and at the end the arguments are as they were and no counter is up.
-/
module

public import proofs.«01_k».proof.Proof.Gen.WOutIdeal.Frame
public import proofs.«01_k».proof.Proof.TwoStores

@[expose] public section

set_option maxRecDepth 16128

noncomputable section

namespace Cert.WOutIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WOutIdeal Cert.WOutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product of two blocks along their rows. -/
def prod (x0 : Vec F S4096x128 .bf16) (x1 : Vec F S4096x1024 .bf16) : FVec F S128x1024 .f32 :=
  matmul dot_S4096x128_S4096x1024_S128x1024_0_0_1_1_n_n none (shapeCast S4096x128 x0 shapeCasts_S4096x128_S4096x128 : FVec F S4096x128 .bf16)
    (shapeCast S4096x1024 x1 shapeCasts_S4096x1024_S4096x1024 : FVec F S4096x1024 .bf16) (constant S128x1024 .f32 0x00000000#32)

/-- The product rounded to bf16. -/
def prod16 (x0 : Vec F S4096x128 .bf16) (x1 : Vec F S4096x1024 .bf16) : FVec F S128x1024 .bf16 := truncf .bf16 (prod x0 x1) bitsLt_bf16_f32

/-- The condition of the second store holds at the first point only. -/
theorem cond_iff (t : Fin cfg0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  have h : k0_cond1 (grid0.coords t) = 1#1 ↔ t.val % 8 = 0 := by
    simp only [k0_cond1, e0]
    word_cmp
  rw [h, Nat.mod_eq_of_lt ht]

/-- The body loads its two blocks whole, stores their product rounded and, where the condition holds, the product. -/
theorem body_eq_two (t : Fin cfg0.N) : bodyAt0 (F := F) t = Step.twoStores inb_S4096x128_S4096x128_0_0 inb_S4096x1024_S4096x1024_0_0 inb_S128x1024_S128x1024_0_0 h_S4096x128 h_S4096x1024 h_S128x1024
      packedbf16_S128x1024_S128x1024_0_0 prod (k0_cond1 (grid0.coords t)) (st0_0 t) (st0_1 t) (st0_2 t)
      (hstage0_2 ((cfg0.slots t 2).cast nbuf0_2)) (st0_3 t) := rfl

/-- The first grid point. -/
def t0 : Fin cfg0.N := ⟨0, by rw [show cfg0.N = 8 from N_0]; decide⟩

/-- What the windows' buffers hold after the body at each point: the inputs' blocks, the bf16 product of this point's
    blocks, the f32 product of the first point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod16 (iblk m c 0 t) (iblk m c 1 t)
    | ⟨3, _⟩ => prod (iblk m c 0 t0) (iblk m c 1 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = prod16 (iblk m c 0 t) (iblk m c 1 t) := by dsimp only [dats]
theorem after_3 (c : Dev nD) (t : Fin cfg0.N) : (dats m 0 c).after 3 t = prod (iblk m c 0 t0) (iblk m c 1 t0) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem idle_first (t : Fin cfg0.N) (h : t.val = 0) : cfg0.idle 3 (cfg0.grid.coords t) = false := by
  show (!(k0_cond1 (grid0.coords t) == 1#1)) = false
  rw [(cond_iff t).mpr h]; rfl

theorem idle_later (t : Fin cfg0.N) (h : t.val ≠ 0) : cfg0.idle 3 (cfg0.grid.coords t) = true := by
  show (!(k0_cond1 (grid0.coords t) == 1#1)) = true
  rw [beq_eq_false_iff_ne.mpr (fun e => h ((cond_iff t).mp e))]; rfl

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- At the first point the f32 result's buffer is left as written, -/
theorem leaves_first (c : Dev nD) (t : Fin cfg0.N) (h : t.val = 0) :
    owns (c : Thread nD τ) (st0_3 t) fullShare (prod (iblk m c 0 t) (iblk m c 1 t)) ⊢ ((dats m 0 c).leavesExact 3 t : sProp 𝕄) := by
  obtain rfl : t = t0 := Fin.ext h
  exact Step.leaves_live (dats m 0 c) 3 t0 (idle_first _ rfl)

/-- and at a later point as it was found. -/
theorem leaves_later (c : Dev nD) (t : Fin cfg0.N) (h : t.val ≠ 0) (d) :
    owns (c : Thread nD τ) (st0_3 t) fullShare ((dats m 0 c).before 3 t d) ⊢ ((dats m 0 c).leavesExact 3 t : sProp 𝕄) :=
  Step.leaves_idle (dats m 0 c) 3 rfl (fun _ _ => rfl) t0.isLt (idle_first _ rfl) idle_later
    (fun t ht => Bool.eq_false_iff.mpr fun e => by
      have := (flush0_3 t).mp e
      have : cfg0.N = 8 := N_0
      omega) (fun t => (after_3 m c t).trans (after_3 m c _).symm) t h d

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq_two]
  simp only [before_0, before_1]
  rw [after_0, after_1, after_2]
  exact Step.twoStores_sound _ _ _ _ _ _ _ _ _ _ (hstage0_0 ((cfg0.slots t 0).cast nbuf0_0)) _ (hstage0_1 ((cfg0.slots t 1).cast nbuf0_1)) _ _ _ _ c _ _ _ _
    (fun hb => leaves_first m c t ((cond_iff t).mp hb)) (fun hb => leaves_later m c t fun h => hb ((cond_iff t).mpr h)) _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs to the end, and every array ends at what the points wrote back. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.WOutIdeal.Val

end
-- ==== Proof.WOutProof.lean ====
/-
  The claims on the weight-gradient call of the output projection: the whole gradient in bf16 and device 0's own block of it in f32.
-/
module

public import proofs.«01_k».proof.Defs
public import proofs.«01_k».proof.Proof.WOutRun
public import proofs.«01_k».proof.Proof.Common
public import proofs.«01_k».proof.Proof.Gen.WOut
public import proofs.«01_k».proof.Proof.Gen.WOutRefIdeal.Run
public import proofs.«01_k».proof.Proof.Gen.WOutRefIdeal.Read
public import Idealize.ShloMosaic.Lib.Pointwise
public import Idealize.ShloMosaic.Lib.Pointwise.Blocks
public import Idealize.ShloMosaic.Lib.Pipeline.ValueKit

@[expose] public section

set_option maxRecDepth 16128

noncomputable section

open Idealize.ShloMosaic Idealize.ShloMosaic.TcCoe Idealize.SL.Sem

namespace Cert.WOutIdeal.Val

open Cert.WOutIdeal Cert.WOutIdeal.Gen Step
open Idealize.ShloMosaic.Pipeline (Dat)

variable (m : (ℓ : Loc nD τ sig) → Buf (Elt Ideal) ℓ)

/-- The windows' block indices. -/
theorem idx : ∀ t : Fin cfg0.N, win0_0.index t = ![0, t.val] ∧ win0_1.index t = ![0, 0] ∧ win0_2.index t = ![t.val, 0] ∧ win0_3.index t = ![0, 0] :=
  (by decide +kernel : ∀ t : Fin grid0.N, _)

theorem lt8 (t : Fin cfg0.N) : t.val < 8 := lt_of_lt_of_eq t.isLt N_0

/-- The argument arrays as extended reals. -/
abbrev aA (c : Dev nD) : Vec Ideal S4096x1024 .f32 := m ((c : Thread nD τ).loc main_arg0)
abbrev aD (c : Dev nD) : Vec Ideal S4096x1024 .f32 := m ((c : Thread nD τ).loc main_arg1)

/-- The weight gradient: activations transposed times the gradient. -/
def gArr (c : Dev nD) (i : Fin 1024) (k : Fin 1024) : EReal := ∑ r : Fin 4096, aA m c (ix2 r i) * aD m c (ix2 r k)

/-- Row `128 t + r` of the weight. -/
def row (t : Fin cfg0.N) (r : Fin 128) : Fin 1024 := ⟨t.val * 128 + r.val, by have := lt8 t; omega⟩

theorem blk0 (c : Dev nD) (t : Fin cfg0.N) (r : Fin 4096) (i : Fin 128) :
    (iblk m c 0 t : Vec Ideal S4096x128 .bf16) (ix2 r i) = aA m c (ix2 r (row t i)) := by
  blk_simp [iblk]
  entry_read
  pointwise
  blk_ext [idx t, row]

theorem blk1 (c : Dev nD) (t : Fin cfg0.N) (r : Fin 4096) (k : Fin 1024) :
    (iblk m c 1 t : Vec Ideal S4096x1024 .bf16) (ix2 r k) = aD m c (ix2 r k) := by
  blk_simp [iblk]
  entry_read
  pointwise
  blk_ext [idx t]

/-- The product of two blocks, entry by entry. -/
theorem prod_apply (x0 : Vec Ideal S4096x128 .bf16) (x1 : Vec Ideal S4096x1024 .bf16) (i : Fin 128) (k : Fin 1024) :
    prod x0 x1 (ix2 i k) = ∑ r : Fin 4096, x0 (ix2 r i) * x1 (ix2 r k) := by
  pointwise [prod]

theorem prod_blk (c : Dev nD) (t : Fin cfg0.N) (i : Fin 128) (k : Fin 1024) :
    prod (iblk m c 0 t : Vec Ideal S4096x128 .bf16) (iblk m c 1 t : Vec Ideal S4096x1024 .bf16) (ix2 i k) = gArr m c (row t i) k := by
  rw [prod_apply]
  exact Finset.sum_congr rfl fun r _ => by rw [blk0, blk1]

/-- The whole gradient after the run. -/
theorem final2 (c : Dev nD) : (dats m 0 c).arrAt 2 cfg0.N = (fun i => gArr m c (i 0) (i 1) : Vec Ideal S1024x1024 .bf16) := by
  refine (dats m 0 c).arrAt_eq_of_covers 2 _ (by decide +kernel) fun t _ y => ?_
  blk_simp
  rw [after_2]
  obtain ⟨i, k, rfl⟩ : ∃ i k, y = ix2 (n0 := 128) (n1 := 1024) i k := ⟨y 0, y 1, eq_ix2 y⟩
  refine (prod_blk m c t i k).trans ?_
  have he : (win0_2.blk t).view.emb (ix2 i k) = ix2 (row t i) k := by blk_ext [idx t, row]
  rw [he]
  rfl

/-- The last grid point. -/
def tLast : Fin cfg0.N := ⟨7, by rw [show cfg0.N = 8 from N_0]; decide⟩

/-- Device 0's own block after the run. -/
theorem final3 (c : Dev nD) : (dats m 0 c).arrAt 3 cfg0.N = (fun i => gArr m c ⟨(i 0).val, Nat.lt_trans (i 0).isLt (by decide)⟩ (i 1) : Vec Ideal S128x1024 .f32) := by
  refine (dats m 0 c).arrAt_eq_of_after_last 3 tLast (by decide +kernel) _ fun y => ?_
  blk_simp
  rw [after_3]
  obtain ⟨i, k, rfl⟩ : ∃ i k, y = ix2 (n0 := 128) (n1 := 1024) i k := ⟨y 0, y 1, eq_ix2 y⟩
  refine (prod_blk m c t0 i k).trans ?_
  exact congrArg (fun j => gArr m c j k) (Fin.ext (by show 0 * 128 + i.val = i.val; omega))

/-- What the run leaves: the two results, and the arguments as they were. -/
theorem run_blocks (g : Dev nD → PrngReg) : θ_run defs (onTc (τ := τ) (main (F := Ideal))) ⟨m, fun _ => 0, g⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1.1 c).1 2, (h.1.1 c).1 3, h.2.1 c⟩) (θ_run_and (run_quiescent m g) (frame m g))

/-- The reference's product, entry by entry. -/
theorem ref_apply (x0 : Vec Ideal S4096x1024 .f32) (x1 : Vec Ideal S4096x1024 .f32) (i : Fin 1024) (k : Fin 1024) :
    Cert.WOutRefIdeal.Read.val_main_v3 (F := Ideal) x0 x1 (ix2 i k) = ∑ r : Fin 4096, x0 (ix2 r i) * x1 (ix2 r k) := by
  rw [Cert.WOutRefIdeal.Read.val_main_v3_apply, Cert.WOutRefIdeal.Read.val_main_v2_apply]
  refine Finset.sum_congr rfl fun r _ => ?_
  rw [mul_comm]
  refine congrArg₂ (· * ·) (congrArg x0 ?_) (congrArg x1 ?_) <;> (ext a; fin_cases a <;> rfl)

/-- Kernel and reference compute the same gradient. -/
theorem algebraic : Cert.algebraic_WOutIdeal_WOutRefIdeal := by
  intro m g m' g' hp hm
  refine ⟨fun c => (dats m 0 c).arrAt 2 cfg0.N, fun c => (dats m 0 c).arrAt 3 cfg0.N, run_blocks m g, ?_⟩
  refine (θ_run Cert.WOutRefIdeal.defs _ _).mono (fun r h c => ?_) (Cert.WOutRefIdeal.Value.run (F := Ideal) m' g')
  obtain ⟨h0, h1, hk⟩ := h c
  obtain ⟨q0, q1⟩ := hm c
  refine ⟨h0.trans (Eq.trans ?_ (final2 m c).symm), h1.trans (Eq.trans ?_ (final3 m c).symm), hk⟩
  · funext i
    obtain ⟨a, b, rfl⟩ : ∃ (a : Fin 1024) (b : Fin 1024), i = ix2 a b := ⟨i 0, i 1, by ext x; fin_cases x <;> rfl⟩
    rw [Cert.WOutRefIdeal.Read.val_main_v4_eq, q0, q1]
    exact ref_apply _ _ a b
  · funext i
    obtain ⟨a, b, rfl⟩ : ∃ (a : Fin 128) (b : Fin 1024), i = ix2 a b := ⟨i 0, i 1, by ext x; fin_cases x <;> rfl⟩
    rw [Cert.WOutRefIdeal.Read.val_main_v5_eq, q0, q1, Cert.WOutRefIdeal.Read.val_main_v5_apply]
    refine Eq.trans (congrArg _ ?_) (ref_apply _ _ ⟨a.val, by omega⟩ b)
    ext x; fin_cases x <;> rfl

/-- The reference leaves its arguments as they were; it has no semaphore. -/
theorem frame_ref : Cert.quiescent_WOutRefIdeal := fun m g _ =>
  (θ_run Cert.WOutRefIdeal.defs _ _).mono (fun _ h => ⟨fun c => (h c).2.2, sem_eq_zero_of_no_sems (by decide) _⟩)
    (Cert.WOutRefIdeal.Value.run (F := Ideal) m g)

/-- The two programs' bodies are the same text, -/
theorem body_eq : Cert.WOut.defs₀ (F := Bits) = Cert.WOutIdeal.defs₀ (F := Bits) := by
  refine congrArg Defs.onTc (funext fun l => funext fun x => ?_)
  match l, x with
  | 0, (t, s) => rfl

theorem defs_eq : Cert.WOut.defs (F := Bits) = Cert.WOutIdeal.defs (F := Bits) := by
  unfold Cert.WOut.defs
  rw [body_eq]
  rfl

/-- so the kernel's frame with its own arithmetic is the run above, at bits. -/
theorem frame_bits : Cert.quiescent_WOut := fun m g _ => by
  rw [defs_eq]
  exact frame (F := Bits) m g

/-- Every claim on the call. -/
theorem claims : Cert.quiescent_WOut ∧ Cert.quiescent_WOutIdeal ∧ Cert.quiescent_WOutRefIdeal ∧ Cert.preserves_WOut_WOutIdeal
    ∧ Cert.algebraic_WOutIdeal_WOutRefIdeal :=
  ⟨frame_bits, fun m g _ => frame m g, frame_ref, trivial, algebraic⟩

end Cert.WOutIdeal.Val

end
-- ==== Proof.WUpRun.lean ====
/-
  The weight-gradient call of the up-projection, run: at every grid point the body leaves the bf16 product of its
  blocks, at the first point also the product in f32, and at the end the arguments are as they were and no counter is up.
-/
module

public import proofs.«01_k».proof.Proof.Gen.WUpIdeal.Frame
public import proofs.«01_k».proof.Proof.TwoStores

@[expose] public section

set_option maxRecDepth 16384

noncomputable section

namespace Cert.WUpIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WUpIdeal Cert.WUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product of two blocks along their rows. -/
def prod (x0 : Vec F S4096x1024 .bf16) (x1 : Vec F S1x4096x768 .bf16) : FVec F S1024x768 .f32 :=
  matmul dot_S4096x1024_S4096x768_S1024x768_0_0_1_1_n_n none (shapeCast S4096x1024 x0 shapeCasts_S4096x1024_S4096x1024 : FVec F S4096x1024 .bf16)
    (shapeCast S4096x768 x1 shapeCasts_S1x4096x768_S4096x768 : FVec F S4096x768 .bf16) (constant S1024x768 .f32 0x00000000#32)

/-- The product rounded to bf16. -/
def prod16 (x0 : Vec F S4096x1024 .bf16) (x1 : Vec F S1x4096x768 .bf16) : FVec F S1024x768 .bf16 := truncf .bf16 (prod x0 x1) bitsLt_bf16_f32

/-- The condition of the second store holds at the first point only. -/
theorem cond_iff (t : Fin cfg0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  have h : k0_cond1 (grid0.coords t) = 1#1 ↔ t.val % 8 = 0 := by
    simp only [k0_cond1, e0]
    word_cmp
  rw [h, Nat.mod_eq_of_lt ht]

/-- The body loads its two blocks whole, stores their product rounded and, where the condition holds, the product. -/
theorem body_eq_two (t : Fin cfg0.N) : bodyAt0 (F := F) t = Step.twoStores inb_S4096x1024_S4096x1024_0_0 inb_S1x4096x768_S1x4096x768_0_0_0 inb_S1024x768_S1024x768_0_0 h_S4096x1024 h_S1x4096x768 h_S1024x768
      packedbf16_S1024x768_S1024x768_0_0 prod (k0_cond1 (grid0.coords t)) (st0_0 t) (st0_1 t) (st0_2 t)
      (hstage0_2 ((cfg0.slots t 2).cast nbuf0_2)) (st0_3 t) := rfl

/-- The first grid point. -/
def t0 : Fin cfg0.N := ⟨0, by rw [show cfg0.N = 8 from N_0]; decide⟩

/-- What the windows' buffers hold after the body at each point: the inputs' blocks, the bf16 product of this point's
    blocks, the f32 product of the first point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod16 (iblk m c 0 t) (iblk m c 1 t)
    | ⟨3, _⟩ => prod (iblk m c 0 t0) (iblk m c 1 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = prod16 (iblk m c 0 t) (iblk m c 1 t) := by dsimp only [dats]
theorem after_3 (c : Dev nD) (t : Fin cfg0.N) : (dats m 0 c).after 3 t = prod (iblk m c 0 t0) (iblk m c 1 t0) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem idle_first (t : Fin cfg0.N) (h : t.val = 0) : cfg0.idle 3 (cfg0.grid.coords t) = false := by
  show (!(k0_cond1 (grid0.coords t) == 1#1)) = false
  rw [(cond_iff t).mpr h]; rfl

theorem idle_later (t : Fin cfg0.N) (h : t.val ≠ 0) : cfg0.idle 3 (cfg0.grid.coords t) = true := by
  show (!(k0_cond1 (grid0.coords t) == 1#1)) = true
  rw [beq_eq_false_iff_ne.mpr (fun e => h ((cond_iff t).mp e))]; rfl

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- At the first point the f32 result's buffer is left as written, -/
theorem leaves_first (c : Dev nD) (t : Fin cfg0.N) (h : t.val = 0) :
    owns (c : Thread nD τ) (st0_3 t) fullShare (prod (iblk m c 0 t) (iblk m c 1 t)) ⊢ ((dats m 0 c).leavesExact 3 t : sProp 𝕄) := by
  obtain rfl : t = t0 := Fin.ext h
  exact Step.leaves_live (dats m 0 c) 3 t0 (idle_first _ rfl)

/-- and at a later point as it was found. -/
theorem leaves_later (c : Dev nD) (t : Fin cfg0.N) (h : t.val ≠ 0) (d) :
    owns (c : Thread nD τ) (st0_3 t) fullShare ((dats m 0 c).before 3 t d) ⊢ ((dats m 0 c).leavesExact 3 t : sProp 𝕄) :=
  Step.leaves_idle (dats m 0 c) 3 rfl (fun _ _ => rfl) t0.isLt (idle_first _ rfl) idle_later
    (fun t ht => Bool.eq_false_iff.mpr fun e => by
      have := (flush0_3 t).mp e
      have : cfg0.N = 8 := N_0
      omega) (fun t => (after_3 m c t).trans (after_3 m c _).symm) t h d

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq_two]
  simp only [before_0, before_1]
  rw [after_0, after_1, after_2]
  exact Step.twoStores_sound _ _ _ _ _ _ _ _ _ _ (hstage0_0 ((cfg0.slots t 0).cast nbuf0_0)) _ (hstage0_1 ((cfg0.slots t 1).cast nbuf0_1)) _ _ _ _ c _ _ _ _
    (fun hb => leaves_first m c t ((cond_iff t).mp hb)) (fun hb => leaves_later m c t fun h => hb ((cond_iff t).mpr h)) _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs to the end, and every array ends at what the points wrote back. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.WUpIdeal.Val

end
-- ==== Proof.WUpProof.lean ====
/-
  The claims on the weight-gradient call of the up-projection: the whole gradient in bf16 and device 0's own block of it in f32.
-/
module

public import proofs.«01_k».proof.Defs
public import proofs.«01_k».proof.Proof.WUpRun
public import proofs.«01_k».proof.Proof.Common
public import proofs.«01_k».proof.Proof.Gen.WUp
public import proofs.«01_k».proof.Proof.Gen.WUpRefIdeal.Run
public import proofs.«01_k».proof.Proof.Gen.WUpRefIdeal.Read
public import Idealize.ShloMosaic.Lib.Pointwise
public import Idealize.ShloMosaic.Lib.Pointwise.Blocks
public import Idealize.ShloMosaic.Lib.Pipeline.ValueKit

@[expose] public section

set_option maxRecDepth 16384

noncomputable section

open Idealize.ShloMosaic Idealize.ShloMosaic.TcCoe Idealize.SL.Sem

namespace Cert.WUpIdeal.Val

open Cert.WUpIdeal Cert.WUpIdeal.Gen Step
open Idealize.ShloMosaic.Pipeline (Dat)

variable (m : (ℓ : Loc nD τ sig) → Buf (Elt Ideal) ℓ)

/-- The windows' block indices. -/
theorem idx : ∀ t : Fin cfg0.N, win0_0.index t = ![0, 0] ∧ win0_1.index t = ![t.val / 4, 0, t.val % 4] ∧ win0_2.index t = ![0, t.val] ∧ win0_3.index t = ![0, 0] :=
  (by decide +kernel : ∀ t : Fin grid0.N, _)

theorem lt8 (t : Fin cfg0.N) : t.val < 8 := lt_of_lt_of_eq t.isLt N_0

/-- The argument arrays as extended reals. -/
abbrev aA (c : Dev nD) : Vec Ideal S4096x1024 .f32 := m ((c : Thread nD τ).loc main_arg0)
abbrev aD (c : Dev nD) : Vec Ideal S4096x6144 .f32 := m ((c : Thread nD τ).loc main_arg1)

/-- The weight gradient: activations transposed times the gradient. -/
def gArr (c : Dev nD) (i : Fin 1024) (k : Fin 6144) : EReal := ∑ r : Fin 4096, aA m c (ix2 r i) * aD m c (ix2 r k)

/-- Column `768 t + k` of the weight. -/
def col (t : Fin cfg0.N) (k : Fin 768) : Fin 6144 := ⟨t.val * 768 + k.val, by have := lt8 t; omega⟩

theorem blk0 (c : Dev nD) (t : Fin cfg0.N) (r : Fin 4096) (i : Fin 1024) :
    (iblk m c 0 t : Vec Ideal S4096x1024 .bf16) (ix2 r i) = aA m c (ix2 r i) := by
  blk_simp [iblk]
  entry_read
  pointwise
  blk_ext [idx t]

theorem blk1 (c : Dev nD) (t : Fin cfg0.N) (r : Fin 4096) (k : Fin 768) :
    (iblk m c 1 t : Vec Ideal S1x4096x768 .bf16) (ix3 0 r k) = aD m c (ix2 r (col t k)) := by
  blk_simp [iblk]
  entry_read
  pointwise
  blk_ext [idx t, col]

/-- The product of two blocks, entry by entry. -/
theorem prod_apply (x0 : Vec Ideal S4096x1024 .bf16) (x1 : Vec Ideal S1x4096x768 .bf16) (i : Fin 1024) (k : Fin 768) :
    prod x0 x1 (ix2 i k) = ∑ r : Fin 4096, x0 (ix2 r i) * x1 (ix3 0 r k) := by
  pointwise [prod]

theorem prod_blk (c : Dev nD) (t : Fin cfg0.N) (i : Fin 1024) (k : Fin 768) :
    prod (iblk m c 0 t : Vec Ideal S4096x1024 .bf16) (iblk m c 1 t : Vec Ideal S1x4096x768 .bf16) (ix2 i k) = gArr m c i (col t k) := by
  rw [prod_apply]
  exact Finset.sum_congr rfl fun r _ => by rw [blk0, blk1]

/-- The whole gradient after the run. -/
theorem final2 (c : Dev nD) : (dats m 0 c).arrAt 2 cfg0.N = (fun i => gArr m c (i 0) (i 1) : Vec Ideal S1024x6144 .bf16) := by
  refine (dats m 0 c).arrAt_eq_of_covers 2 _ (by decide +kernel) fun t _ y => ?_
  blk_simp
  rw [after_2]
  obtain ⟨i, k, rfl⟩ : ∃ i k, y = ix2 (n0 := 1024) (n1 := 768) i k := ⟨y 0, y 1, eq_ix2 y⟩
  refine (prod_blk m c t i k).trans ?_
  have he : (win0_2.blk t).view.emb (ix2 i k) = ix2 i (col t k) := by blk_ext [idx t, col]
  rw [he]
  rfl

/-- The last grid point. -/
def tLast : Fin cfg0.N := ⟨7, by rw [show cfg0.N = 8 from N_0]; decide⟩

/-- Device 0's own block after the run. -/
theorem final3 (c : Dev nD) : (dats m 0 c).arrAt 3 cfg0.N = (fun i => gArr m c (i 0) ⟨(i 1).val, Nat.lt_trans (i 1).isLt (by decide)⟩ : Vec Ideal S1024x768 .f32) := by
  refine (dats m 0 c).arrAt_eq_of_after_last 3 tLast (by decide +kernel) _ fun y => ?_
  blk_simp
  rw [after_3]
  obtain ⟨i, k, rfl⟩ : ∃ i k, y = ix2 (n0 := 1024) (n1 := 768) i k := ⟨y 0, y 1, eq_ix2 y⟩
  refine (prod_blk m c t0 i k).trans ?_
  exact congrArg (fun j => gArr m c i j) (Fin.ext (by show 0 * 768 + k.val = k.val; omega))

/-- What the run leaves: the two results, and the arguments as they were. -/
theorem run_blocks (g : Dev nD → PrngReg) : θ_run defs (onTc (τ := τ) (main (F := Ideal))) ⟨m, fun _ => 0, g⟩ fun r => ∀ c : Dev nD,
      r.2.mem ((c : Thread nD τ).loc main_v4_0) = (dats m 0 c).arrAt 2 cfg0.N
      ∧ r.2.mem ((c : Thread nD τ).loc main_v4_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1.1 c).1 2, (h.1.1 c).1 3, h.2.1 c⟩) (θ_run_and (run_quiescent m g) (frame m g))

/-- The reference's product, entry by entry. -/
theorem ref_apply (x0 : Vec Ideal S4096x1024 .f32) (x1 : Vec Ideal S4096x6144 .f32) (i : Fin 1024) (k : Fin 6144) :
    Cert.WUpRefIdeal.Read.val_main_v3 (F := Ideal) x0 x1 (ix2 i k) = ∑ r : Fin 4096, x0 (ix2 r i) * x1 (ix2 r k) := by
  rw [Cert.WUpRefIdeal.Read.val_main_v3_apply, Cert.WUpRefIdeal.Read.val_main_v2_apply]
  refine Finset.sum_congr rfl fun r _ => ?_
  rw [mul_comm]
  refine congrArg₂ (· * ·) (congrArg x0 ?_) (congrArg x1 ?_) <;> (ext a; fin_cases a <;> rfl)

/-- Kernel and reference compute the same gradient. -/
theorem algebraic : Cert.algebraic_WUpIdeal_WUpRefIdeal := by
  intro m g m' g' hp hm
  refine ⟨fun c => (dats m 0 c).arrAt 2 cfg0.N, fun c => (dats m 0 c).arrAt 3 cfg0.N, run_blocks m g, ?_⟩
  refine (θ_run Cert.WUpRefIdeal.defs _ _).mono (fun r h c => ?_) (Cert.WUpRefIdeal.Value.run (F := Ideal) m' g')
  obtain ⟨h0, h1, hk⟩ := h c
  obtain ⟨q0, q1⟩ := hm c
  refine ⟨h0.trans (Eq.trans ?_ (final2 m c).symm), h1.trans (Eq.trans ?_ (final3 m c).symm), hk⟩
  · funext i
    obtain ⟨a, b, rfl⟩ : ∃ (a : Fin 1024) (b : Fin 6144), i = ix2 a b := ⟨i 0, i 1, by ext x; fin_cases x <;> rfl⟩
    rw [Cert.WUpRefIdeal.Read.val_main_v4_eq, q0, q1]
    exact ref_apply _ _ a b
  · funext i
    obtain ⟨a, b, rfl⟩ : ∃ (a : Fin 1024) (b : Fin 768), i = ix2 a b := ⟨i 0, i 1, by ext x; fin_cases x <;> rfl⟩
    rw [Cert.WUpRefIdeal.Read.val_main_v5_eq, q0, q1, Cert.WUpRefIdeal.Read.val_main_v5_apply]
    refine Eq.trans (congrArg _ ?_) (ref_apply _ _ a ⟨b.val, by omega⟩)
    ext x; fin_cases x <;> rfl

/-- The reference leaves its arguments as they were; it has no semaphore. -/
theorem frame_ref : Cert.quiescent_WUpRefIdeal := fun m g _ =>
  (θ_run Cert.WUpRefIdeal.defs _ _).mono (fun _ h => ⟨fun c => (h c).2.2, sem_eq_zero_of_no_sems (by decide) _⟩)
    (Cert.WUpRefIdeal.Value.run (F := Ideal) m g)

/-- The two programs' bodies are the same text, -/
theorem body_eq : Cert.WUp.defs₀ (F := Bits) = Cert.WUpIdeal.defs₀ (F := Bits) := by
  refine congrArg Defs.onTc (funext fun l => funext fun x => ?_)
  match l, x with
  | 0, (t, s) => rfl

theorem defs_eq : Cert.WUp.defs (F := Bits) = Cert.WUpIdeal.defs (F := Bits) := by
  unfold Cert.WUp.defs
  rw [body_eq]
  rfl

/-- so the kernel's frame with its own arithmetic is the run above, at bits. -/
theorem frame_bits : Cert.quiescent_WUp := fun m g _ => by
  rw [defs_eq]
  exact frame (F := Bits) m g

/-- Every claim on the call. -/
theorem claims : Cert.quiescent_WUp ∧ Cert.quiescent_WUpIdeal ∧ Cert.quiescent_WUpRefIdeal ∧ Cert.preserves_WUp_WUpIdeal
    ∧ Cert.algebraic_WUpIdeal_WUpRefIdeal :=
  ⟨frame_bits, fun m g _ => frame m g, frame_ref, trivial, algebraic⟩

end Cert.WUpIdeal.Val

end
-- ==== Proof.WDownRun.lean ====
/-
  The weight-gradient call of the down-projection, run: at every grid point the body leaves the bf16 product of its
  blocks, at the first point also the product in f32, and at the end the arguments are as they were and no counter is up.
-/
module

public import proofs.«01_k».proof.Proof.Gen.WDownIdeal.Frame
public import proofs.«01_k».proof.Proof.TwoStores

@[expose] public section

set_option maxRecDepth 16384

noncomputable section

namespace Cert.WDownIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WDownIdeal Cert.WDownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product of two blocks along their rows. -/
def prod (x0 : Vec F S4096x384 .bf16) (x1 : Vec F S4096x1024 .bf16) : FVec F S384x1024 .f32 :=
  matmul dot_S4096x384_S4096x1024_S384x1024_0_0_1_1_n_n none (shapeCast S4096x384 x0 shapeCasts_S4096x384_S4096x384 : FVec F S4096x384 .bf16)
    (shapeCast S4096x1024 x1 shapeCasts_S4096x1024_S4096x1024 : FVec F S4096x1024 .bf16) (constant S384x1024 .f32 0x00000000#32)

/-- The product rounded to bf16. -/
def prod16 (x0 : Vec F S4096x384 .bf16) (x1 : Vec F S4096x1024 .bf16) : FVec F S384x1024 .bf16 := truncf .bf16 (prod x0 x1) bitsLt_bf16_f32

/-- The condition of the second store holds at the first point only. -/
theorem cond_iff (t : Fin cfg0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  have h : k0_cond1 (grid0.coords t) = 1#1 ↔ t.val % 8 = 0 := by
    simp only [k0_cond1, e0]
    word_cmp
  rw [h, Nat.mod_eq_of_lt ht]

/-- The body loads its two blocks whole, stores their product rounded and, where the condition holds, the product. -/
theorem body_eq_two (t : Fin cfg0.N) : bodyAt0 (F := F) t = Step.twoStores inb_S4096x384_S4096x384_0_0 inb_S4096x1024_S4096x1024_0_0 inb_S384x1024_S384x1024_0_0 h_S4096x384 h_S4096x1024 h_S384x1024
      packedbf16_S384x1024_S384x1024_0_0 prod (k0_cond1 (grid0.coords t)) (st0_0 t) (st0_1 t) (st0_2 t)
      (hstage0_2 ((cfg0.slots t 2).cast nbuf0_2)) (st0_3 t) := rfl

/-- The first grid point. -/
def t0 : Fin cfg0.N := ⟨0, by rw [show cfg0.N = 8 from N_0]; decide⟩

/-- What the windows' buffers hold after the body at each point: the inputs' blocks, the bf16 product of this point's
    blocks, the f32 product of the first point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod16 (iblk m c 0 t) (iblk m c 1 t)
    | ⟨3, _⟩ => prod (iblk m c 0 t0) (iblk m c 1 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = prod16 (iblk m c 0 t) (iblk m c 1 t) := by dsimp only [dats]
theorem after_3 (c : Dev nD) (t : Fin cfg0.N) : (dats m 0 c).after 3 t = prod (iblk m c 0 t0) (iblk m c 1 t0) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem idle_first (t : Fin cfg0.N) (h : t.val = 0) : cfg0.idle 3 (cfg0.grid.coords t) = false := by
  show (!(k0_cond1 (grid0.coords t) == 1#1)) = false
  rw [(cond_iff t).mpr h]; rfl

theorem idle_later (t : Fin cfg0.N) (h : t.val ≠ 0) : cfg0.idle 3 (cfg0.grid.coords t) = true := by
  show (!(k0_cond1 (grid0.coords t) == 1#1)) = true
  rw [beq_eq_false_iff_ne.mpr (fun e => h ((cond_iff t).mp e))]; rfl

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- At the first point the f32 result's buffer is left as written, -/
theorem leaves_first (c : Dev nD) (t : Fin cfg0.N) (h : t.val = 0) :
    owns (c : Thread nD τ) (st0_3 t) fullShare (prod (iblk m c 0 t) (iblk m c 1 t)) ⊢ ((dats m 0 c).leavesExact 3 t : sProp 𝕄) := by
  obtain rfl : t = t0 := Fin.ext h
  exact Step.leaves_live (dats m 0 c) 3 t0 (idle_first _ rfl)

/-- and at a later point as it was found. -/
theorem leaves_later (c : Dev nD) (t : Fin cfg0.N) (h : t.val ≠ 0) (d) :
    owns (c : Thread nD τ) (st0_3 t) fullShare ((dats m 0 c).before 3 t d) ⊢ ((dats m 0 c).leavesExact 3 t : sProp 𝕄) :=
  Step.leaves_idle (dats m 0 c) 3 rfl (fun _ _ => rfl) t0.isLt (idle_first _ rfl) idle_later
    (fun t ht => Bool.eq_false_iff.mpr fun e => by
      have := (flush0_3 t).mp e
      have : cfg0.N = 8 := N_0
      omega) (fun t => (after_3 m c t).trans (after_3 m c _).symm) t h d

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq_two]
  simp only [before_0, before_1]
  rw [after_0, after_1, after_2]
  exact Step.twoStores_sound _ _ _ _ _ _ _ _ _ _ (hstage0_0 ((cfg0.slots t 0).cast nbuf0_0)) _ (hstage0_1 ((cfg0.slots t 1).cast nbuf0_1)) _ _ _ _ c _ _ _ _
    (fun hb => leaves_first m c t ((cond_iff t).mp hb)) (fun hb => leaves_later m c t fun h => hb ((cond_iff t).mpr h)) _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs to the end, and every array ends at what the points wrote back. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.WDownIdeal.Val

end
-- ==== Proof.WDownProof.lean ====
/-
  The claims on the weight-gradient call of the down-projection: the whole gradient in bf16 and device 0's own block of it in f32.
-/
module

public import proofs.«01_k».proof.Defs
public import proofs.«01_k».proof.Proof.WDownRun
public import proofs.«01_k».proof.Proof.Common
public import proofs.«01_k».proof.Proof.Gen.WDown
public import proofs.«01_k».proof.Proof.Gen.WDownRefIdeal.Run
public import proofs.«01_k».proof.Proof.Gen.WDownRefIdeal.Read
public import Idealize.ShloMosaic.Lib.Pointwise
public import Idealize.ShloMosaic.Lib.Pointwise.Blocks
public import Idealize.ShloMosaic.Lib.Pipeline.ValueKit

@[expose] public section

set_option maxRecDepth 16384

noncomputable section

open Idealize.ShloMosaic Idealize.ShloMosaic.TcCoe Idealize.SL.Sem

namespace Cert.WDownIdeal.Val

open Cert.WDownIdeal Cert.WDownIdeal.Gen Step
open Idealize.ShloMosaic.Pipeline (Dat)

variable (m : (ℓ : Loc nD τ sig) → Buf (Elt Ideal) ℓ)

/-- The windows' block indices. -/
theorem idx : ∀ t : Fin cfg0.N, win0_0.index t = ![0, t.val] ∧ win0_1.index t = ![0, 0] ∧ win0_2.index t = ![t.val, 0] ∧ win0_3.index t = ![0, 0] :=
  (by decide +kernel : ∀ t : Fin grid0.N, _)

theorem lt8 (t : Fin cfg0.N) : t.val < 8 := lt_of_lt_of_eq t.isLt N_0

/-- The argument arrays as extended reals. -/
abbrev aA (c : Dev nD) : Vec Ideal S4096x3072 .f32 := m ((c : Thread nD τ).loc main_arg0)
abbrev aD (c : Dev nD) : Vec Ideal S4096x1024 .f32 := m ((c : Thread nD τ).loc main_arg1)

/-- The weight gradient: activations transposed times the gradient. -/
def gArr (c : Dev nD) (i : Fin 3072) (k : Fin 1024) : EReal := ∑ r : Fin 4096, aA m c (ix2 r i) * aD m c (ix2 r k)

/-- Row `384 t + r` of the weight. -/
def row (t : Fin cfg0.N) (r : Fin 384) : Fin 3072 := ⟨t.val * 384 + r.val, by have := lt8 t; omega⟩

theorem blk0 (c : Dev nD) (t : Fin cfg0.N) (r : Fin 4096) (i : Fin 384) :
    (iblk m c 0 t : Vec Ideal S4096x384 .bf16) (ix2 r i) = aA m c (ix2 r (row t i)) := by
  blk_simp [iblk]
  entry_read
  pointwise
  blk_ext [idx t, row]

theorem blk1 (c : Dev nD) (t : Fin cfg0.N) (r : Fin 4096) (k : Fin 1024) :
    (iblk m c 1 t : Vec Ideal S4096x1024 .bf16) (ix2 r k) = aD m c (ix2 r k) := by
  blk_simp [iblk]
  entry_read
  pointwise
  blk_ext [idx t]

/-- The product of two blocks, entry by entry. -/
theorem prod_apply (x0 : Vec Ideal S4096x384 .bf16) (x1 : Vec Ideal S4096x1024 .bf16) (i : Fin 384) (k : Fin 1024) :
    prod x0 x1 (ix2 i k) = ∑ r : Fin 4096, x0 (ix2 r i) * x1 (ix2 r k) := by
  pointwise [prod]

theorem prod_blk (c : Dev nD) (t : Fin cfg0.N) (i : Fin 384) (k : Fin 1024) :
    prod (iblk m c 0 t : Vec Ideal S4096x384 .bf16) (iblk m c 1 t : Vec Ideal S4096x1024 .bf16) (ix2 i k) = gArr m c (row t i) k := by
  rw [prod_apply]
  exact Finset.sum_congr rfl fun r _ => by rw [blk0, blk1]

/-- The whole gradient after the run. -/
theorem final2 (c : Dev nD) : (dats m 0 c).arrAt 2 cfg0.N = (fun i => gArr m c (i 0) (i 1) : Vec Ideal S3072x1024 .bf16) := by
  refine (dats m 0 c).arrAt_eq_of_covers 2 _ (by decide +kernel) fun t _ y => ?_
  blk_simp
  rw [after_2]
  obtain ⟨i, k, rfl⟩ : ∃ i k, y = ix2 (n0 := 384) (n1 := 1024) i k := ⟨y 0, y 1, eq_ix2 y⟩
  refine (prod_blk m c t i k).trans ?_
  have he : (win0_2.blk t).view.emb (ix2 i k) = ix2 (row t i) k := by blk_ext [idx t, row]
  rw [he]
  rfl

/-- The last grid point. -/
def tLast : Fin cfg0.N := ⟨7, by rw [show cfg0.N = 8 from N_0]; decide⟩

/-- Device 0's own block after the run. -/
theorem final3 (c : Dev nD) : (dats m 0 c).arrAt 3 cfg0.N = (fun i => gArr m c ⟨(i 0).val, Nat.lt_trans (i 0).isLt (by decide)⟩ (i 1) : Vec Ideal S384x1024 .f32) := by
  refine (dats m 0 c).arrAt_eq_of_after_last 3 tLast (by decide +kernel) _ fun y => ?_
  blk_simp
  rw [after_3]
  obtain ⟨i, k, rfl⟩ : ∃ i k, y = ix2 (n0 := 384) (n1 := 1024) i k := ⟨y 0, y 1, eq_ix2 y⟩
  refine (prod_blk m c t0 i k).trans ?_
  exact congrArg (fun j => gArr m c j k) (Fin.ext (by show 0 * 384 + i.val = i.val; omega))

/-- What the run leaves: the two results, and the arguments as they were. -/
theorem run_blocks (g : Dev nD → PrngReg) : θ_run defs (onTc (τ := τ) (main (F := Ideal))) ⟨m, fun _ => 0, g⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1.1 c).1 2, (h.1.1 c).1 3, h.2.1 c⟩) (θ_run_and (run_quiescent m g) (frame m g))

/-- The reference's product, entry by entry. -/
theorem ref_apply (x0 : Vec Ideal S4096x3072 .f32) (x1 : Vec Ideal S4096x1024 .f32) (i : Fin 3072) (k : Fin 1024) :
    Cert.WDownRefIdeal.Read.val_main_v3 (F := Ideal) x0 x1 (ix2 i k) = ∑ r : Fin 4096, x0 (ix2 r i) * x1 (ix2 r k) := by
  rw [Cert.WDownRefIdeal.Read.val_main_v3_apply, Cert.WDownRefIdeal.Read.val_main_v2_apply]
  refine Finset.sum_congr rfl fun r _ => ?_
  rw [mul_comm]
  refine congrArg₂ (· * ·) (congrArg x0 ?_) (congrArg x1 ?_) <;> (ext a; fin_cases a <;> rfl)

/-- Kernel and reference compute the same gradient. -/
theorem algebraic : Cert.algebraic_WDownIdeal_WDownRefIdeal := by
  intro m g m' g' hp hm
  refine ⟨fun c => (dats m 0 c).arrAt 2 cfg0.N, fun c => (dats m 0 c).arrAt 3 cfg0.N, run_blocks m g, ?_⟩
  refine (θ_run Cert.WDownRefIdeal.defs _ _).mono (fun r h c => ?_) (Cert.WDownRefIdeal.Value.run (F := Ideal) m' g')
  obtain ⟨h0, h1, hk⟩ := h c
  obtain ⟨q0, q1⟩ := hm c
  refine ⟨h0.trans (Eq.trans ?_ (final2 m c).symm), h1.trans (Eq.trans ?_ (final3 m c).symm), hk⟩
  · funext i
    obtain ⟨a, b, rfl⟩ : ∃ (a : Fin 3072) (b : Fin 1024), i = ix2 a b := ⟨i 0, i 1, by ext x; fin_cases x <;> rfl⟩
    rw [Cert.WDownRefIdeal.Read.val_main_v4_eq, q0, q1]
    exact ref_apply _ _ a b
  · funext i
    obtain ⟨a, b, rfl⟩ : ∃ (a : Fin 384) (b : Fin 1024), i = ix2 a b := ⟨i 0, i 1, by ext x; fin_cases x <;> rfl⟩
    rw [Cert.WDownRefIdeal.Read.val_main_v5_eq, q0, q1, Cert.WDownRefIdeal.Read.val_main_v5_apply]
    refine Eq.trans (congrArg _ ?_) (ref_apply _ _ ⟨a.val, by omega⟩ b)
    ext x; fin_cases x <;> rfl

/-- The reference leaves its arguments as they were; it has no semaphore. -/
theorem frame_ref : Cert.quiescent_WDownRefIdeal := fun m g _ =>
  (θ_run Cert.WDownRefIdeal.defs _ _).mono (fun _ h => ⟨fun c => (h c).2.2, sem_eq_zero_of_no_sems (by decide) _⟩)
    (Cert.WDownRefIdeal.Value.run (F := Ideal) m g)

/-- The two programs' bodies are the same text, -/
theorem body_eq : Cert.WDown.defs₀ (F := Bits) = Cert.WDownIdeal.defs₀ (F := Bits) := by
  refine congrArg Defs.onTc (funext fun l => funext fun x => ?_)
  match l, x with
  | 0, (t, s) => rfl

theorem defs_eq : Cert.WDown.defs (F := Bits) = Cert.WDownIdeal.defs (F := Bits) := by
  unfold Cert.WDown.defs
  rw [body_eq]
  rfl

/-- so the kernel's frame with its own arithmetic is the run above, at bits. -/
theorem frame_bits : Cert.quiescent_WDown := fun m g _ => by
  rw [defs_eq]
  exact frame (F := Bits) m g

/-- Every claim on the call. -/
theorem claims : Cert.quiescent_WDown ∧ Cert.quiescent_WDownIdeal ∧ Cert.quiescent_WDownRefIdeal ∧ Cert.preserves_WDown_WDownIdeal
    ∧ Cert.algebraic_WDownIdeal_WDownRefIdeal :=
  ⟨frame_bits, fun m g _ => frame m g, frame_ref, trivial, algebraic⟩

end Cert.WDownIdeal.Val

end
-- ==== Proof.FfnRun.lean ====
/-
  The body of the feed-forward's forward call at one grid point: what it reads from its windows and from the rows saved in
  scratch, what it writes to its three results, and the rows it saves for the next tile.
-/
module

public import proofs.«01_k».proof.Proof.Gen.FfnFwdIdeal.Skeleton
public import proofs.«01_k».proof.Proof.Gen.FfnFwdIdeal.Frame
public import proofs.«01_k».proof.Proof.OnePoint
public import proofs.«01_k».proof.Proof.Common
public import Idealize.ShloMosaic.Lib.Claim
public import Idealize.ShloMosaic.Lib.VecWindow

@[expose] public section

set_option maxRecDepth 16384

noncomputable section

namespace Cert.FfnFwdIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFwdIdeal Cert.FfnFwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What one grid point computes -/

/-- The gate columns of `h` times the up-projection at a point, -/
def xg (i : grid0.Coords) (x2 : Vec F S512x1024 .bf16) (x3 : Vec F S8x1024x768 .bf16) : FVec F S512x768 .f32 :=
  k0_pay4 x2 (View.ld x3 (Rect.unit (k0_off2 i) S1x1024x768.size (k0_off2_inb i)))

/-- and the value columns. -/
def xv (i : grid0.Coords) (x2 : Vec F S512x1024 .bf16) (x3 : Vec F S8x1024x768 .bf16) : FVec F S512x768 .f32 :=
  k0_pay5 x2 (View.ld x3 (Rect.unit (k0_off3 i) S1x1024x768.size (k0_off3_inb i)))

/-- The causal convolution of three taps over a tile `x` whose eight rows before it are `p`. -/
def conv (x : FVec F S512x768 .f32) (p : FVec F S8x768 .f32) (k : Vec F S3x768 .f32) (b : Vec F S1x768 .f32) : FVec F S512x768 .f32 :=
  k0_pay10 x p
    (addf (broadcastTo S512x768 b broadcasts_S1x768_S512x768)
      (mulf (broadcastTo S512x768 (View.ld k (Rect.unit (s := S3x768) ![2, 0] S1x768.size inb_S3x768_S1x768_2_0) : Vec F S1x768 .f32) broadcasts_S1x768_S512x768) x))
    (View.ld k (Rect.unit (s := S3x768) ![0, 0] S1x768.size inb_S3x768_S1x768_0_0))
    (View.ld k (Rect.unit (s := S3x768) ![1, 0] S1x768.size inb_S3x768_S1x768_1_0))

/-- Two tiles stacked. -/
def pair {e : EltTy} (a b : S512x768.Idx → Elt F e) : S2x512x768.Idx → Elt F e :=
  fun y => if (y 0).val = 0 then a (fun | 0 => y 1 | 1 => y 2) else b (fun | 0 => y 1 | 1 => y 2)

/-- The saved last eight rows of the gate's tile before a point, -/
def sg (i : grid0.Coords) (s : Vec F S4x2x8x768 .f32) : Vec F S1x1x8x768 .f32 :=
  View.ld s (Rect.unit (k0_off4 i) S1x1x8x768.size (k0_off4_inb i))

/-- and of the value's. -/
def sv (i : grid0.Coords) (s : Vec F S4x2x8x768 .f32) : Vec F S1x1x8x768 .f32 :=
  View.ld s (Rect.unit (k0_off5 i) S1x1x8x768.size (k0_off5_inb i))

/-- The rows before a tile: zero before the first tile, the saved rows before a later one. -/
def before (i : grid0.Coords) (r : Vec F S1x1x8x768 .f32) : FVec F S8x768 .f32 :=
  if k0_cond1 i = 1#1 then fun _ => Scalar.ofBits .f32 0x00000000#32 else k0_pay8 r

/-! ## Loads and stores, as values -/

theorem off1_eq (i : grid0.Coords) : k0_off1 i = ![(i 1).val, 0, 0, 0] := by
  have h : (i 1).val < 4 := (i 1).isLt
  show ![(BitVec.ofNat 32 (i 1).val).toNat, 0, 0, 0] = _
  rw [BitVec.toNat_ofNat, Nat.mod_eq_of_lt (by omega)]

theorem off4_eq (i : grid0.Coords) : k0_off4 i = ![(i 1).val, 0, 0, 0] := off1_eq i

theorem off5_eq (i : grid0.Coords) : k0_off5 i = ![(i 1).val, 1, 0, 0] := by
  have h : (i 1).val < 4 := (i 1).isLt
  show ![(BitVec.ofNat 32 (i 1).val).toNat, 1, 0, 0] = _
  rw [BitVec.toNat_ofNat, Nat.mod_eq_of_lt (by omega)]

/-- A position in two stacked tiles, within its tile. -/
def inTile (y : S2x512x768.Idx) : S1x512x768.Idx := fun | 0 => (0 : Fin 1) | 1 => y 1 | 2 => y 2

/-- Two stores of one tile each leave the two tiles stacked. -/
theorem pair_writes {sp : Space} {e : EltTy} (v : View sig .tc sp S2x512x768 e) (f : v.ty.Contents (Elt F)) (a b : S512x768.Idx → Elt F e) :
    v.read (Elt F) (v.writes (Elt F) f
      [⟨Rect.unit ![1, 0, 0] S1x512x768.size inb_S2x512x768_S1x512x768_1_0_0, shapeCast S1x512x768 b shapeCasts_S512x768_S1x512x768⟩,
        ⟨Rect.unit ![0, 0, 0] S1x512x768.size inb_S2x512x768_S1x512x768_0_0_0, shapeCast S1x512x768 a shapeCasts_S512x768_S1x512x768⟩]) = pair a b := by
  funext y
  have hy : (y 0).val < 2 := (y 0).isLt
  unfold pair
  by_cases h : (y 0).val = 0
  · rw [if_pos h]
    refine (View.read_writes_cons_unit_of_not_mem v f (off := ![1, 0, 0]) (off' := ![1, 0, 0]) (size := S1x512x768.size) _ _ _ y rfl 0 (.inl (by show (y 0).val < 1; omega))).trans ?_
    refine (View.read_writes_cons_unit_of_mem v f (off := ![0, 0, 0]) (off' := ![0, 0, 0]) (size := S1x512x768.size) _ _ _ y (inTile y) rfl
      (fun | 0 => h | 1 => (Nat.zero_add _).symm | 2 => (Nat.zero_add _).symm)).trans ?_
    exact (shapeCast_addUnit_apply ![512, 768] a shapeCasts_S512x768_S1x512x768 (inTile y)).trans (congrArg a (funext fun | 0 => rfl | 1 => rfl))
  · rw [if_neg h]
    refine (View.read_writes_cons_unit_of_mem v f (off := ![1, 0, 0]) (off' := ![1, 0, 0]) (size := S1x512x768.size) _ _ _ y (inTile y) rfl
      (fun | 0 => (by show (y 0).val = 1 + 0; omega) | 1 => (Nat.zero_add _).symm | 2 => (Nat.zero_add _).symm)).trans ?_
    exact (shapeCast_addUnit_apply ![512, 768] b shapeCasts_S512x768_S1x512x768 (inTile y)).trans (congrArg b (funext fun | 0 => rfl | 1 => rfl))

/-- What the two stores into the saved rows leave: the rows themselves at the point's columns, the earlier stores elsewhere. -/
theorem saved {sp : Space} (i : grid0.Coords) (v : View sig .tc sp S4x2x8x768 .f32) (f : v.ty.Contents (Elt F)) (a b : Vec F S1x1x8x768 .f32)
    (L : List (View.Piece (Elt F) S4x2x8x768 .f32)) :
    let r := v.read (Elt F) (v.writes (Elt F) f (⟨Rect.unit (k0_off5 i) S1x1x8x768.size (k0_off5_inb i), b⟩ :: ⟨Rect.unit (k0_off4 i) S1x1x8x768.size (k0_off4_inb i), a⟩ :: L))
    sg i r = a ∧ sv i r = b ∧ ∀ y : S4x2x8x768.Idx, (y 0).val ≠ (i 1).val → r y = v.read (Elt F) (v.writes (Elt F) f L) y := by
  refine ⟨funext fun x => ?_, funext fun x => ?_, fun y hy => ?_⟩
  · have hx : (x 1).val < 1 := (x 1).isLt
    refine (View.read_writes_cons_unit_of_not_mem v f _ _ _ _ (off5_eq i) 1 (.inl ?_)).trans
      (View.read_writes_cons_unit_of_mem v f _ _ _ _ x rfl fun a => by
        show k0_off4 i a + 1 * (x a).val = _
        rw [Nat.one_mul])
    show k0_off4 i 1 + 1 * (x 1).val < 1
    rw [off4_eq]
    show 0 + 1 * (x 1).val < 1
    omega
  · exact View.read_writes_cons_unit_of_mem v f _ _ _ _ x rfl fun a => by
      show k0_off5 i a + 1 * (x a).val = _
      rw [Nat.one_mul]
  · have hne : (y 0).val < (i 1).val ∨ (i 1).val + 1 ≤ (y 0).val := by omega
    exact (View.read_writes_cons_unit_of_not_mem v f (size := S1x1x8x768.size) _ _ _ y (off5_eq i) 0 (show (y 0).val < (i 1).val ∨ (i 1).val + 1 ≤ (y 0).val from hne)).trans
      (View.read_writes_cons_unit_of_not_mem v f (size := S1x1x8x768.size) _ _ _ y (off4_eq i) 0 (show (y 0).val < (i 1).val ∨ (i 1).val + 1 ≤ (y 0).val from hne))

/-- The zeroing store leaves the other columns' rows as they were. -/
theorem saved_zero {sp : Space} (i : grid0.Coords) (h : k0_cond1 i = 1#1) (v : View sig .tc sp S4x2x8x768 .f32) (f : v.ty.Contents (Elt F))
    (a : Vec F S1x2x8x768 .f32) (y : S4x2x8x768.Idx) (hy : (y 0).val ≠ (i 1).val) :
    v.read (Elt F) (v.writes (Elt F) f [⟨Rect.unit (k0_off1 i) S1x2x8x768.size (k0_off1_inb i h), a⟩]) y = v.read (Elt F) f y :=
  View.read_writes_cons_unit_of_not_mem v f _ _ [] y (off1_eq i) 0 (show (y 0).val < (i 1).val ∨ (i 1).val + 1 ≤ (y 0).val by omega)

/-- A load inside the columns just zeroed reads zero. -/
theorem read_zero {sp : Space} (i : grid0.Coords) (h : k0_cond1 i = 1#1) (v : View sig .tc sp S4x2x8x768 .f32) (off : Fin 4 → ℕ)
    (inb : ∀ a, off a + S1x1x8x768.size a ≤ S4x2x8x768.size a) (h0 : off 0 = (i 1).val) :
    k0_pay8 (v.readCov [⟨Rect.unit (k0_off1 i) S1x2x8x768.size (k0_off1_inb i h), k0_pay2 (F := F)⟩] (Rect.unit (s := S4x2x8x768) off S1x1x8x768.size inb).toLoadRect)
      = fun _ => Scalar.ofBits .f32 0x00000000#32 := by
  have e : (v.readCov [⟨Rect.unit (k0_off1 i) S1x2x8x768.size (k0_off1_inb i h), k0_pay2 (F := F)⟩] (Rect.unit (s := S4x2x8x768) off S1x1x8x768.size inb).toLoadRect
      : Vec F S1x1x8x768 .f32) = fun _ => Scalar.ofBits .f32 0x00000000#32 := by
    funext j
    have hm : (Rect.unit (s := S4x2x8x768) off S1x1x8x768.size inb).idx j ∈ (Rect.unit (s := S4x2x8x768) (k0_off1 i) S1x2x8x768.size (k0_off1_inb i h)).set := by
      rw [Rect.mem_set_unit, off1_eq]
      intro a
      have hj := (j a).isLt
      have hi := inb a
      have ej : ((Rect.unit (s := S4x2x8x768) off S1x1x8x768.size inb).idx j a).val = off a + 1 * (j a).val := rfl
      rw [ej]
      match a with
      | 0 =>
        have : (j 0).val < 1 := hj
        show (i 1).val ≤ off 0 + 1 * (j 0).val ∧ off 0 + 1 * (j 0).val < (i 1).val + 1
        omega
      | 1 =>
        have hj : (j 1).val < 1 := hj
        have hi : off 1 + 1 ≤ 2 := hi
        show 0 ≤ off 1 + 1 * (j 1).val ∧ off 1 + 1 * (j 1).val < 0 + 2
        omega
      | 2 =>
        have hj : (j 2).val < 8 := hj
        have hi : off 2 + 8 ≤ 8 := hi
        show 0 ≤ off 2 + 1 * (j 2).val ∧ off 2 + 1 * (j 2).val < 0 + 8
        omega
      | 3 =>
        have hj : (j 3).val < 768 := hj
        have hi : off 3 + 768 ≤ 768 := hi
        show 0 ≤ off 3 + 1 * (j 3).val ∧ off 3 + 1 * (j 3).val < 0 + 768
        omega
    obtain ⟨x, hx⟩ := (Rect.unit (s := S4x2x8x768) (k0_off1 i) S1x2x8x768.size (k0_off1_inb i h)).exists_idx_of_mem hm
    refine (congrArg (v.read (Elt F) (v.writes (Elt F) v.junk _)) hx.symm).trans ?_
    exact View.read_writes_cons_emb v v.junk _ _ [] x
  rw [e]
  rfl

/-! ## The printed payloads, as the functions above -/

theorem pay9_eq (x : Vec F S512x1024 .bf16) (w : Vec F S1x1024x768 .bf16) (b k : Vec F S1x768 .f32) :
    k0_pay9 x w b k = addf (broadcastTo S512x768 b broadcasts_S1x768_S512x768) (mulf (broadcastTo S512x768 k broadcasts_S1x768_S512x768) (k0_pay4 x w)) := rfl

theorem pay16_eq (x : FVec F S512x768 .f32) (r : Vec F S1x1x8x768 .f32) (b k k0 k1 : Vec F S1x768 .f32) :
    k0_pay16 x (k0_pay11 r) (k0_pay12 x b k) (k0_pay13 x) (k0_pay14 r) k0_pay15 k0 k1
      = k0_pay10 x (k0_pay8 r) (addf (broadcastTo S512x768 b broadcasts_S1x768_S512x768) (mulf (broadcastTo S512x768 k broadcasts_S1x768_S512x768) x)) k0 k1 := rfl

theorem pay19_eq (x : FVec F S512x768 .f32) : k0_pay19 x = shapeCast S1x512x768 x shapeCasts_S512x768_S1x512x768 := rfl

theorem pay20_eq (x : FVec F S512x768 .f32) (r : Vec F S1x1x8x768 .f32) (b k k0 k1 : Vec F S1x768 .f32) :
    k0_pay20 x (k0_pay11 r) (k0_pay12 x b k) (k0_pay13 x) (k0_pay14 r) k0_pay15 k0 k1
      = shapeCast S1x512x768 (k0_pay10 x (k0_pay8 r) (addf (broadcastTo S512x768 b broadcasts_S1x768_S512x768) (mulf (broadcastTo S512x768 k broadcasts_S1x768_S512x768) x)) k0 k1) shapeCasts_S512x768_S1x512x768 := rfl

section

variable (c : Dev nD) (i : grid0.Coords) (arg2 : Memref sig .tc .vmem S512x1024 .bf16) (harg2 : arg2.IsWhole) (arg3 : Memref sig .tc .vmem S8x1024x768 .bf16) (harg3 : arg3.IsWhole) (arg4 : Memref sig .tc .vmem S3x768 .f32) (harg4 : arg4.IsWhole) (arg5 : Memref sig .tc .vmem S3x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S2x512x768 .bf16) (harg8 : arg8.IsWhole) (arg9 : Memref sig .tc .vmem S2x512x768 .f32) (harg9 : arg9.IsWhole) (arg10 : Memref sig .tc .vmem S512x768 .bf16) (harg10 : arg10.IsWhole) (arg11 : Memref sig .tc .vmem S4x2x8x768 .f32) (harg11 : arg11.IsWhole)
    (x2 : Vec F S512x1024 .bf16) (x3 : Vec F S8x1024x768 .bf16) (x4 x5 : Vec F S3x768 .f32) (x6 x7 : Vec F S1x768 .f32) (s : Vec F S4x2x8x768 .f32)

/-- The gate after the convolution at a point, -/
def ug : FVec F S512x768 .f32 := conv (xg i x2 x3) (before i (sg i s)) x4 x6

/-- and the value. -/
def uv : FVec F S512x768 .f32 := conv (xv i x2 x3) (before i (sv i s)) x5 x7

set_option maxHeartbeats 800000 in
/-- The body at a point: from the rows saved before, it leaves its three blocks and saves its own last rows. -/
theorem body (E : Set ℕ) (K : PUnit → sProp 𝕄) :
    iprop(owns (c : Thread nD τ) arg2 fullShare x2 ∗ owns (c : Thread nD τ) arg3 fullShare x3
      ∗ owns (c : Thread nD τ) arg4 fullShare x4 ∗ owns (c : Thread nD τ) arg5 fullShare x5
      ∗ owns (c : Thread nD τ) arg6 fullShare x6 ∗ owns (c : Thread nD τ) arg7 fullShare x7
      ∗ (∃ d, owns (c : Thread nD τ) arg8 fullShare d) ∗ (∃ d, owns (c : Thread nD τ) arg9 fullShare d)
      ∗ (∃ d, owns (c : Thread nD τ) arg10 fullShare d) ∗ owns (c : Thread nD τ) arg11 fullShare s
      ∗ (iprop(owns (c : Thread nD τ) arg2 fullShare x2 ∗ owns (c : Thread nD τ) arg3 fullShare x3
          ∗ owns (c : Thread nD τ) arg4 fullShare x4 ∗ owns (c : Thread nD τ) arg5 fullShare x5
          ∗ owns (c : Thread nD τ) arg6 fullShare x6 ∗ owns (c : Thread nD τ) arg7 fullShare x7
          ∗ owns (c : Thread nD τ) arg8 fullShare (pair (e := .bf16) (truncf .bf16 (xg i x2 x3) bitsLt_bf16_f32) (truncf .bf16 (xv i x2 x3) bitsLt_bf16_f32))
          ∗ owns (c : Thread nD τ) arg9 fullShare (pair (e := .f32) (ug i x2 x3 x4 x6 s) (uv i x2 x3 x5 x7 s))
          ∗ owns (c : Thread nD τ) arg10 fullShare (k0_pay1 (ug i x2 x3 x4 x6 s) (uv i x2 x3 x5 x7 s))
          ∗ (∃ s', ⌜sg i s' = k0_pay17 (xg i x2 x3) ∧ sv i s' = k0_pay18 (xv i x2 x3) ∧ ∀ y : S4x2x8x768.Idx, (y 0).val ≠ (i 1).val → s' y = s y⌝
              ∗ owns (c : Thread nD τ) arg11 fullShare s')) -∗ K ⟨⟩))
    ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
  rw [cc0_ffn_fwd_eq_skeleton]
  unfold cc0_ffn_fwd_skel
  rw [k0_part1_eq_skeleton, k0_part2_eq_skeleton, k0_part3_eq_skeleton]
  unfold k0_part1_skel k0_part2_skel k0_part3_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg11.eq_unread hf9
  have e2 := Step.ld_whole (Val := Elt F) (e := .bf16) x2 inb_S512x1024_S512x1024_0_0
  have e6 := Step.ld_whole (Val := Elt F) (e := .f32) x6 inb_S1x768_S1x768_0_0
  have e7 := Step.ld_whole (Val := Elt F) (e := .f32) x7 inb_S1x768_S1x768_0_0
  by_cases hc : k0_cond1 i = 1#1
  case' pos =>
    have hb : ∀ r, before i r = fun _ => Scalar.ofBits (F := F) .f32 0x00000000#32 := fun r => if_pos hc
    have hg := read_zero (F := F) i hc arg11.view (k0_off4 i) (k0_off4_inb i) (congrFun (off4_eq i) 0)
    have hv := read_zero (F := F) i hc arg11.view (k0_off5 i) (k0_off5_inb i) (congrFun (off5_eq i) 0)
    simp only [k0_off1, k0_off4, k0_off5] at hg hv
    have hL := fun y hy => (saved_zero i hc arg11.view (harg11.unread s) (k0_pay2 (F := F)) y hy).trans (congrFun (harg11.read_unread s) y)
  case' neg =>
    have hb : ∀ r, before i r = k0_pay8 (F := F) r := fun r => if_neg hc
    have hg : True := trivial
    have hv : True := trivial
    have hL := fun (y : S4x2x8x768.Idx) (hy : (y 0).val ≠ (i 1).val) => congrFun (harg11.read_unread s) y
  all_goals
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro
      refine Eq.trans ?_ (pair_writes arg8.view f6 _ _)
      simp only [View.readAt_eq_ld, harg2.read_unread, harg3.read_unread, e2]
      rfl
    isplitl [H7]
    · iexists _; isplitr
      swap; · iexact H7
      ipureintro
      refine Eq.trans ?_ (pair_writes arg9.view f7 _ _)
      sl_unfold_words
      simp only [View.readAt_eq_ld, harg2.read_unread, harg3.read_unread, harg4.read_unread, harg5.read_unread, harg6.read_unread, harg7.read_unread, harg11.read_unread, e2, e6, e7, pay9_eq, pay19_eq, pay20_eq, pay16_eq, hg, hv, ug, uv, hb, conv, xg, xv, sg, sv, k0_off1, k0_off2, k0_off3, k0_off4, k0_off5]
    isplitl [H8]
    · iexists _; isplitr
      swap; · iexact H8
      ipureintro
      rw [View.read_writes_full]
      sl_unfold_words
      simp only [View.readAt_eq_ld, harg2.read_unread, harg3.read_unread, harg4.read_unread, harg5.read_unread, harg6.read_unread, harg7.read_unread, harg11.read_unread, e2, e6, e7, pay9_eq, pay19_eq, pay16_eq, hg, hv, ug, uv, hb, conv, xg, xv, sg, sv, k0_off1, k0_off2, k0_off3, k0_off4, k0_off5]
    iexists _
    isplitr
    swap
    · iexists _; isplitr
      swap; · iexact H9
      ipureintro; rfl
    ipureintro
    have hs := saved i arg11.view (harg11.unread s) (k0_pay17 (xg i x2 x3)) (k0_pay18 (xv i x2 x3))
    simp only [View.readAt_eq_ld, harg2.read_unread, harg3.read_unread, e2]
    exact ⟨(hs _).1, (hs _).2.1, fun y hy => ((hs _).2.2 y hy).trans (hL y hy)⟩

end

end Cert.FfnFwdIdeal.Val

end
-- ==== Proof.FfnFrame.lean ====
/-
  The forward call of the gated feed-forward, run: the rows each point saves are the rows the next tile of the same columns
  reads, so every point's blocks are functions of its own inputs and those of the tile before; at the end the arguments are
  as they were and no counter is up.
-/
module

public import proofs.«01_k».proof.Proof.FfnRun

@[expose] public section

set_option maxRecDepth 16384

noncomputable section

namespace Cert.FfnFwdIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFwdIdeal Cert.FfnFwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

theorem lt32 (t : Fin cfg0.N) : t.val < 32 := Nat.lt_of_lt_of_eq t.isLt N_0

theorem coord1 (t : Fin cfg0.N) : (grid0.coords t 1).val = t.val % 4 := by
  have e1 : (grid0.coords t 1).val = t.val / 1 % 4 := Pipeline.Grid.coords_val t 1 (by decide) rfl
  rw [e1, Nat.div_one]

/-- The rows before are zero at the four points of the first tile. -/
theorem cond_iff (t : Fin cfg0.N) : k0_cond1 (grid0.coords t) = 1#1 ↔ t.val < 4 := by
  have ht := lt32 t
  have e0 : (grid0.coords t 0).val = t.val / 4 % 8 := Pipeline.Grid.coords_val t 0 (by decide) rfl
  have h : k0_cond1 (grid0.coords t) = 1#1 ↔ t.val / 4 % 8 = 0 := by
    simp only [k0_cond1, e0]
    word_cmp
  rw [h]
  omega

/-- The point of the same columns one tile earlier. -/
def prevT (t : Fin cfg0.N) : Fin cfg0.N := ⟨t.val - 4, Nat.lt_of_le_of_lt (Nat.sub_le _ _) t.isLt⟩

/-! ## What each point computes from the arrays -/

/-- The two products at a point, -/
def XG (c : Dev nD) (t : Fin cfg0.N) : FVec F S512x768 .f32 := xg (grid0.coords t) (iblk m c 0 t) (iblk m c 1 t)
def XV (c : Dev nD) (t : Fin cfg0.N) : FVec F S512x768 .f32 := xv (grid0.coords t) (iblk m c 0 t) (iblk m c 1 t)

/-- the gate and the value after the convolution. -/
def UG (c : Dev nD) (t : Fin cfg0.N) : FVec F S512x768 .f32 :=
  conv (XG m c t) (before (grid0.coords t) (k0_pay17 (XG m c (prevT t)))) (iblk m c 2 t) (iblk m c 4 t)
def UV (c : Dev nD) (t : Fin cfg0.N) : FVec F S512x768 .f32 :=
  conv (XV m c t) (before (grid0.coords t) (k0_pay18 (XV m c (prevT t)))) (iblk m c 3 t) (iblk m c 5 t)

/-- Before point `n` the scratch holds the last rows of the four points before it. -/
def Saved (c : Dev nD) (n : ℕ) (s : Vec F S4x2x8x768 .f32) : Prop :=
  ∀ u : Fin cfg0.N, u.val < n → n ≤ u.val + 4 →
    sg (grid0.coords u) s = k0_pay17 (XG m c u) ∧ sv (grid0.coords u) s = k0_pay18 (XV m c u)

/-- The saved rows are those of the point's columns. -/
theorem sg_congr (i j : grid0.Coords) (h : (i 1).val = (j 1).val) (s : Vec F S4x2x8x768 .f32) : sg i s = sg j s := by
  funext x
  refine congrArg s (funext fun a => Fin.ext ?_)
  show k0_off4 i a + 1 * (x a).val = k0_off4 j a + 1 * (x a).val
  rw [off4_eq, off4_eq, h]

theorem sv_congr (i j : grid0.Coords) (h : (i 1).val = (j 1).val) (s : Vec F S4x2x8x768 .f32) : sv i s = sv j s := by
  funext x
  refine congrArg s (funext fun a => Fin.ext ?_)
  show k0_off5 i a + 1 * (x a).val = k0_off5 j a + 1 * (x a).val
  rw [off5_eq, off5_eq, h]

/-- Rows of other columns that did not change are saved as before. -/
theorem sg_of_agree (i : grid0.Coords) (s s' : Vec F S4x2x8x768 .f32) (h : ∀ y : S4x2x8x768.Idx, (y 0).val = (i 1).val → s' y = s y) :
    sg i s' = sg i s ∧ sv i s' = sv i s := by
  refine ⟨funext fun x => h _ ?_, funext fun x => h _ ?_⟩ <;> have hx : (x 0).val < 1 := (x 0).isLt
  · show k0_off4 i 0 + 1 * (x 0).val = _
    rw [off4_eq]
    show (i 1).val + 1 * (x 0).val = _
    omega
  · show k0_off5 i 0 + 1 * (x 0).val = _
    rw [off5_eq]
    show (i 1).val + 1 * (x 0).val = _
    omega

/-- What a point reads of the saved rows. -/
theorem before_saved (c : Dev nD) (t : Fin cfg0.N) (s : Vec F S4x2x8x768 .f32) (h : Saved m c t.val s) :
    before (grid0.coords t) (sg (grid0.coords t) s) = before (grid0.coords t) (k0_pay17 (XG m c (prevT t)))
      ∧ before (grid0.coords t) (sv (grid0.coords t) s) = before (grid0.coords t) (k0_pay18 (XV m c (prevT t))) := by
  by_cases h4 : t.val < 4
  · have hc := (cond_iff t).mpr h4
    unfold before
    rw [if_pos hc, if_pos hc, if_pos hc, if_pos hc]
    exact ⟨rfl, rfl⟩
  · have hp : (prevT t).val = t.val - 4 := rfl
    have hcol : (grid0.coords t 1).val = (grid0.coords (prevT t) 1).val := by rw [coord1, coord1, hp]; omega
    obtain ⟨h1, h2⟩ := h (prevT t) (by omega) (by omega)
    rw [sg_congr _ _ hcol, sv_congr _ _ hcol, h1, h2]
    exact ⟨rfl, rfl⟩

/-- A point's own saving keeps the rows of the three points before it. -/
theorem saved_succ (c : Dev nD) (t : Fin cfg0.N) (s s' : Vec F S4x2x8x768 .f32) (h : Saved m c t.val s)
    (h1 : sg (grid0.coords t) s' = k0_pay17 (XG m c t)) (h2 : sv (grid0.coords t) s' = k0_pay18 (XV m c t))
    (h3 : ∀ y : S4x2x8x768.Idx, (y 0).val ≠ (grid0.coords t 1).val → s' y = s y) : Saved m c (t.val + 1) s' := by
  intro u hu hu'
  by_cases e : u = t
  · subst e; exact ⟨h1, h2⟩
  · have hne : u.val ≠ t.val := fun h => e (Fin.ext h)
    obtain ⟨g1, g2⟩ := sg_of_agree (grid0.coords u) s s' (fun y hy => h3 y (by rw [hy, coord1, coord1]; omega))
    rw [g1, g2]
    exact h u (by omega) (by omega)

/-! ## The run -/

/-- What the windows' buffers hold after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => pair (e := .bf16) (truncf .bf16 (XG m c t) bitsLt_bf16_f32) (truncf .bf16 (XV m c t) bitsLt_bf16_f32)
    | ⟨7, _⟩ => pair (e := .f32) (UG m c t) (UV m c t)
    | ⟨8, _⟩ => k0_pay1 (UG m c t) (UV m c t)
  Φ t := iprop((∃ s, ⌜Saved m c t.val s⌝ ∗ owns (c : Thread nD τ) (Memref.whole cc0_scratch0) fullShare s) ∗ ∃ r, prngReg c r)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = pair (e := .bf16) (truncf .bf16 (XG m c t) bitsLt_bf16_f32) (truncf .bf16 (XV m c t) bitsLt_bf16_f32) := by dsimp only [dats]
theorem after_7 (c : Dev nD) (t : Fin cfg0.N) : (dats m 0 c).after 7 t = pair (e := .f32) (UG m c t) (UV m c t) := by dsimp only [dats]
theorem after_8 (c : Dev nD) (t : Fin cfg0.N) : (dats m 0 c).after 8 t = k0_pay1 (UG m c t) (UV m c t) := by dsimp only [dats]

/-- Every input's buffer holds its block when the body starts. -/
theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t) :=
  ⟨before0_0_of m (dats m 0 c) (A_eq m c 0) (after_0 m c) t, before0_1_of m (dats m 0 c) (A_eq m c 1) (after_1 m c) t,
    before0_2_of m (dats m 0 c) (A_eq m c 2) (after_2 m c) t, before0_3_of m (dats m 0 c) (A_eq m c 3) (after_3 m c) t,
    before0_4_of m (dats m 0 c) (A_eq m c 4) (after_4 m c) t, before0_5_of m (dats m 0 c) (A_eq m c 5) (after_5 m c) t⟩

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem Φ_eq (c : Dev nD) (n : ℕ) (t : Fin (cfg0.N + 1)) (h : t.val = n) : (dats m 0 c).Φ t
    = iprop((∃ s, ⌜Saved m c n s⌝ ∗ owns (c : Thread nD τ) (Memref.whole cc0_scratch0) fullShare s) ∗ ∃ r, prngReg c r) := by
  subst h; dsimp only [dats]

theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5⟩ := before_in m c t
  unfold bodyPre bodyPost bodyAt0
  simp only [b0, b1, b2, b3, b4, b5]
  rw [Φ_eq m c t.val t.castSucc rfl, Φ_eq m c (t.val + 1) t.succ rfl,
    show (dats m 0 c).owesAt () t.succ = (dats m 0 c).owesAt () t.castSucc from rfl, after_0, after_1, after_2, after_3, after_4, after_5, after_6, after_7, after_8]
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨p1, p2⟩ := before_saved m c t s hs
  iapply (body c (grid0.coords t) _ _ _ _ _ _ _ _ _ _ _ _ _ _ _ _ _ _ _ _ (iblk m c 0 t) (iblk m c 1 t) (iblk m c 2 t) (iblk m c 3 t) (iblk m c 4 t) (iblk m c 5 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  unfold ug uv
  rw [p1, p2]
  iintro ⟨H0, H1, H2, H3, H4, H5, H6, H7, H8, ⟨%s', %hs', HS⟩⟩
  isplitl [HS HR]
  · isplitl [HS]
    · iexists s'; isplitr
      · ipureintro; exact saved_succ m c t s s' hs hs'.1 hs'.2.1 hs'.2.2
      iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch may hold anything, -/
theorem scratch_in (c : Dev nD) : Pipeline.ΦA spec0 c ⊢ ((dats m 0 c).Φ 0 : sProp 𝕄) := by
  rw [Φ_eq m c 0 0 rfl]
  unfold Pipeline.ΦA
  rw [scopedRest0_eq]
  iintro ⟨⟨%f, HS⟩, HR⟩
  isplitl [HS]
  · iexists f; isplitr
    · ipureintro; exact fun u hu => absurd hu (Nat.not_lt_zero _)
    rw [owns_whole]
    iexact HS
  iexact HR

/-- and after the last point what it holds is dropped. -/
theorem scratch_out (c : Dev nD) : ((dats m 0 c).Φ (Fin.last cfg0.N) : sProp 𝕄) ⊢ Pipeline.ΦA spec0 c := by
  rw [Φ_eq m c _ (Fin.last cfg0.N) rfl]
  unfold Pipeline.ΦA
  rw [scopedRest0_eq]
  iintro ⟨⟨%s, %hs, HS⟩, HR⟩
  isplitl [HS]
  · iexists s
    rw [owns_whole]
    exact .rfl
  iexact HR

set_option backward.isDefEq.respectTransparency.types false in
/-- The call runs to the end, and every array ends at what the points wrote back. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := scratch_in m) (hout := scratch_out m)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.FfnFwdIdeal.Val

end
-- ==== Proof.FfnRows.lean ====
/-
  One column of the causal depthwise convolution and one element of the GELU, as functions of extended reals; and the
  kernel's tile of 512 rows of them, whose first rows read the tile before.
-/
module

public import proofs.«01_k».proof.Proof.FfnFrame
public import proofs.«01_k».proof.Proof.Reals
public import Idealize.ShloMosaic.Lib.KernelVsHost
public import Idealize.ShloMosaic.Lib.Pointwise.Select

@[expose] public section

set_option maxRecDepth 16384
noncomputable section

open Idealize.ShloMosaic Idealize.ShloMosaic.TcCoe

namespace Step

/-- The element `s` rows back, zero before the first row. -/
def back (s : ℕ) (X : Fin 4096 → EReal) (r : Fin 4096) : EReal := if s ≤ r.val then X ⟨r.val - s, by omega⟩ else 0

/-- A column `X` convolved with its three taps, and the bias added. -/
def causal (X : Fin 4096 → EReal) (k : Fin 3 → EReal) (b : EReal) (r : Fin 4096) : EReal :=
  back 2 X r * k 0 + back 1 X r * k 1 + X r * k 2 + b

theorem back_isReal {X : Fin 4096 → EReal} (h : ∀ r, IsReal (X r)) (s : ℕ) (r : Fin 4096) : IsReal (back s X r) := by
  unfold back
  split
  · exact h _
  · exact IsReal.zero

theorem causal_isReal {X : Fin 4096 → EReal} {k : Fin 3 → EReal} {b : EReal} (h : ∀ r, IsReal (X r)) (hk : ∀ i, IsReal (k i)) (hb : IsReal b)
    (r : Fin 4096) : IsReal (causal X k b r) :=
  ((((back_isReal h 2 r).mul (hk 0)).add ((back_isReal h 1 r).mul (hk 1))).add ((h r).mul (hk 2))).add hb

/-- The scale of the GELU's tangent, `√(2/π)` as an f32, -/
def root : ℝ := 6693141 / 8388608

/-- and the weight of the cube in it, `0.044715` as an f32. -/
def cube : ℝ := 12003091 / 268435456

theorem word_root : Ideal.ofBits .f32 0x3F4C422A#32 = ((root : ℝ) : EReal) := by
  unfold root; simp [Ideal.ofBits, Ideal.ieee, -EReal.coe_mul]; norm_num

theorem word_cube : Ideal.ofBits .f32 0x3D372713#32 = ((cube : ℝ) : EReal) := by
  unfold cube; simp [Ideal.ofBits, Ideal.ieee, -EReal.coe_mul]; norm_num

/-- The GELU in its tangent form, times `v`. -/
def gated (g v : EReal) : EReal :=
  g * (((1 / 2 : ℝ) : EReal) * (1 + Ideal.tanh ((root : EReal) * (g + (cube : EReal) * (g * g * g))))) * v

/-- The kernel's order of the same: of a real gate they agree. -/
theorem gated_eq {g : EReal} (v : EReal) (hg : IsReal g) :
    (((1 / 2 : ℝ) : EReal) * g + ((1 / 2 : ℝ) : EReal) * g * Ideal.tanh (g * ((root : EReal) + ((root * cube : ℝ) : EReal) * (g * g)))) * v = gated g v := by
  obtain ⟨x, rfl⟩ := hg
  unfold gated
  have e1 : (x : EReal) * ((root : EReal) + ((root * cube : ℝ) : EReal) * ((x : EReal) * (x : EReal)))
      = ((root * (x + cube * (x * x * x)) : ℝ) : EReal) := by
    simp only [← EReal.coe_mul, ← EReal.coe_add]; congr 1; ring
  have e2 : (root : EReal) * ((x : EReal) + (cube : EReal) * ((x : EReal) * x * x)) = ((root * (x + cube * (x * x * x)) : ℝ) : EReal) := by
    simp only [← EReal.coe_mul, ← EReal.coe_add]
  rw [e1, e2, Ideal.tanh_coe, ← EReal.coe_one]
  simp only [← EReal.coe_mul, ← EReal.coe_add]
  congr 2
  ring

/-- Column `j` of one of the two halves. -/
def half (a : Fin 2) (j : Fin 3072) : Fin 6144 := ⟨a.val * 3072 + j.val, by omega⟩

end Step

namespace Cert.FfnFwdIdeal.Val

open Cert.FfnFwdIdeal Cert.FfnFwdIdeal.Gen Step

/-! ## The kernel's tile -/

/-- The element `s` rows back in a tile whose eight rows before it are `p`. -/
def tileBack (s : ℕ) (x : FVec Ideal S512x768 .f32) (p : FVec Ideal S8x768 .f32) (r : Fin 512) (j : Fin 768) : EReal :=
  if r.val < s then p (ix2 (⟨(r.val + 8 - s) % 8, Nat.mod_lt _ (by decide)⟩ : Fin 8) j) else x (ix2 (⟨r.val - s, by omega⟩ : Fin 512) j)

/-- A tile moved down `s` rows by a rotation, its first rows taken from the rotated rows before it. -/
theorem moved_apply (s : ℕ) (sb : BitVec 32) (hsb : sb.toNat = s) (hs : s < 8)
    (hw : ∀ r : Fin 8, IntOp.cmpi .slt (BitVec.ofNat 32 r.val) sb = if r.val < s then 1#1 else 0#1)
    (x : FVec Ideal S512x768 .f32) (p : FVec Ideal S8x768 .f32) (r : Fin 512) (j : Fin 768) :
    concatenate S512x768 0 [⟨S8x768, select (cmpi .slt (iota .tc S8x768 32 [0] iota_S8x768_d0_w32) (broadcast S8x768 sb))
        (dynamicRotate 0 sb none p rotates_S8x768_d0) (extractStridedSlice S8x768 ![0, 0] (dynamicRotate 0 sb none x rotates_S512x768_d0) slices_S512x768_o0_0_S8x768)⟩,
      ⟨S504x768, extractStridedSlice S504x768 ![8, 0] (dynamicRotate 0 sb none x rotates_S512x768_d0) slices_S512x768_o8_0_S504x768⟩]
      concatenates_S8x768_S504x768_S512x768_d0 (ix2 r j) = tileBack s x p r j := by
  have hr := r.isLt
  have hx : ∀ hs' : s ≤ r.val, dynamicRotate 0 sb none x rotates_S512x768_d0 (ix2 r j) = x (ix2 (⟨r.val - s, by omega⟩ : Fin 512) j) := fun hs' =>
    dynamicRotate_apply 0 sb x rotates_S512x768_d0 (ix2 r j) _ fun
      | 0 => by
        rw [if_pos rfl, hsb]
        show r.val - s = (r.val + 512 - s % 512) % 512
        omega
      | 1 => by rw [if_neg (by decide)]; rfl
  unfold tileBack
  by_cases h8 : r.val < 8
  · refine (concatenate_pair_apply_left 0 _ _ concatenates_S8x768_S504x768_S512x768_d0 (ix2 r j) rfl (ix2 (⟨r.val, h8⟩ : Fin 8) j) (fun | 0 => rfl | 1 => rfl)).trans ?_
    rw [ValueIdx.select_apply, cmpi_apply, iota_single_apply]
    have e := hw ⟨r.val, h8⟩
    refine (congrArg (fun z => Scalar.select z _ _) e).trans ?_
    by_cases hlt : r.val < s
    · rw [if_pos hlt, if_pos hlt]
      exact dynamicRotate_apply 0 sb p rotates_S8x768_d0 _ _ fun
        | 0 => by
          rw [if_pos rfl, hsb]
          show (r.val + 8 - s) % 8 = (r.val + 8 - s % 8) % 8
          rw [Nat.mod_eq_of_lt hs]
        | 1 => by rw [if_neg (by decide)]; rfl
    · rw [if_neg hlt, if_neg hlt]
      exact (extractStridedSlice_apply _ _ slices_S512x768_o0_0_S8x768 _ (ix2 r j) (fun | 0 => (Nat.zero_add _).symm | 1 => (Nat.zero_add _).symm)).trans (hx (by omega))
  · rw [if_neg (show ¬ r.val < s by omega)]
    refine (concatenate_pair_apply_right 0 _ _ concatenates_S8x768_S504x768_S512x768_d0 (ix2 r j) rfl rfl (ix2 (⟨r.val - 8, by omega⟩ : Fin 504) j)
      (fun | 0 => fun h => absurd rfl h | 1 => fun _ => rfl) (show r.val - 8 + 8 = r.val by omega)).trans ?_
    exact (extractStridedSlice_apply _ _ slices_S512x768_o8_0_S504x768 (ix2 (⟨r.val - 8, by omega⟩ : Fin 504) j) (ix2 r j) (fun | 0 => (show r.val = 8 + (r.val - 8) by omega) | 1 => (Nat.zero_add _).symm)).trans (hx (by omega))

/-- The kernel's convolution of a tile at an element. -/
theorem conv_apply (x : FVec Ideal S512x768 .f32) (p : FVec Ideal S8x768 .f32) (k : Vec Ideal S3x768 .f32) (b : Vec Ideal S1x768 .f32) (r : Fin 512) (j : Fin 768) :
    conv x p k b (ix2 r j) = ((b (ix2 0 j) + k (ix2 2 j) * x (ix2 r j)) + k (ix2 0 j) * tileBack 2 x p r j) + k (ix2 1 j) * tileBack 1 x p r j := by
  rw [← moved_apply 2 2#32 rfl (by decide) (by decide) x p r j, ← moved_apply 1 1#32 rfl (by decide) (by decide) x p r j]
  unfold conv k0_pay10
  dsimp only
  generalize concatenate S512x768 0 [⟨S8x768, select (cmpi .slt (iota .tc S8x768 32 [0] iota_S8x768_d0_w32) (broadcast S8x768 2#32)) _ _⟩, _] _ = y2
  generalize concatenate S512x768 0 [⟨S8x768, select (cmpi .slt (iota .tc S8x768 32 [0] iota_S8x768_d0_w32) (broadcast S8x768 1#32)) _ _⟩, _] _ = y1
  pointwise []

/-- A tile of the product at an element. -/
theorem pay4_apply (x : Vec Ideal S512x1024 .bf16) (w : Vec Ideal S1x1024x768 .bf16) (r : Fin 512) (j : Fin 768) :
    k0_pay4 x w (ix2 r j) = ∑ k : Fin 1024, x (ix2 r k) * w (ix3 0 k j) := by
  pointwise [k0_pay4, k0_pay3]

/-- The rows a tile saves are its last eight. -/
theorem last_rows (x : FVec Ideal S512x768 .f32) (r : Fin 8) (j : Fin 768) :
    k0_pay8 (k0_pay17 x) (ix2 r j) = x (ix2 (⟨504 + r.val, by omega⟩ : Fin 512) j) := by
  pointwise [k0_pay8, k0_pay17]

/-- The gated product at an element. -/
theorem act_apply (g v : FVec Ideal S512x768 .f32) (y : S512x768.Idx) (hg : IsReal (g y)) : k0_pay1 g v y = gated (g y) (v y) := by
  rw [← gated_eq (v y) hg]
  have n1 : Named.named (F := Ideal) κ "gelu_c1" (φ := .f32) 0x3D122279#32 = ((root * cube : ℝ) : EReal) := by
    refine (rfl : _ = (((80338380498831 / 2251799813685248 : ℝ)) : EReal)).trans (congrArg _ ?_)
    unfold root cube
    norm_num
  pointwise [k0_pay1]
  rw [n1, word_half, word_root]

end Cert.FfnFwdIdeal.Val
end
-- ==== Proof.FfnArray.lean ====
/-
  The three result arrays of the feed-forward's forward call after the run: the up-projection before the convolution, after
  it, and the gated activation.
-/
module

public import proofs.«01_k».proof.Proof.FfnRows
public import Idealize.ShloMosaic.Lib.Pointwise.Blocks
public import Idealize.ShloMosaic.Lib.Pipeline.ValueKit

@[expose] public section

set_option maxRecDepth 16384

noncomputable section

open Idealize.ShloMosaic Idealize.ShloMosaic.TcCoe Idealize.SL.Sem

namespace Cert.FfnFwdIdeal.Val

open Cert.FfnFwdIdeal Cert.FfnFwdIdeal.Gen Step
open Idealize.ShloMosaic.Pipeline (Dat)

variable (m : (ℓ : Loc nD τ sig) → Buf (Elt Ideal) ℓ)

/-- The windows' block indices. -/
theorem idx : ∀ t : Fin cfg0.N, win0_0.index t = ![t.val / 4, 0] ∧ win0_1.index t = ![0, 0, 0] ∧ win0_2.index t = ![0, t.val % 4]
    ∧ win0_3.index t = ![0, 4 + t.val % 4] ∧ win0_4.index t = ![0, t.val % 4] ∧ win0_5.index t = ![0, 4 + t.val % 4]
    ∧ win0_6.index t = ![0, t.val / 4, t.val % 4] ∧ win0_7.index t = ![0, t.val / 4, t.val % 4] ∧ win0_8.index t = ![t.val / 4, t.val % 4] :=
  (by decide +kernel : ∀ t : Fin grid0.N, _)

/-- The argument arrays as extended reals. -/
abbrev aH (c : Dev nD) : Vec Ideal S4096x1024 .f32 := m ((c : Thread nD τ).loc main_arg0)
abbrev aU (c : Dev nD) : Vec Ideal S1024x6144 .f32 := m ((c : Thread nD τ).loc main_arg1)
abbrev aK (c : Dev nD) : Vec Ideal S3x6144 .f32 := m ((c : Thread nD τ).loc main_arg2)
abbrev aB (c : Dev nD) : Vec Ideal S1x6144 .f32 := m ((c : Thread nD τ).loc main_arg3)

/-- Row `r` of a point's tile, -/
def row (t : Fin cfg0.N) (r : Fin 512) : Fin 4096 := ⟨t.val / 4 * 512 + r.val, by have := lt32 t; omega⟩

/-- column `j` of its gate -/
def colG (t : Fin cfg0.N) (j : Fin 768) : Fin 6144 := ⟨t.val % 4 * 768 + j.val, by omega⟩

/-- and of its value. -/
def colV (t : Fin cfg0.N) (j : Fin 768) : Fin 6144 := ⟨(4 + t.val % 4) * 768 + j.val, by omega⟩

/-- The tile before has the same columns. -/
theorem colG_prev (t : Fin cfg0.N) (h : 4 ≤ t.val) (j : Fin 768) : colG (prevT t) j = colG t j :=
  Fin.ext (by show (t.val - 4) % 4 * 768 + j.val = t.val % 4 * 768 + j.val; omega)

theorem colV_prev (t : Fin cfg0.N) (h : 4 ≤ t.val) (j : Fin 768) : colV (prevT t) j = colV t j :=
  Fin.ext (by show (4 + (t.val - 4) % 4) * 768 + j.val = (4 + t.val % 4) * 768 + j.val; omega)

/-- A column of the up-projection. -/
def xCol (c : Dev nD) (j : Fin 6144) (i : Fin 4096) : EReal := ∑ k : Fin 1024, aH m c (ix2 i k) * aU m c (ix2 k j)

/-- A column of it after the convolution. -/
def uCol (c : Dev nD) (j : Fin 6144) : Fin 4096 → EReal := causal (xCol m c j) (fun i => aK m c (ix2 i j)) (aB m c (ix2 0 j))

theorem blk0 (c : Dev nD) (t : Fin cfg0.N) (r : Fin 512) (k : Fin 1024) :
    (iblk m c 0 t : Vec Ideal S512x1024 .bf16) (ix2 r k) = aH m c (ix2 (row t r) k) := by
  blk_simp [iblk]
  entry_read
  pointwise
  blk_ext [idx t, row]

theorem blk1 (c : Dev nD) (t : Fin cfg0.N) (a : Fin 8) (k : Fin 1024) (j : Fin 768) (j' : Fin 6144) (h : j'.val = a.val * 768 + j.val) :
    (iblk m c 1 t : Vec Ideal S8x1024x768 .bf16) (ix3 a k j) = aU m c (ix2 k j') := by
  blk_simp [iblk]
  entry_read
  pointwise
  have he : ((View.whole main_v2).slice (win0_1.rect t)).emb (ix3 a k j) = ix3 a k j := by blk_ext [idx t]
  simp only [he]
  exact congrArg (fun j => aU m c (ix2 k j)) (Fin.ext h.symm)

theorem blk2 (c : Dev nD) (t : Fin cfg0.N) (i : Fin 3) (j : Fin 768) :
    (iblk m c 2 t : Vec Ideal S3x768 .f32) (ix2 i j) = aK m c (ix2 i (colG t j)) := by
  blk_ext [iblk, V, idx t, colG]

theorem blk3 (c : Dev nD) (t : Fin cfg0.N) (i : Fin 3) (j : Fin 768) :
    (iblk m c 3 t : Vec Ideal S3x768 .f32) (ix2 i j) = aK m c (ix2 i (colV t j)) := by
  blk_ext [iblk, V, idx t, colV]

theorem blk4 (c : Dev nD) (t : Fin cfg0.N) (j : Fin 768) :
    (iblk m c 4 t : Vec Ideal S1x768 .f32) (ix2 0 j) = aB m c (ix2 0 (colG t j)) := by
  blk_ext [iblk, V, idx t, colG]

theorem blk5 (c : Dev nD) (t : Fin cfg0.N) (j : Fin 768) :
    (iblk m c 5 t : Vec Ideal S1x768 .f32) (ix2 0 j) = aB m c (ix2 0 (colV t j)) := by
  blk_ext [iblk, V, idx t, colV]

theorem off2_eq (i : grid0.Coords) : k0_off2 i = ![(i 1).val, 0, 0] := by
  have h : (i 1).val < 4 := (i 1).isLt
  show ![(BitVec.ofNat 32 (i 1).val).toNat, 0, 0] = _
  rw [BitVec.toNat_ofNat, Nat.mod_eq_of_lt (by omega)]

theorem off3_eq (i : grid0.Coords) : k0_off3 i = ![4 + (i 1).val, 0, 0] := by
  have h : (i 1).val < 4 := (i 1).isLt
  show ![(4#32 + BitVec.ofNat 32 (i 1).val).toNat, 0, 0] = _
  rw [BitVec.toNat_add, BitVec.toNat_ofNat, BitVec.toNat_ofNat, Nat.mod_eq_of_lt (a := (i 1).val) (by omega), Nat.mod_eq_of_lt (by omega)]

/-- One of the eight column blocks of the up-projection's weight. -/
theorem ld_w (x : Vec Ideal S8x1024x768 .bf16) (off : Fin 3 → ℕ) (inb : ∀ a, off a + S1x1024x768.size a ≤ S8x1024x768.size a) (a : Fin 8)
    (h : off = ![a.val, 0, 0]) (k : Fin 1024) (j : Fin 768) :
    View.ld x (Rect.unit off S1x1024x768.size inb) (ix3 0 k j) = x (ix3 a k j) := by
  subst h
  refine congrArg x (funext fun b => Fin.ext ?_)
  match b with
  | 0 => rfl
  | 1 => show 0 + 1 * k.val = k.val; omega
  | 2 => show 0 + 1 * j.val = j.val; omega

theorem XG_apply (c : Dev nD) (t : Fin cfg0.N) (r : Fin 512) (j : Fin 768) : XG m c t (ix2 r j) = xCol m c (colG t j) (row t r) := by
  have hc := coord1 t
  refine (pay4_apply _ _ r j).trans (Finset.sum_congr rfl fun k _ => ?_)
  rw [blk0]
  refine congrArg _ ((ld_w _ _ _ ⟨t.val % 4, by omega⟩ (by rw [off2_eq, hc]) k j).trans (blk1 m c t _ k j (colG t j) rfl))

theorem XV_apply (c : Dev nD) (t : Fin cfg0.N) (r : Fin 512) (j : Fin 768) : XV m c t (ix2 r j) = xCol m c (colV t j) (row t r) := by
  have hc := coord1 t
  refine (pay4_apply _ _ r j).trans (Finset.sum_congr rfl fun k _ => ?_)
  rw [blk0]
  refine congrArg _ ((ld_w _ _ _ ⟨4 + t.val % 4, by omega⟩ (by rw [off3_eq, hc]) k j).trans (blk1 m c t _ k j (colV t j) rfl))

/-- Rows back in a tile are rows back in the column: its first rows are the last rows of the tile before. -/
theorem tileBack_eq (X : Fin 4096 → EReal) (t : Fin cfg0.N) (x y : FVec Ideal S512x768 .f32) (j : Fin 768)
    (hx : ∀ r, x (ix2 r j) = X (row t r)) (hy : 4 ≤ t.val → ∀ r, y (ix2 r j) = X (row (prevT t) r)) (s : ℕ) (hs : s ≤ 8) (r : Fin 512) :
    tileBack s x (before (grid0.coords t) (k0_pay17 y)) r j = back s X (row t r) := by
  have ht := lt32 t
  have hp : (prevT t).val = t.val - 4 := rfl
  have hv : (row t r).val = t.val / 4 * 512 + r.val := rfl
  unfold tileBack back
  by_cases hr : r.val < s
  · rw [if_pos hr]
    unfold before
    by_cases h4 : t.val < 4
    · rw [if_pos ((cond_iff t).mpr h4), if_neg (by omega)]
      exact Ideal.ofBits_zero .f32
    · rw [if_neg fun h => h4 ((cond_iff t).mp h), if_pos (by omega)]
      refine (last_rows y _ j).trans ((hy (by omega) _).trans (congrArg X (Fin.ext ?_)))
      show (prevT t).val / 4 * 512 + (504 + (r.val + 8 - s) % 8) = (row t r).val - s
      omega
  · rw [if_neg hr, if_pos (by omega), hx]
    refine congrArg X (Fin.ext ?_)
    show t.val / 4 * 512 + (r.val - s) = (row t r).val - s
    omega

/-- A point's convolution is the column's, at the tile's rows. -/
theorem conv_eq (X : Fin 4096 → EReal) (K : Fin 3 → EReal) (B : EReal) (t : Fin cfg0.N) (x y : FVec Ideal S512x768 .f32) (k : Vec Ideal S3x768 .f32)
    (b : Vec Ideal S1x768 .f32) (j : Fin 768) (hx : ∀ r, x (ix2 r j) = X (row t r)) (hy : 4 ≤ t.val → ∀ r, y (ix2 r j) = X (row (prevT t) r))
    (hk : ∀ i, k (ix2 i j) = K i) (hb : b (ix2 0 j) = B) (r : Fin 512) :
    conv x (before (grid0.coords t) (k0_pay17 y)) k b (ix2 r j) = causal X K B (row t r) := by
  rw [conv_apply, tileBack_eq X t x y j hx hy 2 (by decide), tileBack_eq X t x y j hx hy 1 (by decide), hx, hk, hk, hk, hb]
  unfold causal
  rw [mul_comm (K 0), mul_comm (K 1), mul_comm (K 2)]
  ac_rfl

theorem UG_apply (c : Dev nD) (t : Fin cfg0.N) (r : Fin 512) (j : Fin 768) : UG m c t (ix2 r j) = uCol m c (colG t j) (row t r) :=
  conv_eq _ _ _ t _ _ _ _ j (fun r => XG_apply m c t r j)
    (fun h r => (XG_apply m c (prevT t) r j).trans (congrArg (xCol m c · _) (colG_prev t h j))) (fun i => blk2 m c t i j) (blk4 m c t j) r

theorem UV_apply (c : Dev nD) (t : Fin cfg0.N) (r : Fin 512) (j : Fin 768) : UV m c t (ix2 r j) = uCol m c (colV t j) (row t r) :=
  conv_eq _ _ _ t _ _ _ _ j (fun r => XV_apply m c t r j)
    (fun h r => (XV_apply m c (prevT t) r j).trans (congrArg (xCol m c · _) (colV_prev t h j))) (fun i => blk3 m c t i j) (blk5 m c t j) r

/-- Column `j` of a point's tile, within its half. -/
def col (t : Fin cfg0.N) (j : Fin 768) : Fin 3072 := ⟨t.val % 4 * 768 + j.val, by omega⟩

/-- Two stacked tiles at an element, of two arrays of columns. -/
theorem pair_eq {e : EltTy} (Z : Fin 6144 → Fin 4096 → Elt Ideal e) (t : Fin cfg0.N) (x y : S512x768.Idx → Elt Ideal e) (r : Fin 512) (j : Fin 768)
    (hx : x (ix2 r j) = Z (colG t j) (row t r)) (hy : y (ix2 r j) = Z (colV t j) (row t r)) (a : Fin 2) :
    pair x y (ix3 a r j) = Z (half a (col t j)) (row t r) := by
  match a with
  | 0 =>
    refine (if_pos (show ((ix3 (0 : Fin 2) r j : S2x512x768.Idx) 0).val = 0 from rfl) : pair x y (ix3 0 r j) = _).trans ((congrArg x ?_).trans (hx.trans (congrArg (Z · _) (Fin.ext ?_))))
    · exact funext fun | 0 => rfl | 1 => rfl
    show t.val % 4 * 768 + j.val = 0 * 3072 + (t.val % 4 * 768 + j.val)
    omega
  | 1 =>
    refine (if_neg (show ¬ ((ix3 (1 : Fin 2) r j : S2x512x768.Idx) 0).val = 0 from Nat.one_ne_zero) : pair x y (ix3 1 r j) = _).trans ((congrArg y ?_).trans (hy.trans (congrArg (Z · _) (Fin.ext ?_))))
    · exact funext fun | 0 => rfl | 1 => rfl
    show (4 + t.val % 4) * 768 + j.val = 1 * 3072 + (t.val % 4 * 768 + j.val)
    omega

/-- The up-projection after the run, its halves stacked, -/
theorem final6 (c : Dev nD) : (dats m 0 c).arrAt 6 cfg0.N = (fun i => xCol m c (half (i 0) (i 2)) (i 1) : Vec Ideal S2x4096x3072 .bf16) := by
  refine (dats m 0 c).arrAt_eq_of_covers 6 _ (by decide +kernel) fun t _ y => ?_
  blk_simp
  rw [after_6]
  obtain ⟨a, r, j, rfl⟩ : ∃ a r j, y = ix3 (n0 := 2) (n1 := 512) (n2 := 768) a r j := ⟨y 0, y 1, y 2, eq_ix3 y⟩
  have he : (win0_6.blk t).view.emb (ix3 a r j) = ix3 a (row t r) (col t j) := by blk_ext [idx t, row, col]
  rw [he]
  exact pair_eq (e := .bf16) (xCol m c) t _ _ r j (XG_apply m c t r j) (XV_apply m c t r j) a

/-- after the convolution, -/
theorem final7 (c : Dev nD) : (dats m 0 c).arrAt 7 cfg0.N = (fun i => uCol m c (half (i 0) (i 2)) (i 1) : Vec Ideal S2x4096x3072 .f32) := by
  refine (dats m 0 c).arrAt_eq_of_covers 7 _ (by decide +kernel) fun t _ y => ?_
  blk_simp
  rw [after_7]
  obtain ⟨a, r, j, rfl⟩ : ∃ a r j, y = ix3 (n0 := 2) (n1 := 512) (n2 := 768) a r j := ⟨y 0, y 1, y 2, eq_ix3 y⟩
  have he : (win0_7.blk t).view.emb (ix3 a r j) = ix3 a (row t r) (col t j) := by blk_ext [idx t, row, col]
  rw [he]
  exact pair_eq (e := .f32) (uCol m c) t _ _ r j (UG_apply m c t r j) (UV_apply m c t r j) a

/-- and the gated activation of real arguments. -/
theorem final8 (c : Dev nD) (hu : ∀ j i, IsReal (uCol m c j i)) :
    (dats m 0 c).arrAt 8 cfg0.N = (fun i => gated (uCol m c (half 0 (i 1)) (i 0)) (uCol m c (half 1 (i 1)) (i 0)) : Vec Ideal S4096x3072 .bf16) := by
  refine (dats m 0 c).arrAt_eq_of_covers 8 _ (by decide +kernel) fun t _ y => ?_
  blk_simp
  rw [after_8]
  obtain ⟨r, j, rfl⟩ : ∃ r j, y = ix2 (n0 := 512) (n1 := 768) r j := ⟨y 0, y 1, eq_ix2 y⟩
  have he : (win0_8.blk t).view.emb (ix2 r j) = ix2 (row t r) (col t j) := by blk_ext [idx t, row, col]
  rw [he]
  have hg := UG_apply m c t r j
  refine (act_apply _ _ _ (hg ▸ hu _ _)).trans ?_
  rw [hg, UV_apply m c t r j]
  have e0 : colG t j = half 0 (col t j) := Fin.ext (by show t.val % 4 * 768 + j.val = 0 * 3072 + (t.val % 4 * 768 + j.val); omega)
  have e1 : colV t j = half 1 (col t j) := Fin.ext (by show (4 + t.val % 4) * 768 + j.val = 1 * 3072 + (t.val % 4 * 768 + j.val); omega)
  rw [e0, e1]
  rfl

end Cert.FfnFwdIdeal.Val
end
-- ==== Proof.FfnRef.lean ====
/-
  What the reference of the feed-forward's forward call computes: the product, its causal convolution by a padded array
  sliced three times, and the GELU of one half times the other.
-/
module

public import proofs.«01_k».proof.Proof.FfnRows
public import proofs.«01_k».proof.Proof.Gen.FfnFwdRefIdeal.Run
public import proofs.«01_k».proof.Proof.Gen.FfnFwdRefIdeal.Read

@[expose] public section

set_option maxRecDepth 16384
noncomputable section

open Idealize.ShloMosaic Idealize.ShloMosaic.TcCoe Idealize.SL.Sem

namespace Cert.FfnFwdRefIdeal.Val

open Cert.FfnFwdRefIdeal Cert.FfnFwdRefIdeal.Gen Cert.FfnFwdRefIdeal.Read Step

variable (x0 : Vec Ideal S4096x1024 .f32) (x1 : Vec Ideal S1024x6144 .f32) (x2 : Vec Ideal S3x6144 .f32) (x3 : Vec Ideal S1x6144 .f32)

/-- A column of the product, -/
def xc (j : Fin 6144) (i : Fin 4096) : EReal := ∑ k : Fin 1024, x0 (ix2 i k) * x1 (ix2 k j)

/-- and of its convolution. -/
def uc (j : Fin 6144) : Fin 4096 → EReal := causal (xc x0 x1 j) (fun i => x2 (ix2 i j)) (x3 (ix2 0 j))

theorem v0_eq (i : Fin 4096) (j : Fin 6144) : val_main_v0 (F := Ideal) x0 x1 (ix2 i j) = xc x0 x1 j i := by
  pointwise [val_main_v0]
  rfl

/-- The padded product: two rows of zeros, then the product. -/
theorem v1_eq (i : Fin 4098) (j : Fin 6144) : val_main_v1 (F := Ideal) x0 x1 (ix2 i j) = if h : 2 ≤ i.val then xc x0 x1 j ⟨i.val - 2, by omega⟩ else 0 := by
  unfold val_main_v1
  by_cases h : 2 ≤ i.val
  · rw [dif_pos h]
    exact (pad_apply_of_inside ![2, 0] ![0, 0] ![0, 0] _ _ pads_S4096x6144_S4098x6144_200_000 h_S_ (ix2 i j) (ix2 (⟨i.val - 2, by omega⟩ : Fin 4096) j)
      (fun | 0 => (show i.val = 2 + (i.val - 2) * 1 by omega) | 1 => (show j.val = 0 + j.val * 1 by omega))).trans (v0_eq x0 x1 _ j)
  · rw [dif_neg h]
    refine (pad_apply_of_not_inside (s := S4096x6144) (t := S4098x6144) ![2, 0] ![0, 0] ![0, 0] _ _ pads_S4096x6144_S4098x6144_200_000 h_S_ (ix2 i j) 0 fun hin => h (show 2 ≤ i.val from hin.1)).trans ?_
    show ((((0#32 : BitVec 32).toInt : ℝ)) : EReal) = 0
    simp

/-- A slice of the padded product is the product some rows back. -/
theorem back_of (s : ℕ) (i : Fin 4096) (j : Fin 6144) (hs : s ≤ 2) (y : S4098x6144.Idx) (h0 : (y 0).val = i.val + (2 - s)) (h1 : (y 1).val = j.val) :
    val_main_v1 (F := Ideal) x0 x1 y = back s (xc x0 x1 j) i := by
  have hy : y = ix2 (⟨i.val + (2 - s), by omega⟩ : Fin 4098) j := funext fun | 0 => Fin.ext h0 | 1 => Fin.ext h1
  rw [hy, v1_eq]
  unfold back
  by_cases h : s ≤ i.val
  · rw [if_pos h, dif_pos (by show 2 ≤ i.val + (2 - s); omega)]
    exact congrArg _ (Fin.ext (by show i.val + (2 - s) - 2 = i.val - s; omega))
  · rw [if_neg h, dif_neg (by show ¬ 2 ≤ i.val + (2 - s); omega)]

theorem v23_eq (i : Fin 4096) (j : Fin 6144) : val_main_v23 (F := Ideal) x0 x1 x2 x3 (ix2 i j) = uc x0 x1 x2 x3 j i := by
  have e2 := back_of x0 x1 2 i j (by decide) (idx_main_v2 (ix2 i j)) rfl rfl
  have e8 := back_of x0 x1 1 i j (by decide) (idx_main_v8 (ix2 i j)) (Nat.add_comm _ _) rfl
  have e15 := back_of x0 x1 0 i j (by decide) (idx_main_v15 (ix2 i j)) (Nat.add_comm _ _) rfl
  rw [← val_main_v2_apply] at e2
  rw [← val_main_v8_apply] at e8
  rw [← val_main_v15_apply] at e15
  pointwise [val_main_v3, val_main_v4, val_main_v5, val_main_v6, val_main_v7, val_main_v9, val_main_v10, val_main_v11, val_main_v12, val_main_v13,
    val_main_v14, val_main_v16, val_main_v17, val_main_v18, val_main_v19, val_main_v20, val_main_v21, val_main_v22, val_main_v23]
  rw [e2, e8, e15]
  rfl

/-- The stack of the two halves of an array of columns. -/
theorem stack_eq (y z : Vec Ideal S1x4096x3072 .f32) (a : Fin 2) (i : Fin 4096) (j : Fin 3072) :
    (concatenate S2x4096x3072 0 [⟨S1x4096x3072, y⟩, ⟨S1x4096x3072, z⟩] concatenates_S1x4096x3072_S1x4096x3072_S2x4096x3072_d0 : Vec Ideal S2x4096x3072 .f32) (ix3 a i j)
      = if a = 0 then y (ix3 0 i j) else z (ix3 0 i j) := by
  match a with
  | 0 => exact concatenate_pair_apply_left 0 _ _ concatenates_S1x4096x3072_S1x4096x3072_S2x4096x3072_d0 (ix3 0 i j) rfl (ix3 0 i j) (fun | 0 => rfl | 1 => rfl | 2 => rfl)
  | 1 => exact (concatenate_pair_apply_right 0 _ _ concatenates_S1x4096x3072_S1x4096x3072_S2x4096x3072_d0 (ix3 1 i j) rfl rfl (ix3 0 i j)
      (fun | 0 => fun h => absurd rfl h | 1 => fun _ => rfl | 2 => fun _ => rfl) rfl).trans (if_neg (by decide)).symm

theorem half0 (i : Fin 4096) (j : Fin 3072) (y : S4096x6144.Idx) (h0 : (y 0).val = i.val) (h1 : (y 1).val = j.val) : y = ix2 i (half 0 j) :=
  funext fun | 0 => Fin.ext h0 | 1 => Fin.ext (h1.trans (by show j.val = 0 * 3072 + j.val; omega))

theorem half1 (i : Fin 4096) (j : Fin 3072) (y : S4096x6144.Idx) (h0 : (y 0).val = i.val) (h1 : (y 1).val = 3072 + j.val) : y = ix2 i (half 1 j) :=
  funext fun | 0 => Fin.ext h0 | 1 => Fin.ext (h1.trans (by show 3072 + j.val = 1 * 3072 + j.val; omega))

theorem v45_eq (a : Fin 2) (i : Fin 4096) (j : Fin 3072) : val_main_v45 (F := Ideal) x0 x1 (ix3 a i j) = xc x0 x1 (half a j) i := by
  refine (stack_eq _ _ a i j).trans ?_
  match a with
  | 0 => rw [if_pos rfl, val_main_v42_apply, val_main_v40_apply]; exact (congrArg (val_main_v0 (F := Ideal) x0 x1) (half0 i j _ rfl rfl)).trans (v0_eq x0 x1 i _)
  | 1 => rw [if_neg (by decide), val_main_v43_apply, val_main_v41_apply]; exact (congrArg (val_main_v0 (F := Ideal) x0 x1) (half1 i j _ rfl rfl)).trans (v0_eq x0 x1 i _)

theorem v50_eq (a : Fin 2) (i : Fin 4096) (j : Fin 3072) : val_main_v50 (F := Ideal) x0 x1 x2 x3 (ix3 a i j) = uc x0 x1 x2 x3 (half a j) i := by
  refine (stack_eq _ _ a i j).trans ?_
  match a with
  | 0 => rw [if_pos rfl, val_main_v48_apply, val_main_v46_apply]; exact (congrArg (val_main_v23 (F := Ideal) x0 x1 x2 x3) (half0 i j _ rfl rfl)).trans (v23_eq x0 x1 x2 x3 i _)
  | 1 => rw [if_neg (by decide), val_main_v49_apply, val_main_v47_apply]; exact (congrArg (val_main_v23 (F := Ideal) x0 x1 x2 x3) (half1 i j _ rfl rfl)).trans (v23_eq x0 x1 x2 x3 i _)

theorem v51_eq (i : Fin 4096) (j : Fin 3072) :
    val_main_v51 (F := Ideal) x0 x1 x2 x3 (ix2 i j) = gated (uc x0 x1 x2 x3 (half 0 j) i) (uc x0 x1 x2 x3 (half 1 j) i) := by
  have e24 : val_main_v24 (F := Ideal) x0 x1 x2 x3 (ix2 i j) = uc x0 x1 x2 x3 (half 0 j) i := by
    rw [val_main_v24_apply]; exact (congrArg (val_main_v23 (F := Ideal) x0 x1 x2 x3) (half0 i j _ rfl rfl)).trans (v23_eq x0 x1 x2 x3 i _)
  have e25 : val_main_v25 (F := Ideal) x0 x1 x2 x3 (ix2 i j) = uc x0 x1 x2 x3 (half 1 j) i := by
    rw [val_main_v25_apply]; exact (congrArg (val_main_v23 (F := Ideal) x0 x1 x2 x3) (half1 i j _ rfl rfl)).trans (v23_eq x0 x1 x2 x3 i _)
  rw [← e24, ← e25]
  pointwise [val_main_v26, val_main_v27, val_main_cst, val_main_v28, val_main_v29, val_main_v30, val_main_cst_0, val_main_v31, val_main_v32,
    val_main_v33, val_main_cst_1, val_main_v34, val_main_v35, val_main_cst_2, val_main_v36, val_main_v37, val_main_v38, val_main_v39, val_main_v51]
  rw [word_half, word_root, word_cube, gated]

end Cert.FfnFwdRefIdeal.Val
end
-- ==== Proof.FfnProof.lean ====
/-
  The claims on `ffn_fwd`: of finite arguments kernel and reference compute the same up-projection, the same convolution and
  the same gated activation.
-/
module

public import proofs.«01_k».proof.Defs
public import proofs.«01_k».proof.Proof.FfnArray
public import proofs.«01_k».proof.Proof.FfnRef
public import proofs.«01_k».proof.Proof.Gen.FfnFwd
public import proofs.«01_k».proof.Proof.Gen.Pre_ffn_finite

@[expose] public section

noncomputable section

open Idealize.ShloMosaic Idealize.ShloMosaic.TcCoe Idealize.SL.Sem

namespace Cert.FfnFwdIdeal.Val

open Cert.FfnFwdIdeal Cert.FfnFwdIdeal.Gen Step

variable (m : (ℓ : Loc nD τ sig) → Buf (Elt Ideal) ℓ)

/-- What the run leaves: the three results, and the arguments as they were. -/
theorem run_blocks (g : Dev nD → PrngReg) : θ_run defs (onTc (τ := τ) (main (F := Ideal))) ⟨m, fun _ => 0, g⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.1 c).1 6, (h.1.1 c).1 7, (h.1.1 c).1 8, h.2.1 c⟩) (θ_run_and (run_quiescent m g) (frame m g))

/-- The precondition: every element of the four arguments is a real number, -/
theorem reals (h : Cert.Pre_FfnFwdIdeal_ffn_finite m) (c : Dev nD) :
    (∀ i, IsReal (aH m c i)) ∧ (∀ i, IsReal (aU m c i)) ∧ (∀ i, IsReal (aK m c i)) ∧ (∀ i, IsReal (aB m c i)) := by
  have e := congrFun (h c) default
  simp only [Cert.Pre_ffn_finite.fn, Cert.Pre_ffn_finite.fn_part1] at e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3⟩

/-- and so is then every element of the convolution. -/
theorem uCol_real (h : Cert.Pre_FfnFwdIdeal_ffn_finite m) (c : Dev nD) (j : Fin 6144) (i : Fin 4096) : IsReal (uCol m c j i) := by
  obtain ⟨r0, r1, r2, r3⟩ := reals m h c
  exact causal_isReal (fun _ => IsReal.sum _ fun _ => (r0 _).mul (r1 _)) (fun _ => r2 _) (r3 _) i

/-- Kernel and reference compute the same three arrays. -/
theorem algebraic : Cert.algebraic_FfnFwdIdeal_FfnFwdRefIdeal_pre_ffn_finite := by
  intro m g m' g' hp hm
  refine ⟨fun c => (dats m 0 c).arrAt 6 cfg0.N, fun c => (dats m 0 c).arrAt 7 cfg0.N, fun c => (dats m 0 c).arrAt 8 cfg0.N, run_blocks m g, ?_⟩
  refine (θ_run Cert.FfnFwdRefIdeal.defs _ _).mono (fun r h c => ?_) (Cert.FfnFwdRefIdeal.Value.run (F := Ideal) m' g')
  obtain ⟨h0, h1, h2, hk⟩ := h c
  obtain ⟨q0, q1, q2, q3⟩ := hm c
  refine ⟨h0.trans (Eq.trans ?_ (final6 m c).symm), h1.trans (Eq.trans ?_ (final7 m c).symm),
    h2.trans (Eq.trans ?_ (final8 m c (uCol_real m hp c)).symm), hk⟩
  · funext i
    obtain ⟨a, b, k, rfl⟩ : ∃ (a : Fin 2) (b : Fin 4096) (k : Fin 3072), i = ix3 a b k := ⟨i 0, i 1, i 2, eq_ix3 i⟩
    rw [Cert.FfnFwdRefIdeal.Read.val_main_v45_eq, q0, q1]
    exact Cert.FfnFwdRefIdeal.Val.v45_eq _ _ a b k
  · funext i
    obtain ⟨a, b, k, rfl⟩ : ∃ (a : Fin 2) (b : Fin 4096) (k : Fin 3072), i = ix3 a b k := ⟨i 0, i 1, i 2, eq_ix3 i⟩
    rw [Cert.FfnFwdRefIdeal.Read.val_main_v50_eq, q0, q1, q2, q3]
    exact Cert.FfnFwdRefIdeal.Val.v50_eq _ _ _ _ a b k
  · funext i
    obtain ⟨a, b, rfl⟩ : ∃ (a : Fin 4096) (b : Fin 3072), i = ix2 a b := ⟨i 0, i 1, eq_ix2 i⟩
    rw [Cert.FfnFwdRefIdeal.Read.val_main_v51_eq, q0, q1, q2, q3]
    exact Cert.FfnFwdRefIdeal.Val.v51_eq _ _ _ _ a b

/-- The reference leaves its arguments as they were; it has no semaphore. -/
theorem frame_ref : Cert.quiescent_FfnFwdRefIdeal := fun m g _ =>
  (θ_run Cert.FfnFwdRefIdeal.defs _ _).mono (fun _ h => ⟨fun c => (h c).2.2.2, sem_eq_zero_of_no_sems (by decide) _⟩)
    (Cert.FfnFwdRefIdeal.Value.run (F := Ideal) m g)

/-- At bits the named constant is the word it stands for, -/
local instance : Named Bits where
  named _ _ {φ} bits := Scalar.ofBits φ bits

/-- so that the two programs' bodies are the same, -/
theorem body_eq : Cert.FfnFwd.defs₀ (F := Bits) = Cert.FfnFwdIdeal.defs₀ (F := Bits) := by
  refine congrArg Defs.onTc (funext fun l => funext fun x => ?_)
  match l, x with
  | 0, (t, s) => rfl

theorem defs_eq : Cert.FfnFwd.defs (F := Bits) = Cert.FfnFwdIdeal.defs (F := Bits) := by
  unfold Cert.FfnFwd.defs
  rw [body_eq]
  rfl

/-- and the kernel's frame with its own arithmetic is the run above. -/
theorem frame_bits : Cert.quiescent_FfnFwd := fun m g _ => by
  rw [defs_eq]
  exact frame (F := Bits) m g

/-- The name stands for what the table says. -/
theorem preserves : Cert.preserves_FfnFwd_FfnFwdIdeal :=
  IdealRules.named_const.statement Cert.FfnFwdIdeal.κ "gelu_c1" .f32 0x3D122279#32 ((80338380498831 / 2251799813685248 : ℝ) : EReal) rfl

/-- Every claim on `ffn_fwd`. -/
theorem claims : Cert.quiescent_FfnFwd ∧ Cert.quiescent_FfnFwdIdeal ∧ Cert.quiescent_FfnFwdIdeal_pre_ffn_finite
    ∧ Cert.quiescent_FfnFwdRefIdeal ∧ Cert.quiescent_FfnFwdRefIdeal_pre_ffn_finite ∧ Cert.preserves_FfnFwd_FfnFwdIdeal
    ∧ Cert.algebraic_FfnFwdIdeal_FfnFwdRefIdeal_pre_ffn_finite :=
  ⟨frame_bits, fun m g _ => frame m g, fun m g _ => frame m g, frame_ref, fun m g _ => frame_ref m g trivial, preserves, algebraic⟩

end Cert.FfnFwdIdeal.Val
end
-- ==== Proof.AdamMath.lean ====
/-
  One AdamW step of one entry, over the extended reals: the new moments and the change of the weight.
-/
module

public import Idealize.ShloMosaic.Lib.Pointwise
public import Idealize.ShloMosaic.Lib.IdealHost

@[expose] public section

noncomputable section

open Idealize.ShloMosaic

namespace Step

/-- A constant of the step: the f32 word's value. -/
abbrev word (b : BitVec 32) : EReal := Scalar.ofBits (F := Ideal) .f32 b

/-- The new first moment, 0.9 m + 0.1 g, -/
def newM (g m : EReal) : EReal := word 0x3F666666#32 * m + word 0x3DCCCCCD#32 * g

/-- the new second moment, 0.999 v + 0.001 g², -/
def newV (g v : EReal) : EReal := word 0x3F7FBE77#32 * v + word 0x3A83126F#32 * (g * g)

/-- and the change of the weight: the moments without their bias, and the weight decay. -/
def delta (w g m v : EReal) : EReal :=
  word 0xBA83126F#32 * (FloatOps.divf (F := Ideal) (φ := .f32) (FloatOps.divf (F := Ideal) (φ := .f32) (newM g m) (word 0x3F26BD02#32))
    (FloatOps.sqrt (F := Ideal) (φ := .f32) (FloatOps.divf (F := Ideal) (φ := .f32) (newV g v) (word 0x3C231ACC#32)) + word 0x322BCC77#32)
      + word 0x3C23D70A#32 * w)

end Step

end
-- ==== Proof.AdamProof.lean ====
/-
  The claims on the AdamW step of the input projection's weight: the whole gradient, the change of the weight and the new
  moments.
-/
module

public import proofs.«01_k».proof.Defs
public import proofs.«01_k».proof.Proof.AdamMath
public import proofs.«01_k».proof.Proof.OnePoint
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import Idealize.ShloMosaic.Lib.Pointwise
public import Idealize.ShloMosaic.Lib.Pointwise.Blocks
public import Idealize.ShloMosaic.Lib.Pipeline.ValueKit

@[expose] public section

set_option maxRecDepth 16384

noncomputable section

open Idealize.ShloMosaic Idealize.ShloMosaic.TcCoe Idealize.SL.Sem

namespace Cert.AdamIdeal.Val

open Cert.AdamIdeal Cert.AdamIdeal.Gen Step
open Idealize.ShloMosaic.Pipeline (Dat)

variable (m : (ℓ : Loc nD τ sig) → Buf (Elt Ideal) ℓ)

/-- The argument arrays as extended reals: the weight, the device's own partial gradient, the received ones, the moments. -/
abbrev aW (c : Dev nD) : Vec Ideal S1x1024x256 .f32 := m ((c : Thread nD τ).loc main_arg0)
abbrev aG (c : Dev nD) : Vec Ideal S1024x256 .f32 := m ((c : Thread nD τ).loc main_arg1)
abbrev aR (c : Dev nD) : Vec Ideal S3x1024x256 .f32 := m ((c : Thread nD τ).loc main_arg2)
abbrev aM (c : Dev nD) : Vec Ideal S1x1024x256 .f32 := m ((c : Thread nD τ).loc main_arg3)
abbrev aV (c : Dev nD) : Vec Ideal S1x1024x256 .f32 := m ((c : Thread nD τ).loc main_arg4)

/-- The whole gradient: the device's own part and the three received. -/
def grad (g : Vec Ideal S1024x256 .f32) (r : Vec Ideal S3x1024x256 .f32) (i : Fin 1024) (k : Fin 256) : EReal :=
  g (ix2 i k) + ∑ q : Fin 3, r (ix3 q i k)

theorem idx : ∀ t : Fin cfg0.N, win0_0.index t = ![0, 0, 0] ∧ win0_1.index t = ![0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] ∧ win0_8.index t = ![0, 0, 0] :=
  (by decide +kernel : ∀ t : Fin grid0.N, _)

theorem blk0 (c : Dev nD) (t : Fin cfg0.N) : (iblk m c 0 t : Vec Ideal S1x1024x256 .f32) = aW m c := by
  funext y
  blk_simp [iblk]
  pointwise
  blk_ext [idx t]

theorem blk1 (c : Dev nD) (t : Fin cfg0.N) : (iblk m c 1 t : Vec Ideal S1024x256 .f32) = aG m c := by
  funext y
  blk_simp [iblk]
  pointwise
  blk_ext [idx t]

theorem blk2 (c : Dev nD) (t : Fin cfg0.N) : (iblk m c 2 t : Vec Ideal S3x1024x256 .bf16) = aR m c := by
  funext y
  blk_simp [iblk]
  entry_read
  pointwise
  blk_ext [idx t]

theorem blk3 (c : Dev nD) (t : Fin cfg0.N) : (iblk m c 3 t : Vec Ideal S1x1024x256 .f32) = aM m c := by
  funext y
  blk_simp [iblk]
  pointwise
  blk_ext [idx t]

theorem blk4 (c : Dev nD) (t : Fin cfg0.N) : (iblk m c 4 t : Vec Ideal S1x1024x256 .f32) = aV m c := by
  funext y
  blk_simp [iblk]
  pointwise
  blk_ext [idx t]

section

variable (w : Vec Ideal S1x1024x256 .f32) (g : Vec Ideal S1024x256 .f32) (r : Vec Ideal S3x1024x256 .bf16)
  (mm v : Vec Ideal S1x1024x256 .f32) (y : S1x1024x256.Idx)

/-- A load of one received gradient, entry by entry. -/
theorem ld_part (q : Fin 3) (inb : ∀ a, (![q.val, 0, 0] : Fin 3 → ℕ) a + S1x1024x256.size a ≤ S3x1024x256.size a) :
    View.ld r (Rect.unit (s := S3x1024x256) ![q.val, 0, 0] S1x1024x256.size inb) y = r (ix3 q (y 1) (y 2)) := by
  refine congrArg r (funext fun a => Fin.ext ?_)
  have h0 : (y 0).val < 1 := (y 0).isLt
  match a with
  | ⟨0, _⟩ => show q.val + 1 * (y 0).val = q.val; omega
  | ⟨1, _⟩ => show 0 + 1 * (y 1).val = (y 1).val; omega
  | ⟨2, _⟩ => show 0 + 1 * (y 2).val = (y 2).val; omega

/-- The kernel's sum of the four parts is the whole gradient. -/
theorem sum_eq : Value.E5 (F := Ideal) (View.ld g r0_0) (View.ld r r0_1) (View.ld r r0_2) (View.ld r r0_3) y = grad g r (y 1) (y 2) := by
  unfold grad
  rw [Fin.sum_univ_three, ← add_assoc, ← add_assoc]
  refine congrArg₂ (· + ·) (congrArg₂ (· + ·) (congrArg₂ (· + ·) ?_ ?_) ?_) ?_
  · refine (congrFun (ld_whole (Val := Elt Ideal) (e := .f32) g inb_S1024x256_S1024x256_0_0) _).trans (congrArg g ?_)
    ext a; fin_cases a <;> rfl
  · exact ld_part r (Value.ix5_1 y) 0 _
  · exact ld_part r (Value.ix5_2 y) 1 _
  · exact ld_part r (Value.ix5_3 y) 2 _

/-- A load of a whole array of the shape of the results, at the index it is asked for. -/
theorem ld_same (x : Vec Ideal S1x1024x256 .f32) : View.ld x r0_4 (Value.ix5_1 y) = x y := by
  refine (congrFun (ld_whole (Val := Elt Ideal) (e := .f32) x inb_S1x1024x256_S1x1024x256_0_0_0) _).trans (congrArg x ?_)
  have h0 : (y 0).val < 1 := (y 0).isLt
  ext a
  match a with
  | ⟨0, _⟩ => show 0 = (y 0).val; omega
  | ⟨1, _⟩ => rfl
  | ⟨2, _⟩ => rfl

/-- The four results of the kernel's body, entry by entry: the gradient, -/
theorem out5 : out0_5 w g r mm v y = grad g r (y 1) (y 2) := by
  unfold_out out0_5
  rw [Value.canon5_eq]
  exact sum_eq g r y

/-- the change of the weight, -/
theorem out6 : out0_6 w g r mm v y = delta (w y) (grad g r (y 1) (y 2)) (mm y) (v y) := by
  rw [← sum_eq g r y, ← ld_same y w, ← ld_same y mm, ← ld_same y v]
  unfold_out out0_6
  rw [Value.canon6_eq]
  rfl

/-- the first moment, -/
theorem out7 : out0_7 w g r mm v y = newM (grad g r (y 1) (y 2)) (mm y) := by
  rw [← sum_eq g r y, ← ld_same y mm]
  unfold_out out0_7
  rw [Value.canon7_eq]
  rfl

/-- and the second. -/
theorem out8 : out0_8 w g r mm v y = newV (grad g r (y 1) (y 2)) (v y) := by
  rw [← sum_eq g r y, ← ld_same y v]
  unfold_out out0_8
  rw [Value.canon8_eq]
  rfl

end

/-- The whole gradient, as the arguments give it. -/
abbrev gAll (c : Dev nD) (i : S1x1024x256.Idx) : EReal := grad (aG m c) (aR m c) (i 1) (i 2)

/-- The four arrays after the run. -/
theorem final5 (c : Dev nD) : (dats m 0 c).arrAt 5 cfg0.N = (fun i => gAll m c i : Vec Ideal S1x1024x256 .f32) := by
  refine (dats m 0 c).arrAt_eq_of_covers 5 _ (by decide +kernel) fun t _ y => ?_
  blk_simp
  rw [after0_5, blk1, blk2, out5]
  have he : (win0_5.blk t).view.emb y = y := by blk_ext [idx t]
  rw [he]

theorem final6 (c : Dev nD) : (dats m 0 c).arrAt 6 cfg0.N = (fun i => delta (aW m c i) (gAll m c i) (aM m c i) (aV m c i) : Vec Ideal S1x1024x256 .f32) := by
  refine (dats m 0 c).arrAt_eq_of_covers 6 _ (by decide +kernel) fun t _ y => ?_
  blk_simp
  rw [after0_6, blk0, blk1, blk2, blk3, blk4, out6]
  have he : (win0_6.blk t).view.emb y = y := by blk_ext [idx t]
  rw [he]

theorem final7 (c : Dev nD) : (dats m 0 c).arrAt 7 cfg0.N = (fun i => newM (gAll m c i) (aM m c i) : Vec Ideal S1x1024x256 .f32) := by
  refine (dats m 0 c).arrAt_eq_of_covers 7 _ (by decide +kernel) fun t _ y => ?_
  blk_simp
  rw [after0_7, blk1, blk2, blk3, out7]
  have he : (win0_7.blk t).view.emb y = y := by blk_ext [idx t]
  rw [he]

theorem final8 (c : Dev nD) : (dats m 0 c).arrAt 8 cfg0.N = (fun i => newV (gAll m c i) (aV m c i) : Vec Ideal S1x1024x256 .f32) := by
  refine (dats m 0 c).arrAt_eq_of_covers 8 _ (by decide +kernel) fun t _ y => ?_
  blk_simp
  rw [after0_8, blk1, blk2, blk4, out8]
  have he : (win0_8.blk t).view.emb y = y := by blk_ext [idx t]
  rw [he]

section

open Cert.AdamRefIdeal.Read

variable (w : Vec Ideal S1x1024x256 .f32) (g : Vec Ideal S1024x256 .f32) (r : Vec Ideal S3x1024x256 .f32)
  (mm v : Vec Ideal S1x1024x256 .f32) (i : S1x1024x256.Idx)

/-- The reference's four results, entry by entry, are the same. -/
theorem ref_grad : val_main_v2 (F := Ideal) g r i = grad g r (i 1) (i 2) := by
  rw [val_main_v2_apply, val_main_v1_apply, val_main_v0_apply]
  refine congrArg₂ (· + ·) (congrArg g ?_) (Eq.trans (congrArg₂ (· + ·) ?_ ?_) (zero_add _))
  · ext a; fin_cases a <;> rfl
  · exact Ideal.ofBits_zero_f32
  · refine Finset.sum_congr rfl fun q _ => congrArg r ?_
    ext a; fin_cases a <;> rfl

theorem ref_m : val_main_v7 (F := Ideal) g r mm i = newM (grad g r (i 1) (i 2)) (mm i) := by
  rw [← ref_grad, val_main_v7_apply, val_main_v4_apply, val_main_v6_apply, val_main_v3_apply, val_main_v5_apply]
  rfl

theorem ref_v : val_main_v13 (F := Ideal) g r v i = newV (grad g r (i 1) (i 2)) (v i) := by
  rw [← ref_grad, val_main_v13_apply, val_main_v9_apply, val_main_v12_apply, val_main_v10_apply, val_main_v8_apply, val_main_v11_apply]
  rfl

theorem ref_delta : val_main_v26 (F := Ideal) w g r mm v i = delta (w i) (grad g r (i 1) (i 2)) (mm i) (v i) := by
  rw [val_main_v26_apply, val_main_v24_apply, val_main_v21_apply, val_main_v15_apply, val_main_v20_apply, val_main_v18_apply,
    val_main_v17_apply, val_main_v23_apply, val_main_v25_apply, val_main_v14_apply, val_main_v16_apply, val_main_v19_apply,
    val_main_v22_apply, ref_m, ref_v]
  rfl

end

/-- Kernel and reference compute the same gradient, change of the weight and moments. -/
theorem algebraic : Cert.algebraic_AdamIdeal_AdamRefIdeal := by
  intro m g m' g' hp hm
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g, ?_⟩
  refine (θ_run Cert.AdamRefIdeal.defs _ _).mono (fun r h c => ?_) (Cert.AdamRefIdeal.Value.run (F := Ideal) m' g')
  obtain ⟨h0, h1, h2, h3, hk⟩ := h c
  obtain ⟨q0, q1, q2, q3, q4⟩ := hm c
  refine ⟨h0.trans (Eq.trans ?_ (final5 m c).symm), h1.trans (Eq.trans ?_ (final6 m c).symm), h2.trans (Eq.trans ?_ (final7 m c).symm),
    h3.trans (Eq.trans ?_ (final8 m c).symm), hk⟩ <;> funext i
  · rw [Cert.AdamRefIdeal.Read.val_main_v2_eq, q1, q2]
    exact ref_grad _ _ i
  · rw [Cert.AdamRefIdeal.Read.val_main_v26_eq, q0, q1, q2, q3, q4]
    exact ref_delta _ _ _ _ _ i
  · rw [Cert.AdamRefIdeal.Read.val_main_v7_eq, q1, q2, q3]
    exact ref_m _ _ _ i
  · rw [Cert.AdamRefIdeal.Read.val_main_v13_eq, q1, q2, q4]
    exact ref_v _ _ _ i

/-- The reference leaves its arguments as they were; it has no semaphore. -/
theorem frame_ref : Cert.quiescent_AdamRefIdeal := fun m g _ =>
  (θ_run Cert.AdamRefIdeal.defs _ _).mono (fun _ h => ⟨fun c => (h c).2.2.2.2, sem_eq_zero_of_no_sems (by decide) _⟩)
    (Cert.AdamRefIdeal.Value.run (F := Ideal) m g)

/-- Every claim on the call. -/
theorem claims : Cert.quiescent_Adam ∧ Cert.quiescent_AdamIdeal ∧ Cert.quiescent_AdamRefIdeal ∧ Cert.preserves_Adam_AdamIdeal
    ∧ Cert.algebraic_AdamIdeal_AdamRefIdeal :=
  ⟨fun m g _ => Cert.Adam.Gen.frame m g, fun m g _ => Cert.AdamIdeal.Gen.frame m g, frame_ref, trivial, algebraic⟩

end Cert.AdamIdeal.Val

end
-- ==== Proof.lean ====
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.Pre_in_finite
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.InProof
public import proofs.«01_k».proof.Proof.UpProof
public import proofs.«01_k».proof.Proof.TailProof
public import proofs.«01_k».proof.Proof.WInProof
public import proofs.«01_k».proof.Proof.WOutProof
public import proofs.«01_k».proof.Proof.WUpProof
public import proofs.«01_k».proof.Proof.WDownProof
public import proofs.«01_k».proof.Proof.FfnProof
public import proofs.«01_k».proof.Proof.AdamProof
public import proofs.«01_k».proof.Proof.Gen.UpBwd
public import proofs.«01_k».proof.Proof.Gen.UpBwd.Frame
public import proofs.«01_k».proof.Proof.Gen.Pre_up_finite
public import proofs.«01_k».proof.Proof.Gen.UpBwdIdeal
public import proofs.«01_k».proof.Proof.Gen.UpBwdIdeal.Frame
public import proofs.«01_k».proof.Proof.Gen.UpBwdIdeal.Value
public import proofs.«01_k».proof.Proof.Gen.UpBwdRefIdeal
public import proofs.«01_k».proof.Proof.Gen.UpBwdRefIdeal.Run
public import proofs.«01_k».proof.Proof.Gen.UpBwdRefIdeal.Read
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.Gen.Pre_tail_finite
public import proofs.«01_k».proof.Proof.Gen.WDown
public import proofs.«01_k».proof.Proof.Gen.WDownIdeal
public import proofs.«01_k».proof.Proof.Gen.WDownIdeal.Frame
public import proofs.«01_k».proof.Proof.Gen.WDownRefIdeal
public import proofs.«01_k».proof.Proof.Gen.WDownRefIdeal.Run
public import proofs.«01_k».proof.Proof.Gen.WDownRefIdeal.Read
public import proofs.«01_k».proof.Proof.Gen.WUp
public import proofs.«01_k».proof.Proof.Gen.WUpIdeal
public import proofs.«01_k».proof.Proof.Gen.WUpIdeal.Frame
public import proofs.«01_k».proof.Proof.Gen.WUpRefIdeal
public import proofs.«01_k».proof.Proof.Gen.WUpRefIdeal.Run
public import proofs.«01_k».proof.Proof.Gen.WUpRefIdeal.Read
public import proofs.«01_k».proof.Proof.Gen.WOut
public import proofs.«01_k».proof.Proof.Gen.WOutIdeal
public import proofs.«01_k».proof.Proof.Gen.WOutIdeal.Frame
public import proofs.«01_k».proof.Proof.Gen.WOutRefIdeal
public import proofs.«01_k».proof.Proof.Gen.WOutRefIdeal.Run
public import proofs.«01_k».proof.Proof.Gen.WOutRefIdeal.Read
public import proofs.«01_k».proof.Proof.Gen.WIn
public import proofs.«01_k».proof.Proof.Gen.WInIdeal
public import proofs.«01_k».proof.Proof.Gen.WInIdeal.Frame
public import proofs.«01_k».proof.Proof.Gen.WInRefIdeal
public import proofs.«01_k».proof.Proof.Gen.WInRefIdeal.Run
public import proofs.«01_k».proof.Proof.Gen.WInRefIdeal.Read
public import proofs.«01_k».proof.Proof.Gen.FfnFwd
public import proofs.«01_k».proof.Proof.Gen.FfnFwdIdeal
public import proofs.«01_k».proof.Proof.Gen.FfnFwdIdeal.Skeleton
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.Pre_ffn_finite
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import Idealize.ShloMosaic.Adequacy
public import Idealize.ShloMosaic.Init

@[expose] public section

noncomputable section

namespace Cert.Proof

open Idealize.ShloMosaic Idealize.SL.Sem Cert.InBwd

theorem claim : Cert.Claim := ⟨Cert.InBwd.Gen.facts, Cert.InBwdIdeal.Gen.facts, Cert.InBwdRefIdeal.Gen.facts, Cert.UpBwd.Gen.facts, Cert.UpBwdIdeal.Gen.facts, Cert.UpBwdRefIdeal.Gen.facts, Cert.Tail.Gen.facts, Cert.TailIdeal.Gen.facts, Cert.TailRefIdeal.Gen.facts, Cert.WDown.Gen.facts, Cert.WDownIdeal.Gen.facts, Cert.WDownRefIdeal.Gen.facts, Cert.WUp.Gen.facts, Cert.WUpIdeal.Gen.facts, Cert.WUpRefIdeal.Gen.facts, Cert.WOut.Gen.facts, Cert.WOutIdeal.Gen.facts, Cert.WOutRefIdeal.Gen.facts, Cert.WIn.Gen.facts, Cert.WInIdeal.Gen.facts, Cert.WInRefIdeal.Gen.facts, Cert.FfnFwd.Gen.facts, Cert.FfnFwdIdeal.Gen.facts, Cert.FfnFwdRefIdeal.Gen.facts, Cert.Adam.Gen.facts, Cert.AdamIdeal.Gen.facts, Cert.AdamRefIdeal.Gen.facts, Cert.Pre_in_finite.Gen.facts, Cert.Pre_up_finite.Gen.facts, Cert.Pre_tail_finite.Gen.facts, Cert.Pre_ffn_finite.Gen.facts,
  Cert.InBwdIdeal.Val.claims.1,
  Cert.InBwdIdeal.Val.claims.2.1,
  Cert.InBwdIdeal.Val.claims.2.2.1,
  Cert.InBwdIdeal.Val.claims.2.2.2.1,
  Cert.InBwdIdeal.Val.claims.2.2.2.2.1,
  Cert.UpBwdIdeal.Val.claims.1,
  Cert.UpBwdIdeal.Val.claims.2.1,
  Cert.UpBwdIdeal.Val.claims.2.2.1,
  Cert.UpBwdIdeal.Val.claims.2.2.2.1,
  Cert.UpBwdIdeal.Val.claims.2.2.2.2.1,
  Cert.TailIdeal.Val.claims.1,
  Cert.TailIdeal.Val.claims.2.1,
  Cert.TailIdeal.Val.claims.2.2.1,
  Cert.TailIdeal.Val.claims.2.2.2.1,
  Cert.TailIdeal.Val.claims.2.2.2.2.1,
  Cert.WDownIdeal.Val.claims.1,
  Cert.WDownIdeal.Val.claims.2.1,
  Cert.WDownIdeal.Val.claims.2.2.1,
  Cert.WUpIdeal.Val.claims.1,
  Cert.WUpIdeal.Val.claims.2.1,
  Cert.WUpIdeal.Val.claims.2.2.1,
  Cert.WOutIdeal.Val.claims.1,
  Cert.WOutIdeal.Val.claims.2.1,
  Cert.WOutIdeal.Val.claims.2.2.1,
  Cert.WInIdeal.Val.claims.1,
  Cert.WInIdeal.Val.claims.2.1,
  Cert.WInIdeal.Val.claims.2.2.1,
  Cert.FfnFwdIdeal.Val.claims.1,
  Cert.FfnFwdIdeal.Val.claims.2.1,
  Cert.FfnFwdIdeal.Val.claims.2.2.1,
  Cert.FfnFwdIdeal.Val.claims.2.2.2.1,
  Cert.FfnFwdIdeal.Val.claims.2.2.2.2.1,
  Cert.AdamIdeal.Val.claims.1,
  Cert.AdamIdeal.Val.claims.2.1,
  Cert.AdamIdeal.Val.claims.2.2.1,
  Cert.InBwdIdeal.Val.claims.2.2.2.2.2.1,
  Cert.InBwdIdeal.Val.claims.2.2.2.2.2.2,
  Cert.UpBwdIdeal.Val.claims.2.2.2.2.2.1,
  Cert.UpBwdIdeal.Val.claims.2.2.2.2.2.2,
  Cert.TailIdeal.Val.claims.2.2.2.2.2.1,
  Cert.TailIdeal.Val.claims.2.2.2.2.2.2,
  Cert.WDownIdeal.Val.claims.2.2.2.1,
  Cert.WDownIdeal.Val.claims.2.2.2.2,
  Cert.WUpIdeal.Val.claims.2.2.2.1,
  Cert.WUpIdeal.Val.claims.2.2.2.2,
  Cert.WOutIdeal.Val.claims.2.2.2.1,
  Cert.WOutIdeal.Val.claims.2.2.2.2,
  Cert.WInIdeal.Val.claims.2.2.2.1,
  Cert.WInIdeal.Val.claims.2.2.2.2,
  Cert.FfnFwdIdeal.Val.claims.2.2.2.2.2.1,
  Cert.FfnFwdIdeal.Val.claims.2.2.2.2.2.2,
  Cert.AdamIdeal.Val.claims.2.2.2.1,
  Cert.AdamIdeal.Val.claims.2.2.2.2⟩

end Cert.Proof

end
